-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v74) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v21) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v53) = v0 c
          ∧ r.2.mem ((c.tc : Thread Cert.MergeRefIdeal.nD Cert.MergeRefIdeal.τ).loc Cert.MergeRefIdeal.main_v55) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v37) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Proj_ProjIdeal : Prop :=
  True

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hMerge : Cert.Merge.Facts) (hMergeIdeal : Cert.MergeIdeal.Facts) (hMergeRefIdeal : Cert.MergeRefIdeal.Facts) (hUp : Cert.Up.Facts) (hUpIdeal : Cert.UpIdeal.Facts) (hUpRefIdeal : Cert.UpRefIdeal.Facts) (hProj : Cert.Proj.Facts) (hProjIdeal : Cert.ProjIdeal.Facts) (hProjRefIdeal : Cert.ProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_Up (hUp := hUp)
    ∧ quiescent_UpIdeal (hUpIdeal := hUpIdeal)
    ∧ quiescent_UpRefIdeal (hUpRefIdeal := hUpRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownRefIdeal (hDownIdeal := hDownIdeal) (hDownRefIdeal := hDownRefIdeal)
    ∧ preserves_Merge_MergeIdeal
    ∧ algebraic_MergeIdeal_MergeRefIdeal (hMergeIdeal := hMergeIdeal) (hMergeRefIdeal := hMergeRefIdeal)
    ∧ preserves_Up_UpIdeal
    ∧ algebraic_UpIdeal_UpRefIdeal (hUpIdeal := hUpIdeal) (hUpRefIdeal := hUpRefIdeal)
    ∧ preserves_Proj_ProjIdeal
-- ==== Pre_finite.lean ====
abbrev S8x2048x10240 : Shape := ⟨3, ![8, 2048, 10240]⟩
abbrev S8x256x4096 : Shape := ⟨3, ![8, 256, 4096]⟩
abbrev S4x64 : Shape := ⟨2, ![4, 64]⟩
abbrev S128 : Shape := ⟨1, ![128]⟩
abbrev S1024x2048 : Shape := ⟨2, ![1024, 2048]⟩
abbrev S2048x2048 : Shape := ⟨2, ![2048, 2048]⟩
abbrev S2048x11264 : Shape := ⟨2, ![2048, 11264]⟩
abbrev S5632x2048 : Shape := ⟨2, ![5632, 2048]⟩
abbrev S8x2048x3072 : Shape := ⟨3, ![8, 2048, 3072]⟩
abbrev S_ : Shape := ⟨0, ![]⟩
abbrev S8x256x2048 : Shape := ⟨3, ![8, 256, 2048]⟩

class Facts : Prop where
  slices_S8x2048x10240_S8x2048x3072_0_0_3072 : S8x2048x10240.Slices ![0, 0, 3072] S8x2048x3072
  bitsLt_bf16_f32 : FTy.bits .bf16 < FTy.bits .f32
  bcast_S_S8x2048x3072 : S_.BroadcastsInDim S8x2048x3072 (![] : Fin 0 → Fin S8x2048x3072.rank)
  reducesTo_S8x2048x3072_S_d0_1_2 : S8x2048x3072.ReducesTo [0, 1, 2] S_
  h_S_ : 0 < S_.numel
  slices_S8x256x4096_S8x256x2048_0_0_2048 : S8x256x4096.Slices ![0, 0, 2048] S8x256x2048
  bcast_S_S8x256x2048 : S_.BroadcastsInDim S8x256x2048 (![] : Fin 0 → Fin S8x256x2048.rank)
  reducesTo_S8x256x2048_S_d0_1_2 : S8x256x2048.ReducesTo [0, 1, 2] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8x2048x10240 .bf16) (main_arg1 : FVec F S8x256x4096 .bf16) (main_arg2 : FVec F S4x64 .f32) (main_arg3 : FVec F S128 .f32) (main_arg4 : FVec F S1024x2048 .f32) (main_arg5 : FVec F S1024x2048 .f32) (main_arg6 : FVec F S2048x2048 .f32) (main_arg7 : FVec F S2048x11264 .f32) (main_arg8 : FVec F S5632x2048 .f32) : IVec S_ 1 :=
  let main_v0 : FVec F S8x2048x3072 .bf16 := (extractStridedSlice S8x2048x3072 ![0, 0, 3072] · slices_S8x2048x10240_S8x2048x3072_0_0_3072) main_arg0
  let main_v1 : FVec F S8x2048x3072 .f32 := (extf .f32 · bitsLt_bf16_f32) main_v0
  let main_v2 : FVec F S8x2048x3072 .f32 := Host.absf main_v1
  let main_cst : FVec F S_ .f32 := constant S_ .f32 0x7F800000#32
  let main_v3 : FVec F S8x2048x3072 .f32 := broadcastInDim S8x2048x3072 ![] bcast_S_S8x2048x3072 main_cst
  let main_v4 : IVec S8x2048x3072 1 := cmpf .olt main_v2 main_v3
  let main_c : IVec S_ 1 := constantI S_ 1 1#1
  let main_v5 : IVec S_ 1 := (fun x v => Host.reduce IntOp.andi x v reducesTo_S8x2048x3072_S_d0_1_2 h_S_) main_v4 main_c
  let main_v6 : FVec F S8x256x2048 .bf16 := (extractStridedSlice S8x256x2048 ![0, 0, 2048] · slices_S8x256x4096_S8x256x2048_0_0_2048) main_arg1
  let main_v7 : FVec F S8x256x2048 .f32 := (extf .f32 · bitsLt_bf16_f32) main_v6
  let main_v8 : FVec F S8x256x2048 .f32 := Host.absf main_v7
  let main_cst_0 : FVec F S_ .f32 := constant S_ .f32 0x7F800000#32
  let main_v9 : FVec F S8x256x2048 .f32 := broadcastInDim S8x256x2048 ![] bcast_S_S8x256x2048 main_cst_0
  let main_v10 : IVec S8x256x2048 1 := cmpf .olt main_v8 main_v9
  let main_c_1 : IVec S_ 1 := constantI S_ 1 1#1
  let main_v11 : IVec S_ 1 := (fun x v => Host.reduce IntOp.andi x v reducesTo_S8x256x2048_S_d0_1_2 h_S_) main_v10 main_c_1
  let main_v12 : IVec S_ 1 := andi main_v5 main_v11
  let main_v13 : FVec F S4x64 .f32 := Host.absf main_arg2
  let main_cst_2 : FVec F S_ .f32 := constant S_ .f32 0x7F800000#32
  let main_v14 : FVec F S4x64 .f32 := broadcastInDim S4x64 ![] bcast_S_S4x64 main_cst_2
  let main_v15 : IVec S4x64 1 := cmpf .olt main_v13 main_v14
  let main_c_3 : IVec S_ 1 := constantI S_ 1 1#1
  let main_v16 : IVec S_ 1 := (fun x v => Host.reduce IntOp.andi x v reducesTo_S4x64_S_d0_1 h_S_) main_v15 main_c_3
  let main_v17 : IVec S_ 1 := andi main_v12 main_v16
  main_v17
-- ==== Kernel.lean ====
abbrev S8x2048x10240 : Shape := ⟨3, ![8, 2048, 10240]⟩
abbrev S8x256x4096 : Shape := ⟨3, ![8, 256, 4096]⟩
abbrev S4x64 : Shape := ⟨2, ![4, 64]⟩
abbrev S128 : Shape := ⟨1, ![128]⟩
abbrev S1024x2048 : Shape := ⟨2, ![1024, 2048]⟩
abbrev S2048x2048 : Shape := ⟨2, ![2048, 2048]⟩
abbrev S2048x11264 : Shape := ⟨2, ![2048, 11264]⟩
abbrev S5632x2048 : Shape := ⟨2, ![5632, 2048]⟩
abbrev S_ : Shape := ⟨0, ![]⟩
abbrev S1x128 : Shape := ⟨2, ![1, 128]⟩
abbrev S8x2048x1024 : Shape := ⟨3, ![8, 2048, 1024]⟩
abbrev S1x2048x128 : Shape := ⟨3, ![1, 2048, 128]⟩
abbrev S1x256x128 : Shape := ⟨3, ![1, 256, 128]⟩
abbrev S16x2048 : Shape := ⟨2, ![16, 2048]⟩
abbrev S32x2048 : Shape := ⟨2, ![32, 2048]⟩
abbrev S32x11264 : Shape := ⟨2, ![32, 11264]⟩
abbrev S128x2048 : Shape := ⟨2, ![128, 2048]⟩
abbrev S2304x128 : Shape := ⟨2, ![2304, 128]⟩
abbrev S2304x256 : Shape := ⟨2, ![2304, 256]⟩
abbrev S1x64 : Shape := ⟨2, ![1, 64]⟩
abbrev S1 : Shape := ⟨1, ![1]⟩
abbrev S1x1 : Shape := ⟨2, ![1, 1]⟩
abbrev S2048x128 : Shape := ⟨2, ![2048, 128]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩
abbrev S256x256 : Shape := ⟨2, ![256, 256]⟩

abbrev nBuf : Space → Nat
  | .hbm => 33
  | .vmem => 36
  | .smem => 0
  | _ => 0

abbrev bufTy : (tb : Table) → Fin (tcTables nBuf tb) → BufTy
  | .hbm, ⟨0, _⟩ => ⟨S8x2048x10240, .bf16⟩
  | .hbm, ⟨1, _⟩ => ⟨S8x256x4096, .bf16⟩
  | .hbm, ⟨2, _⟩ => ⟨S4x64, .f32⟩
  | .hbm, ⟨3, _⟩ => ⟨S128, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048x11264, .f32⟩
  | .hbm, ⟨8, _⟩ => ⟨S5632x2048, .f32⟩
  | .hbm, ⟨9, _⟩ => ⟨S8x2048x10240, .i32⟩
  | .hbm, ⟨10, _⟩ => ⟨S_, .i32⟩
  | .hbm, ⟨11, _⟩ => ⟨S8x2048x10240, .i32⟩
  | .hbm, ⟨12, _⟩ => ⟨S8x2048x10240, .i1⟩
  | .hbm, ⟨13, _⟩ => ⟨S_, .i32⟩
  | .hbm, ⟨14, _⟩ => ⟨S8x2048x10240, .i32⟩
  | .hbm, ⟨15, _⟩ => ⟨S8x2048x10240, .i1⟩
  | .hbm, ⟨16, _⟩ => ⟨S8x2048x10240, .i1⟩
  | .hbm, ⟨17, _⟩ => ⟨S8x2048x10240, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x2048x10240, .f32⟩
  | .hbm, ⟨23, _⟩ => ⟨S8x2048x10240, .f32⟩
  | .hbm, ⟨24, _⟩ => ⟨S8x2048x10240, .f32⟩
  | .hbm, ⟨25, _⟩ => ⟨S8x2048x10240, .bf16⟩
  | .hbm, ⟨26, _⟩ => ⟨S1x128, .f32⟩
  | .hbm, ⟨27, _⟩ => ⟨S8x2048x1024, .bf16⟩
  | .hbm, ⟨28, _⟩ => ⟨S1024x2048, .bf16⟩
  | .hbm, ⟨29, _⟩ => ⟨S1024x2048, .bf16⟩
  | .hbm, ⟨30, _⟩ => ⟨S2048x2048, .bf16⟩
  | .hbm, ⟨31, _⟩ => ⟨S2048x11264, .bf16⟩
  | .hbm, ⟨32, _⟩ => ⟨S5632x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S4x64, .f32⟩
  | .local _ .vmem, ⟨11, _⟩ => ⟨S1x128, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | .local _ .vmem, ⟨16, _⟩ => ⟨S32x2048, .f32⟩
  | .local _ .vmem, ⟨17, _⟩ => ⟨S32x2048, .f32⟩
  | .local _ .vmem, ⟨18, _⟩ => ⟨S32x11264, .f32⟩
  | .local _ .vmem, ⟨19, _⟩ => ⟨S32x11264, .f32⟩
  | .local _ .vmem, ⟨20, _⟩ => ⟨S128x2048, .f32⟩
  | .local _ .vmem, ⟨21, _⟩ => ⟨S128x2048, .f32⟩
  | .local _ .vmem, ⟨22, _⟩ => ⟨S1x2048x128, .bf16⟩
  | .local _ .vmem, ⟨23, _⟩ => ⟨S1x2048x128, .bf16⟩
  | .local _ .vmem, ⟨24, _⟩ => ⟨S16x2048, .bf16⟩
  | .local _ .vmem, ⟨25, _⟩ => ⟨S16x2048, .bf16⟩
  | .local _ .vmem, ⟨26, _⟩ => ⟨S16x2048, .bf16⟩
  | .local _ .vmem, ⟨27, _⟩ => ⟨S16x2048, .bf16⟩
  | .local _ .vmem, ⟨28, _⟩ => ⟨S32x2048, .bf16⟩
  | .local _ .vmem, ⟨29, _⟩ => ⟨S32x2048, .bf16⟩
  | .local _ .vmem, ⟨30, _⟩ => ⟨S32x11264, .bf16⟩
  | .local _ .vmem, ⟨31, _⟩ => ⟨S32x11264, .bf16⟩
  | .local _ .vmem, ⟨32, _⟩ => ⟨S128x2048, .bf16⟩
  | .local _ .vmem, ⟨33, _⟩ => ⟨S128x2048, .bf16⟩
  | .local _ .vmem, ⟨34, _⟩ => ⟨S2304x128, .bf16⟩
  | .local _ .vmem, ⟨35, _⟩ => ⟨S2304x256, .bf16⟩
  | _, _ => ⟨S8x2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev main_v14_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c43_i32 : BitVec 32 := 43#32
  let v4 : BitVec 32 := Scalar.minsi v3 c43_i32
  let c0_i32 : BitVec 32 := 0#32
  let c0_i32_0 : BitVec 32 := 0#32
  ![v4.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c43_i32 : BitVec 32 := 43#32
  let v4 : BitVec 32 := Scalar.minsi v3 c43_i32
  let c0_i32 : BitVec 32 := 0#32
  let c0_i32_0 : BitVec 32 := 0#32
  ![v4.toNat, c0_i32.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S32x11264 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S32x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S32x11264 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]
-- ==== ReferenceIdeal.lean ====
abbrev S8x2048x10240 : Shape := ⟨3, ![8, 2048, 10240]⟩
abbrev S8x256x4096 : Shape := ⟨3, ![8, 256, 4096]⟩
abbrev S4x64 : Shape := ⟨2, ![4, 64]⟩
abbrev S128 : Shape := ⟨1, ![128]⟩
abbrev S1024x2048 : Shape := ⟨2, ![1024, 2048]⟩
abbrev S2048x2048 : Shape := ⟨2, ![2048, 2048]⟩
abbrev S2048x11264 : Shape := ⟨2, ![2048, 11264]⟩
abbrev S5632x2048 : Shape := ⟨2, ![5632, 2048]⟩
abbrev S8x2048x1024 : Shape := ⟨3, ![8, 2048, 1024]⟩
abbrev S8x2048x8x2x64 : Shape := ⟨5, ![8, 2048, 8, 2, 64]⟩
abbrev S8x2048x8x128 : Shape := ⟨4, ![8, 2048, 8, 128]⟩
abbrev S8x256x1024 : Shape := ⟨3, ![8, 256, 1024]⟩
abbrev S8x256x8x2x64 : Shape := ⟨5, ![8, 256, 8, 2, 64]⟩
abbrev S8x256x8x128 : Shape := ⟨4, ![8, 256, 8, 128]⟩
abbrev S1x64 : Shape := ⟨2, ![1, 64]⟩
abbrev S64 : Shape := ⟨1, ![64]⟩
abbrev S_ : Shape := ⟨0, ![]⟩
abbrev S8x2304x8x2x64 : Shape := ⟨5, ![8, 2304, 8, 2, 64]⟩
abbrev S8x2304x8x128 : Shape := ⟨4, ![8, 2304, 8, 128]⟩
abbrev S8x8x2x2048x2304 : Shape := ⟨5, ![8, 8, 2, 2048, 2304]⟩
abbrev S8x8x2x2048 : Shape := ⟨4, ![8, 8, 2, 2048]⟩
abbrev S8x8x2x2048x1 : Shape := ⟨5, ![8, 8, 2, 2048, 1]⟩
abbrev S8x8x1x2048x2304 : Shape := ⟨5, ![8, 8, 1, 2048, 2304]⟩
abbrev S8x8x2048x2304 : Shape := ⟨4, ![8, 8, 2048, 2304]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x10240, .bf16⟩
  | .hbm, ⟨1, _⟩ => ⟨S8x256x4096, .bf16⟩
  | .hbm, ⟨2, _⟩ => ⟨S4x64, .f32⟩
  | .hbm, ⟨3, _⟩ => ⟨S128, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048x11264, .f32⟩
  | .hbm, ⟨8, _⟩ => ⟨S5632x2048, .f32⟩
  | .hbm, ⟨9, _⟩ => ⟨S8x2048x10240, .f32⟩
  | .hbm, ⟨10, _⟩ => ⟨S8x256x4096, .f32⟩
  | .hbm, ⟨11, _⟩ => ⟨S8x2048x1024, .f32⟩
  | .hbm, ⟨12, _⟩ => ⟨S8x2048x8x2x64, .f32⟩
  | .hbm, ⟨13, _⟩ => ⟨S8x2048x1024, .f32⟩
  | .hbm, ⟨14, _⟩ => ⟨S8x2048x8x2x64, .f32⟩
  | .hbm, ⟨15, _⟩ => ⟨S8x2048x1024, .f32⟩
  | .hbm, ⟨16, _⟩ => ⟨S8x2048x8x128, .f32⟩
  | .hbm, ⟨17, _⟩ => ⟨S8x256x1024, .f32⟩
  | .hbm, ⟨18, _⟩ => ⟨S8x256x8x2x64, .f32⟩
  | .hbm, ⟨19, _⟩ => ⟨S8x256x1024, .f32⟩
  | .hbm, ⟨20, _⟩ => ⟨S8x256x8x128, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x2304x8x2x64, .f32⟩
  | .hbm, ⟨41, _⟩ => ⟨S8x2304x8x128, .f32⟩
  | .hbm, ⟨42, _⟩ => ⟨S8x8x2x2048x2304, .f32⟩
  | .hbm, ⟨43, _⟩ => ⟨S_, .f32⟩
  | .hbm, ⟨44, _⟩ => ⟨S8x8x2x2048x2304, .f32⟩
  | .hbm, ⟨45, _⟩ => ⟨S8x8x2x2048x2304, .f32⟩
  | .hbm, ⟨46, _⟩ => ⟨S_, .f32⟩
  | .hbm, ⟨47, _⟩ => ⟨S8x8x2x2048, .f32⟩
  | .hbm, ⟨48, _⟩ => ⟨S_, .f32⟩
  | .hbm, ⟨49, _⟩ => ⟨S8x8x2x2048, .f32⟩
  | .hbm, ⟨50, _⟩ => ⟨S8x8x2x2048, .f32⟩
  | .hbm, ⟨51, _⟩ => ⟨S8x8x2x2048x1, .f32⟩
  | .hbm, ⟨52, _⟩ => ⟨S8x8x2x2048x2304, .f32⟩
  | .hbm, ⟨53, _⟩ => ⟨S8x8x2x2048x2304, .f32⟩
  | .hbm, ⟨54, _⟩ => ⟨S8x8x2x2048x2304, .f32⟩
  | .hbm, ⟨55, _⟩ => ⟨S_, .f32⟩
  | .hbm, ⟨56, _⟩ => ⟨S8x8x2x2048, .f32⟩
  | .hbm, ⟨57, _⟩ => ⟨S8x8x2x2048x1, .f32⟩
  | .hbm, ⟨58, _⟩ => ⟨S8x8x2x2048x2304, .f32⟩
  | .hbm, ⟨59, _⟩ => ⟨S8x8x2x2048x2304, .f32⟩
  | .hbm, ⟨60, _⟩ => ⟨S8x8x1x2048x2304, .f32⟩
  | .hbm, ⟨61, _⟩ => ⟨S8x8x2048x2304, .f32⟩
  | .hbm, ⟨62, _⟩ => ⟨S8x8x1x2048x2304, .f32⟩
  | .hbm, ⟨63, _⟩ => ⟨S8x8x2048x2304, .f32⟩
  | .hbm, ⟨64, _⟩ => ⟨S8x8x2048x2304, .f32⟩
  | .hbm, ⟨65, _⟩ => ⟨S8x8x2048x2304, .f32⟩
  | .hbm, ⟨66, _⟩ => ⟨S8x8x2048x2304, .f32⟩
  | .hbm, ⟨67, _⟩ => ⟨S8x8x128x2048, .f32⟩
  | .hbm, ⟨68, _⟩ => ⟨S8x2048x8x128, .f32⟩
  | .hbm, ⟨69, _⟩ => ⟨S8x2048x8x128, .f32⟩
  | .hbm, ⟨70, _⟩ => ⟨S_, .f32⟩
  | .hbm, ⟨71, _⟩ => ⟨S8x2048x8, .f32⟩
  | .hbm, ⟨72, _⟩ => ⟨S8x2048x8x1, .f32⟩
  | .hbm, ⟨73, _⟩ => ⟨S_, .f32⟩
  | .hbm, ⟨74, _⟩ => ⟨S8x2048x8x1, .f32⟩
  | .hbm, ⟨75, _⟩ => ⟨S8x2048x8x1, .f32⟩
  | .hbm, ⟨76, _⟩ => ⟨S_, .f32⟩
  | .hbm, ⟨77, _⟩ => ⟨S8x2048x8x1, .f32⟩
  | .hbm, ⟨78, _⟩ => ⟨S8x2048x8x1, .f32⟩
  | .hbm, ⟨79, _⟩ => ⟨S8x2048x8x1, .f32⟩
  | .hbm, ⟨80, _⟩ => ⟨S8x2048x8x128, .f32⟩
  | .hbm, ⟨81, _⟩ => ⟨S8x2048x8x128, .f32⟩
  | .hbm, ⟨82, _⟩ => ⟨S1x1x1x128, .f32⟩
  | .hbm, ⟨83, _⟩ => ⟨S8x2048x8x128, .f32⟩
  | .hbm, ⟨84, _⟩ => ⟨S8x2048x8x128, .f32⟩
  | .hbm, ⟨85, _⟩ => ⟨S_, .f32⟩
  | .hbm, ⟨86, _⟩ => ⟨S8x2048x8x128, .f32⟩
  | .hbm, ⟨87, _⟩ => ⟨S8x2048x8x128, .f32⟩
  | .hbm, ⟨88, _⟩ => ⟨S8x2048x1024, .f32⟩
  | .hbm, ⟨89, _⟩ => ⟨S8x2048x1024, .bf16⟩
  | .hbm, ⟨90, _⟩ => ⟨S1024x2048, .bf16⟩
  | .hbm, ⟨91, _⟩ => ⟨S1024x2048, .bf16⟩
  | .hbm, ⟨92, _⟩ => ⟨S2048x2048, .bf16⟩
  | .hbm, ⟨93, _⟩ => ⟨S2048x11264, .bf16⟩
  | .hbm, ⟨94, _⟩ => ⟨S5632x2048, .bf16⟩
  | _, _ => ⟨S8x2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Down.lean ====
abbrev S16384x5632 : Shape := ⟨2, ![16384, 5632]⟩
abbrev S5632x2048 : Shape := ⟨2, ![5632, 2048]⟩
abbrev S16384x2048 : Shape := ⟨2, ![16384, 2048]⟩
abbrev S8x1x2048 : Shape := ⟨3, ![8, 1, 2048]⟩
abbrev S2048 : Shape := ⟨1, ![2048]⟩
abbrev S1x2048 : Shape := ⟨2, ![1, 2048]⟩
abbrev S512x5632 : Shape := ⟨2, ![512, 5632]⟩
abbrev S512x2048 : Shape := ⟨2, ![512, 2048]⟩
abbrev S1x1x2048 : Shape := ⟨3, ![1, 1, 2048]⟩
abbrev S256x2048 : Shape := ⟨2, ![256, 2048]⟩
abbrev S256x5632 : Shape := ⟨2, ![256, 5632]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S8x1x2048, .f32⟩
  | .hbm, ⟨4, _⟩ => ⟨S2048, .f32⟩
  | .hbm, ⟨5, _⟩ => ⟨S1x2048, .f32⟩
  | .hbm, ⟨6, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S16384x5632 : Shape := ⟨2, ![16384, 5632]⟩
abbrev S5632x2048 : Shape := ⟨2, ![5632, 2048]⟩
abbrev S16384x2048 : Shape := ⟨2, ![16384, 2048]⟩
abbrev S8x1x2048 : Shape := ⟨3, ![8, 1, 2048]⟩
abbrev S2048 : Shape := ⟨1, ![2048]⟩
abbrev S8x2048x5632 : Shape := ⟨3, ![8, 2048, 5632]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S8x1x2048, .f32⟩
  | .hbm, ⟨4, _⟩ => ⟨S2048, .f32⟩
  | .hbm, ⟨5, _⟩ => ⟨S8x2048x5632, .bf16⟩
  | .hbm, ⟨6, _⟩ => ⟨S8x2048x5632, .f32⟩
  | .hbm, ⟨7, _⟩ => ⟨S8x2048x2048, .f32⟩
  | .hbm, ⟨8, _⟩ => ⟨S5632x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S1x1x2048, .f32⟩
  | .hbm, ⟨27, _⟩ => ⟨S8x2048x2048, .f32⟩
  | .hbm, ⟨28, _⟩ => ⟨S8x2048x2048, .f32⟩
  | .hbm, ⟨29, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Merge.lean ====
abbrev S16384x1024 : Shape := ⟨2, ![16384, 1024]⟩
abbrev S16384x10240 : Shape := ⟨2, ![16384, 10240]⟩
abbrev S16384x2048 : Shape := ⟨2, ![16384, 2048]⟩
abbrev S8x1x2048 : Shape := ⟨3, ![8, 1, 2048]⟩
abbrev S2048 : Shape := ⟨1, ![2048]⟩
abbrev S1024x2048 : Shape := ⟨2, ![1024, 2048]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S1x1x2048 : Shape := ⟨3, ![1, 1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x10240, .bf16⟩
  | .hbm, ⟨3, _⟩ => ⟨S16384x2048, .f32⟩
  | .hbm, ⟨4, _⟩ => ⟨S8x1x2048, .f32⟩
  | .hbm, ⟨5, _⟩ => ⟨S8x1x2048, .f32⟩
  | .hbm, ⟨6, _⟩ => ⟨S8x1x2048, .f32⟩
  | .hbm, ⟨7, _⟩ => ⟨S2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x2048, .f32⟩
  | .local _ .vmem, ⟨17, _⟩ => ⟨S1024x2048, .bf16⟩
  | .local _ .vmem, ⟨18, _⟩ => ⟨S1024x2048, .bf16⟩
  | .local _ .vmem, ⟨19, _⟩ => ⟨S2048x2048, .bf16⟩
  | .local _ .vmem, ⟨20, _⟩ => ⟨S512x2048, .f32⟩
  | .local _ .vmem, ⟨21, _⟩ => ⟨S512x2048, .f32⟩
  | .local _ .vmem, ⟨22, _⟩ => ⟨S512x2048, .bf16⟩
  | .local _ .vmem, ⟨23, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S16384x1024 : Shape := ⟨2, ![16384, 1024]⟩
abbrev S16384x10240 : Shape := ⟨2, ![16384, 10240]⟩
abbrev S16384x2048 : Shape := ⟨2, ![16384, 2048]⟩
abbrev S8x1x2048 : Shape := ⟨3, ![8, 1, 2048]⟩
abbrev S2048 : Shape := ⟨1, ![2048]⟩
abbrev S1024x2048 : Shape := ⟨2, ![1024, 2048]⟩
abbrev S2048x2048 : Shape := ⟨2, ![2048, 2048]⟩
abbrev S8x2048x10240 : Shape := ⟨3, ![8, 2048, 10240]⟩
abbrev S8x2048x4096 : Shape := ⟨3, ![8, 2048, 4096]⟩
abbrev S8x2048x2048 : Shape := ⟨3, ![8, 2048, 2048]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x10240, .bf16⟩
  | .hbm, ⟨3, _⟩ => ⟨S16384x2048, .f32⟩
  | .hbm, ⟨4, _⟩ => ⟨S8x1x2048, .f32⟩
  | .hbm, ⟨5, _⟩ => ⟨S8x1x2048, .f32⟩
  | .hbm, ⟨6, _⟩ => ⟨S8x1x2048, .f32⟩
  | .hbm, ⟨7, _⟩ => ⟨S2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S8x2048x10240, .bf16⟩
  | .hbm, ⟨12, _⟩ => ⟨S8x2048x4096, .bf16⟩
  | .hbm, ⟨13, _⟩ => ⟨S8x2048x4096, .f32⟩
  | .hbm, ⟨14, _⟩ => ⟨S8x2048x2048, .f32⟩
  | .hbm, ⟨15, _⟩ => ⟨S8x2048x2048, .f32⟩
  | .hbm, ⟨16, _⟩ => ⟨S8x2048x1024, .bf16⟩
  | .hbm, ⟨17, _⟩ => ⟨S8x2048x1024, .f32⟩
  | .hbm, ⟨18, _⟩ => ⟨S8x2048x1024, .bf16⟩
  | .hbm, ⟨19, _⟩ => ⟨S8x2048x1024, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S1024x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S1024x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S8x2048x1, .f32⟩
  | .hbm, ⟨60, _⟩ => ⟨S8x2048x2048, .f32⟩
  | .hbm, ⟨61, _⟩ => ⟨S8x2048x2048, .f32⟩
  | .hbm, ⟨62, _⟩ => ⟨S1x1x2048, .f32⟩
  | .hbm, ⟨63, _⟩ => ⟨S8x2048x2048, .f32⟩
  | .hbm, ⟨64, _⟩ => ⟨S8x2048x2048, .f32⟩
  | .hbm, ⟨65, _⟩ => ⟨S_, .f32⟩
  | .hbm, ⟨66, _⟩ => ⟨S8x1x2048, .f32⟩
  | .hbm, ⟨67, _⟩ => ⟨S8x1x2048, .f32⟩
  | .hbm, ⟨68, _⟩ => ⟨S8x2048x2048, .f32⟩
  | .hbm, ⟨69, _⟩ => ⟨S8x2048x2048, .f32⟩
  | .hbm, ⟨70, _⟩ => ⟨S8x2048x2048, .f32⟩
  | .hbm, ⟨71, _⟩ => ⟨S8x2048x2048, .f32⟩
  | .hbm, ⟨72, _⟩ => ⟨S16384x2048, .f32⟩
  | .hbm, ⟨73, _⟩ => ⟨S16384x2048, .f32⟩
  | .hbm, ⟨74, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Up.lean ====
abbrev S8x2048x2048 : Shape := ⟨3, ![8, 2048, 2048]⟩
abbrev S2048x11264 : Shape := ⟨2, ![2048, 11264]⟩
abbrev S3x11264 : Shape := ⟨2, ![3, 11264]⟩
abbrev S11264 : Shape := ⟨1, ![11264]⟩
abbrev S1x11264 : Shape := ⟨2, ![1, 11264]⟩
abbrev S8x2048x5632 : Shape := ⟨3, ![8, 2048, 5632]⟩
abbrev S1x2048x2048 : Shape := ⟨3, ![1, 2048, 2048]⟩
abbrev S2048x512 : Shape := ⟨2, ![2048, 512]⟩
abbrev S3x512 : Shape := ⟨2, ![3, 512]⟩
abbrev S1x512 : Shape := ⟨2, ![1, 512]⟩
abbrev S1x2048x512 : Shape := ⟨3, ![1, 2048, 512]⟩
abbrev S2064x1024 : Shape := ⟨2, ![2064, 1024]⟩
abbrev S3x128 : Shape := ⟨2, ![3, 128]⟩
abbrev S1x128 : Shape := ⟨2, ![1, 128]⟩
abbrev S48x128 : Shape := ⟨2, ![48, 128]⟩
abbrev S32x128 : Shape := ⟨2, ![32, 128]⟩
abbrev S1x32x128 : Shape := ⟨3, ![1, 32, 128]⟩
abbrev S1x512x2048 : Shape := ⟨3, ![1, 512, 2048]⟩
abbrev S512x2048 : Shape := ⟨2, ![512, 2048]⟩
abbrev S512x512 : Shape := ⟨2, ![512, 512]⟩

abbrev nBuf : Space → Nat
  | .hbm => 7
  | .vmem => 17
  | .smem => 0
  | _ => 0

abbrev bufTy : (tb : Table) → Fin (tcTables nBuf tb) → BufTy
  | .hbm, ⟨0, _⟩ => ⟨S8x2048x2048, .bf16⟩
  | .hbm, ⟨1, _⟩ => ⟨S2048x11264, .bf16⟩
  | .hbm, ⟨2, _⟩ => ⟨S3x11264, .f32⟩
  | .hbm, ⟨3, _⟩ => ⟨S11264, .f32⟩
  | .hbm, ⟨4, _⟩ => ⟨S1x11264, .f32⟩
  | .hbm, ⟨5, _⟩ => ⟨S1x11264, .f32⟩
  | .hbm, ⟨6, _⟩ => ⟨S8x2048x5632, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x2048x512, .bf16⟩
  | .local _ .vmem, ⟨15, _⟩ => ⟨S1x2048x512, .bf16⟩
  | .local _ .vmem, ⟨16, _⟩ => ⟨S2064x1024, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![89], ![false]⟩

def cc0_transform_0 (i : grid0.Coords) : Fin 3 → Nat :=
  let arg0 : BitVec 32 := BitVec.ofNat 32 (i 0).val
  let c87_i32 : BitVec 32 := 87#32
  let v0 : BitVec 32 := Scalar.minsi arg0 c87_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_1 (i : grid0.Coords) : Fin 2 → Nat :=
  let arg0 : BitVec 32 := BitVec.ofNat 32 (i 0).val
  let c87_i32 : BitVec 32 := 87#32
  let v0 : BitVec 32 := Scalar.minsi arg0 c87_i32
  let c11_i32 : BitVec 32 := 11#32
  let c0_i32 : BitVec 32 := 0#32
  let v1 : BitVec 1 := Scalar.cmpi .eq c11_i32 c0_i32
  let c1_i32 : BitVec 32 := 1#32
  let v2 : BitVec 32 := Scalar.select v1 c1_i32 c11_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_2 (i : grid0.Coords) : Fin 2 → Nat :=
  let arg0 : BitVec 32 := BitVec.ofNat 32 (i 0).val
  let c87_i32 : BitVec 32 := 87#32
  let v0 : BitVec 32 := Scalar.minsi arg0 c87_i32
  let c11_i32 : BitVec 32 := 11#32
  let c0_i32 : BitVec 32 := 0#32
  let v1 : BitVec 1 := Scalar.cmpi .eq c11_i32 c0_i32
  let c1_i32 : BitVec 32 := 1#32
  let v2 : BitVec 32 := Scalar.select v1 c1_i32 c11_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c11_i32_3 : BitVec 32 := 11#32
  let v11 : BitVec 32 := Scalar.addi c11_i32_3 v10
  let c0_i32_4 : BitVec 32 := 0#32
  let c0_i32_5 : BitVec 32 := 0#32
  ![c0_i32_4.toNat, v11.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let c0_i32_0 : BitVec 32 := 0#32
  let v2 : BitVec 1 := Scalar.cmpi .eq c11_i32 c0_i32_0
  let c1_i32_1 : BitVec 32 := 1#32
  let v3 : BitVec 32 := Scalar.select v2 c1_i32_1 c11_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let c0_i32_0 : BitVec 32 := 0#32
  let v2 : BitVec 1 := Scalar.cmpi .eq c11_i32 c0_i32_0
  let c1_i32_1 : BitVec 32 := 1#32
  let v3 : BitVec 32 := Scalar.select v2 c1_i32_1 c11_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c11_i32_5 : BitVec 32 := 11#32
  let v12 : BitVec 32 := Scalar.addi c11_i32_5 v11
  let c0_i32_6 : BitVec 32 := 0#32
  let c0_i32_7 : BitVec 32 := 0#32
  ![c0_i32_6.toNat, v12.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let c0_i32_0 : BitVec 32 := 0#32
  let v2 : BitVec 1 := Scalar.cmpi .eq c11_i32 c0_i32_0
  let c1_i32_1 : BitVec 32 := 1#32
  let v3 : BitVec 32 := Scalar.select v2 c1_i32_1 c11_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let c0_i32_0 : BitVec 32 := 0#32
  let v2 : BitVec 1 := Scalar.cmpi .eq c11_i32 c0_i32_0
  let c1_i32_1 : BitVec 32 := 1#32
  let v3 : BitVec 32 := Scalar.select v2 c1_i32_1 c11_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c11_i32_5 : BitVec 32 := 11#32
  let v12 : BitVec 32 := Scalar.addi c11_i32_5 v11
  let c0_i32_6 : BitVec 32 := 0#32
  let c0_i32_7 : BitVec 32 := 0#32
  ![c0_i32_6.toNat, v12.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c11_i32_8 : BitVec 32 := 11#32
  let c0_i32_9 : BitVec 32 := 0#32
  let v21 : BitVec 1 := Scalar.cmpi .eq c11_i32_8 c0_i32_9
  let c1_i32_10 : BitVec 32 := 1#32
  let v22 : BitVec 32 := Scalar.select v21 c1_i32_10 c11_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpRefIdeal.lean ====
abbrev S8x2048x2048 : Shape := ⟨3, ![8, 2048, 2048]⟩
abbrev S2048x11264 : Shape := ⟨2, ![2048, 11264]⟩
abbrev S3x11264 : Shape := ⟨2, ![3, 11264]⟩
abbrev S11264 : Shape := ⟨1, ![11264]⟩
abbrev S8x2048x11264 : Shape := ⟨3, ![8, 2048, 11264]⟩
abbrev S_ : Shape := ⟨0, ![]⟩
abbrev S8x2050x11264 : Shape := ⟨3, ![8, 2050, 11264]⟩
abbrev S1x11264 : Shape := ⟨2, ![1, 11264]⟩
abbrev S1x1x11264 : Shape := ⟨3, ![1, 1, 11264]⟩
abbrev S8x2048x5632 : Shape := ⟨3, ![8, 2048, 5632]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S2048x11264, .bf16⟩
  | .hbm, ⟨2, _⟩ => ⟨S3x11264, .f32⟩
  | .hbm, ⟨3, _⟩ => ⟨S11264, .f32⟩
  | .hbm, ⟨4, _⟩ => ⟨S8x2048x2048, .f32⟩
  | .hbm, ⟨5, _⟩ => ⟨S2048x11264, .f32⟩
  | .hbm, ⟨6, _⟩ => ⟨S8x2048x11264, .f32⟩
  | .hbm, ⟨7, _⟩ => ⟨S_, .i32⟩
  | .hbm, ⟨8, _⟩ => ⟨S_, .f32⟩
  | .hbm, ⟨9, _⟩ => ⟨S8x2050x11264, .f32⟩
  | .hbm, ⟨10, _⟩ => ⟨S1x11264, .f32⟩
  | .hbm, ⟨11, _⟩ => ⟨S11264, .f32⟩
  | .hbm, ⟨12, _⟩ => ⟨S8x2048x11264, .f32⟩
  | .hbm, ⟨13, _⟩ => ⟨S1x1x11264, .f32⟩
  | .hbm, ⟨14, _⟩ => ⟨S8x2048x11264, .f32⟩
  | .hbm, ⟨15, _⟩ => ⟨S8x2048x11264, .f32⟩
  | .hbm, ⟨16, _⟩ => ⟨S1x11264, .f32⟩
  | .hbm, ⟨17, _⟩ => ⟨S11264, .f32⟩
  | .hbm, ⟨18, _⟩ => ⟨S8x2048x11264, .f32⟩
  | .hbm, ⟨19, _⟩ => ⟨S1x1x11264, .f32⟩
  | .hbm, ⟨20, _⟩ => ⟨S8x2048x11264, .f32⟩
  | .hbm, ⟨21, _⟩ => ⟨S8x2048x11264, .f32⟩
  | .hbm, ⟨22, _⟩ => ⟨S8x2048x11264, .f32⟩
  | .hbm, ⟨23, _⟩ => ⟨S1x11264, .f32⟩
  | .hbm, ⟨24, _⟩ => ⟨S11264, .f32⟩
  | .hbm, ⟨25, _⟩ => ⟨S8x2048x11264, .f32⟩
  | .hbm, ⟨26, _⟩ => ⟨S1x1x11264, .f32⟩
  | .hbm, ⟨27, _⟩ => ⟨S8x2048x11264, .f32⟩
  | .hbm, ⟨28, _⟩ => ⟨S8x2048x11264, .f32⟩
  | .hbm, ⟨29, _⟩ => ⟨S8x2048x11264, .f32⟩
  | .hbm, ⟨30, _⟩ => ⟨S1x1x11264, .f32⟩
  | .hbm, ⟨31, _⟩ => ⟨S8x2048x11264, .f32⟩
  | .hbm, ⟨32, _⟩ => ⟨S8x2048x11264, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S8x2048x5632, .f32⟩
  | .hbm, ⟨37, _⟩ => ⟨S_, .f32⟩
  | .hbm, ⟨38, _⟩ => ⟨S8x2048x5632, .f32⟩
  | .hbm, ⟨39, _⟩ => ⟨S8x2048x5632, .f32⟩
  | .hbm, ⟨40, _⟩ => ⟨S_, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S8x2048x5632, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Proj.lean ====
abbrev S8x2048x2048 : Shape := ⟨3, ![8, 2048, 2048]⟩
abbrev S2048 : Shape := ⟨1, ![2048]⟩
abbrev S8x1x2048 : Shape := ⟨3, ![8, 1, 2048]⟩
abbrev S2048x10240 : Shape := ⟨2, ![2048, 10240]⟩
abbrev S64 : Shape := ⟨1, ![64]⟩
abbrev S1x64 : Shape := ⟨2, ![1, 64]⟩
abbrev S16384x2048 : Shape := ⟨2, ![16384, 2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048 : Shape := ⟨2, ![1, 2048]⟩
abbrev S16384x10240 : Shape := ⟨2, ![16384, 10240]⟩
abbrev S1024x2048 : Shape := ⟨2, ![1024, 2048]⟩
abbrev S1x1x2048 : Shape := ⟨3, ![1, 1, 2048]⟩
abbrev S1024x128 : Shape := ⟨2, ![1024, 128]⟩
abbrev S1024x1024 : Shape := ⟨2, ![1024, 1024]⟩
abbrev S3x2048x1024 : Shape := ⟨3, ![3, 2048, 1024]⟩
abbrev S3 : Shape := ⟨1, ![3]⟩
abbrev S1 : Shape := ⟨1, ![1]⟩
abbrev S1x2048x1024 : Shape := ⟨3, ![1, 2048, 1024]⟩
abbrev S2048x1024 : Shape := ⟨2, ![2048, 1024]⟩
abbrev S16x2048 : Shape := ⟨2, ![16, 2048]⟩
abbrev S16x1 : Shape := ⟨2, ![16, 1]⟩
abbrev S64x128 : Shape := ⟨2, ![64, 128]⟩
abbrev S512x2048 : Shape := ⟨2, ![512, 2048]⟩
abbrev S512x1024 : Shape := ⟨2, ![512, 1024]⟩
abbrev S64x1024 : Shape := ⟨2, ![64, 1024]⟩

abbrev nBuf : Space → Nat
  | .hbm => 56
  | .vmem => 18
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x10240, .f32⟩
  | .hbm, ⟨5, _⟩ => ⟨S2048, .f32⟩
  | .hbm, ⟨6, _⟩ => ⟨S2048, .f32⟩
  | .hbm, ⟨7, _⟩ => ⟨S64, .i1⟩
  | .hbm, ⟨8, _⟩ => ⟨S1x64, .i1⟩
  | .hbm, ⟨9, _⟩ => ⟨S64, .i1⟩
  | .hbm, ⟨10, _⟩ => ⟨S1x64, .i1⟩
  | .hbm, ⟨11, _⟩ => ⟨S16384x2048, .f32⟩
  | .hbm, ⟨12, _⟩ => ⟨S2048x10240, .bf16⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S2048x1, .f32⟩
  | .hbm, ⟨22, _⟩ => ⟨S1x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x1, .f32⟩
  | .hbm, ⟨27, _⟩ => ⟨S1x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S_, .f32⟩
  | .hbm, ⟨36, _⟩ => ⟨S_, .f32⟩
  | .hbm, ⟨37, _⟩ => ⟨S2048x64, .i1⟩
  | .hbm, ⟨38, _⟩ => ⟨S2048x64, .f32⟩
  | .hbm, ⟨39, _⟩ => ⟨S2048x64, .f32⟩
  | .hbm, ⟨40, _⟩ => ⟨S_, .f32⟩
  | .hbm, ⟨41, _⟩ => ⟨S_, .f32⟩
  | .hbm, ⟨42, _⟩ => ⟨S2048x64, .i1⟩
  | .hbm, ⟨43, _⟩ => ⟨S2048x64, .f32⟩
  | .hbm, ⟨44, _⟩ => ⟨S2048x64, .f32⟩
  | .hbm, ⟨45, _⟩ => ⟨S1x2048x1x64, .f32⟩
  | .hbm, ⟨46, _⟩ => ⟨S1x2048x2x64, .f32⟩
  | .hbm, ⟨47, _⟩ => ⟨S2048x128, .f32⟩
  | .hbm, ⟨48, _⟩ => ⟨S1x2048x1x64, .f32⟩
  | .hbm, ⟨49, _⟩ => ⟨S1x2048x2x64, .f32⟩
  | .hbm, ⟨50, _⟩ => ⟨S2048x128, .f32⟩
  | .hbm, ⟨51, _⟩ => ⟨S1x2048x1x64, .f32⟩
  | .hbm, ⟨52, _⟩ => ⟨S1x2048x2x64, .f32⟩
  | .hbm, ⟨53, _⟩ => ⟨S2048x128, .f32⟩
  | .hbm, ⟨54, _⟩ => ⟨S1x2048, .f32⟩
  | .hbm, ⟨55, _⟩ => ⟨S16384x10240, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x2048, .bf16⟩
  | .local _ .vmem, ⟨16, _⟩ => ⟨S1024x1024, .f32⟩
  | .local _ .vmem, ⟨17, _⟩ => ⟨S3x2048x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_c : Ref sig .tc := ⟨.hbm, 7, rfl⟩
abbrev main_v0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![161], ![false]⟩

def k0_cond1 (i : grid0.Coords) : BitVec 1 :=
  let arg0 : BitVec 32 := BitVec.ofNat 32 (i 0).val
  let c0_i32_11 : BitVec 32 := 0#32
  let v23 : BitVec 1 := Scalar.cmpi .eq arg0 c0_i32_11
  let v24 : BitVec 32 := Scalar.extui v23
  let c0_i32_12 : BitVec 32 := 0#32
  let v25 : BitVec 1 := Scalar.cmpi .ne v24 c0_i32_12
  v25

def k0_mult1 : BitVec 32 :=
  let c0_i32_49 : BitVec 32 := 0#32
  let c159_i32_50 : BitVec 32 := 159#32
  let v89 : BitVec 32 := Scalar.minsi c0_i32_49 c159_i32_50
  let c10_i32_51 : BitVec 32 := 10#32
  let c0_i32_52 : BitVec 32 := 0#32
  let v90 : BitVec 1 := Scalar.cmpi .eq c10_i32_51 c0_i32_52
  let c1_i32_53 : BitVec 32 := 1#32
  let v91 : BitVec 32 := Scalar.select v90 c1_i32_53 c10_i32_51
  let v92 : BitVec 32 := Scalar.remsi v89 v91
  let c0_i32_55 : BitVec 32 := 0#32
  let v94 : BitVec 1 := Scalar.cmpi .slt v92 c0_i32_55
  let c0_i32_56 : BitVec 32 := 0#32
  let v95 : BitVec 1 := Scalar.cmpi .slt v91 c0_i32_56
  let v96 : BitVec 1 := Scalar.xori v94 v95
  let c0_i32_54 : BitVec 32 := 0#32
  let v93 : BitVec 1 := Scalar.cmpi .ne v92 c0_i32_54
  let v97 : BitVec 1 := Scalar.andi v96 v93
  let v98 : BitVec 32 := Scalar.addi v92 v91
  let v99 : BitVec 32 := Scalar.select v97 v98 v92
  let c1024_i32_57 : BitVec 32 := 1024#32
  let v100 : BitVec 32 := Scalar.muli v99 c1024_i32_57
  v100
def k0_off1 (c0_i32_49 : BitVec 32) : Fin 2 → Nat :=
  let c0_i32_62 : BitVec 32 := 0#32
  let c159_i32_50 : BitVec 32 := 159#32
  let v89 : BitVec 32 := Scalar.minsi c0_i32_49 c159_i32_50
  let c10_i32_51 : BitVec 32 := 10#32
  let c0_i32_52 : BitVec 32 := 0#32
  let v90 : BitVec 1 := Scalar.cmpi .eq c10_i32_51 c0_i32_52
  let c1_i32_53 : BitVec 32 := 1#32
  let v91 : BitVec 32 := Scalar.select v90 c1_i32_53 c10_i32_51
  let v92 : BitVec 32 := Scalar.remsi v89 v91
  let c0_i32_55 : BitVec 32 := 0#32
  let v94 : BitVec 1 := Scalar.cmpi .slt v92 c0_i32_55
  let c0_i32_56 : BitVec 32 := 0#32
  let v95 : BitVec 1 := Scalar.cmpi .slt v91 c0_i32_56
  let v96 : BitVec 1 := Scalar.xori v94 v95
  let c0_i32_54 : BitVec 32 := 0#32
  let v93 : BitVec 1 := Scalar.cmpi .ne v92 c0_i32_54
  let v97 : BitVec 1 := Scalar.andi v96 v93
  let v98 : BitVec 32 := Scalar.addi v92 v91
  let v99 : BitVec 32 := Scalar.select v97 v98 v92
  let c1024_i32_57 : BitVec 32 := 1024#32
  let v100 : BitVec 32 := Scalar.muli v99 c1024_i32_57
  let v101 : BitVec 32 := v100
  ![0, v101.toNat]
def k0_mult2 : BitVec 32 :=
  let c1_i32_63 : BitVec 32 := 1#32
  let c159_i32_64 : BitVec 32 := 159#32
  let v107 : BitVec 32 := Scalar.minsi c1_i32_63 c159_i32_64
  let c10_i32_65 : BitVec 32 := 10#32
  let c0_i32_66 : BitVec 32 := 0#32
  let v108 : BitVec 1 := Scalar.cmpi .eq c10_i32_65 c0_i32_66
  let c1_i32_67 : BitVec 32 := 1#32
  let v109 : BitVec 32 := Scalar.select v108 c1_i32_67 c10_i32_65
  let v110 : BitVec 32 := Scalar.remsi v107 v109
  let c0_i32_69 : BitVec 32 := 0#32
  let v112 : BitVec 1 := Scalar.cmpi .slt v110 c0_i32_69
  let c0_i32_70 : BitVec 32 := 0#32
  let v113 : BitVec 1 := Scalar.cmpi .slt v109 c0_i32_70
  let v114 : BitVec 1 := Scalar.xori v112 v113
  let c0_i32_68 : BitVec 32 := 0#32
  let v111 : BitVec 1 := Scalar.cmpi .ne v110 c0_i32_68
  let v115 : BitVec 1 := Scalar.andi v114 v111
  let v116 : BitVec 32 := Scalar.addi v110 v109
  let v117 : BitVec 32 := Scalar.select v115 v116 v110
  let c1024_i32_71 : BitVec 32 := 1024#32
  let v118 : BitVec 32 := Scalar.muli v117 c1024_i32_71
  v118
def k0_cond2 (i : grid0.Coords) : BitVec 1 :=
  let arg0 : BitVec 32 := BitVec.ofNat 32 (i 0).val
  let c3_i32 : BitVec 32 := 3#32
  let v26 : BitVec 32 := Scalar.addi arg0 c3_i32
  let c1_i32_13 : BitVec 32 := 1#32
  let v27 : BitVec 32 := Scalar.subi v26 c1_i32_13
  let c160_i32 : BitVec 32 := 160#32
  let v28 : BitVec 1 := Scalar.cmpi .sle v27 c160_i32
  let v29 : BitVec 32 := Scalar.extui v28
  let c0_i32_14 : BitVec 32 := 0#32
  let v30 : BitVec 1 := Scalar.cmpi .ne v29 c0_i32_14
  v30

def k0_mult3 (i : grid0.Coords) : BitVec 32 :=
  let arg0 : BitVec 32 := BitVec.ofNat 32 (i 0).val
  let c3_i32_49 : BitVec 32 := 3#32
  let v89 : BitVec 32 := Scalar.addi arg0 c3_i32_49
  let c1_i32_50 : BitVec 32 := 1#32
  let v90 : BitVec 32 := Scalar.subi v89 c1_i32_50
  let c159_i32_51 : BitVec 32 := 159#32
  let v91 : BitVec 32 := Scalar.minsi v90 c159_i32_51
  let c10_i32_52 : BitVec 32 := 10#32
  let c0_i32_53 : BitVec 32 := 0#32
  let v92 : BitVec 1 := Scalar.cmpi .eq c10_i32_52 c0_i32_53
  let c1_i32_54 : BitVec 32 := 1#32
  let v93 : BitVec 32 := Scalar.select v92 c1_i32_54 c10_i32_52
  let v94 : BitVec 32 := Scalar.remsi v91 v93
  let c0_i32_56 : BitVec 32 := 0#32
  let v96 : BitVec 1 := Scalar.cmpi .slt v94 c0_i32_56
  let c0_i32_57 : BitVec 32 := 0#32
  let v97 : BitVec 1 := Scalar.cmpi .slt v93 c0_i32_57
  let v98 : BitVec 1 := Scalar.xori v96 v97
  let c0_i32_55 : BitVec 32 := 0#32
  let v95 : BitVec 1 := Scalar.cmpi .ne v94 c0_i32_55
  let v99 : BitVec 1 := Scalar.andi v98 v95
  let v100 : BitVec 32 := Scalar.addi v94 v93
  let v101 : BitVec 32 := Scalar.select v99 v100 v94
  let c1024_i32_64 : BitVec 32 := 1024#32
  let v112 : BitVec 32 := Scalar.muli v101 c1024_i32_64
  v112
def k0_off2 (i : grid0.Coords) : Fin 1 → Nat :=
  let arg0 : BitVec 32 := BitVec.ofNat 32 (i 0).val
  let c3_i32_49 : BitVec 32 := 3#32
  let v89 : BitVec 32 := Scalar.addi arg0 c3_i32_49
  let c1_i32_50 : BitVec 32 := 1#32
  let v90 : BitVec 32 := Scalar.subi v89 c1_i32_50
  let c3_i32_58 : BitVec 32 := 3#32
  let c0_i32_59 : BitVec 32 := 0#32
  let v102 : BitVec 1 := Scalar.cmpi .eq c3_i32_58 c0_i32_59
  let c1_i32_60 : BitVec 32 := 1#32
  let v103 : BitVec 32 := Scalar.select v102 c1_i32_60 c3_i32_58
  let v104 : BitVec 32 := Scalar.remsi v90 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  ![v111.toNat]
def k0_off3 (i : grid0.Coords) : Fin 3 → Nat :=
  let arg0 : BitVec 32 := BitVec.ofNat 32 (i 0).val
  let c3_i32_49 : BitVec 32 := 3#32
  let v89 : BitVec 32 := Scalar.addi arg0 c3_i32_49
  let c1_i32_50 : BitVec 32 := 1#32
  let v90 : BitVec 32 := Scalar.subi v89 c1_i32_50
  let c3_i32_58 : BitVec 32 := 3#32
  let c0_i32_59 : BitVec 32 := 0#32
  let v102 : BitVec 1 := Scalar.cmpi .eq c3_i32_58 c0_i32_59
  let c1_i32_60 : BitVec 32 := 1#32
  let v103 : BitVec 32 := Scalar.select v102 c1_i32_60 c3_i32_58
  let v104 : BitVec 32 := Scalar.remsi v90 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  let c0_i32_65 : BitVec 32 := 0#32
  let c0_i32_66 : BitVec 32 := 0#32
  ![v111.toNat, 0, 0]
def k0_off4 (i : grid0.Coords) : Fin 2 → Nat :=
  let c0_i32_67 : BitVec 32 := 0#32
  let arg0 : BitVec 32 := BitVec.ofNat 32 (i 0).val
  let c3_i32_49 : BitVec 32 := 3#32
  let v89 : BitVec 32 := Scalar.addi arg0 c3_i32_49
  let c1_i32_50 : BitVec 32 := 1#32
  let v90 : BitVec 32 := Scalar.subi v89 c1_i32_50
  let c159_i32_51 : BitVec 32 := 159#32
  let v91 : BitVec 32 := Scalar.minsi v90 c159_i32_51
  let c10_i32_52 : BitVec 32 := 10#32
  let c0_i32_53 : BitVec 32 := 0#32
  let v92 : BitVec 1 := Scalar.cmpi .eq c10_i32_52 c0_i32_53
  let c1_i32_54 : BitVec 32 := 1#32
  let v93 : BitVec 32 := Scalar.select v92 c1_i32_54 c10_i32_52
  let v94 : BitVec 32 := Scalar.remsi v91 v93
  let c0_i32_56 : BitVec 32 := 0#32
  let v96 : BitVec 1 := Scalar.cmpi .slt v94 c0_i32_56
  let c0_i32_57 : BitVec 32 := 0#32
  let v97 : BitVec 1 := Scalar.cmpi .slt v93 c0_i32_57
  let v98 : BitVec 1 := Scalar.xori v96 v97
  let c0_i32_55 : BitVec 32 := 0#32
  let v95 : BitVec 1 := Scalar.cmpi .ne v94 c0_i32_55
  let v99 : BitVec 1 := Scalar.andi v98 v95
  let v100 : BitVec 32 := Scalar.addi v94 v93
  let v101 : BitVec 32 := Scalar.select v99 v100 v94
  let c1024_i32_64 : BitVec 32 := 1024#32
  let v112 : BitVec 32 := Scalar.muli v101 c1024_i32_64
  let v113 : BitVec 32 := v112
  ![0, v113.toNat]
def k0_mult4 (i : grid0.Coords) : BitVec 32 :=
  let arg0 : BitVec 32 := BitVec.ofNat 32 (i 0).val
  let c159_i32_15 : BitVec 32 := 159#32
  let v31 : BitVec 32 := Scalar.minsi arg0 c159_i32_15
  let c10_i32_16 : BitVec 32 := 10#32
  let c0_i32_17 : BitVec 32 := 0#32
  let v32 : BitVec 1 := Scalar.cmpi .eq c10_i32_16 c0_i32_17
  let c1_i32_18 : BitVec 32 := 1#32
  let v33 : BitVec 32 := Scalar.select v32 c1_i32_18 c10_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1024_i32 : BitVec 32 := 1024#32
  let v52 : BitVec 32 := Scalar.muli v41 c1024_i32
  v52
def k0_off5 (i : grid0.Coords) : Fin 1 → Nat :=
  let arg0 : BitVec 32 := BitVec.ofNat 32 (i 0).val
  let c3_i32_22 : BitVec 32 := 3#32
  let c0_i32_23 : BitVec 32 := 0#32
  let v42 : BitVec 1 := Scalar.cmpi .eq c3_i32_22 c0_i32_23
  let c1_i32_24 : BitVec 32 := 1#32
  let v43 : BitVec 32 := Scalar.select v42 c1_i32_24 c3_i32_22
  let v44 : BitVec 32 := Scalar.remsi arg0 v43
  let c0_i32_26 : BitVec 32 := 0#32
  let v46 : BitVec 1 := Scalar.cmpi .slt v44 c0_i32_26
  let c0_i32_27 : BitVec 32 := 0#32
  let v47 : BitVec 1 := Scalar.cmpi .slt v43 c0_i32_27
  let v48 : BitVec 1 := Scalar.xori v46 v47
  let c0_i32_25 : BitVec 32 := 0#32
  let v45 : BitVec 1 := Scalar.cmpi .ne v44 c0_i32_25
  let v49 : BitVec 1 := Scalar.andi v48 v45
  let v50 : BitVec 32 := Scalar.addi v44 v43
  let v51 : BitVec 32 := Scalar.select v49 v50 v44
  ![v51.toNat]
def k0_off6 (i : grid0.Coords) : Fin 3 → Nat :=
  let arg0 : BitVec 32 := BitVec.ofNat 32 (i 0).val
  let c3_i32_22 : BitVec 32 := 3#32
  let c0_i32_23 : BitVec 32 := 0#32
  let v42 : BitVec 1 := Scalar.cmpi .eq c3_i32_22 c0_i32_23
  let c1_i32_24 : BitVec 32 := 1#32
  let v43 : BitVec 32 := Scalar.select v42 c1_i32_24 c3_i32_22
  let v44 : BitVec 32 := Scalar.remsi arg0 v43
  let c0_i32_26 : BitVec 32 := 0#32
  let v46 : BitVec 1 := Scalar.cmpi .slt v44 c0_i32_26
  let c0_i32_27 : BitVec 32 := 0#32
  let v47 : BitVec 1 := Scalar.cmpi .slt v43 c0_i32_27
  let v48 : BitVec 1 := Scalar.xori v46 v47
  let c0_i32_25 : BitVec 32 := 0#32
  let v45 : BitVec 1 := Scalar.cmpi .ne v44 c0_i32_25
  let v49 : BitVec 1 := Scalar.andi v48 v45
  let v50 : BitVec 32 := Scalar.addi v44 v43
  let v51 : BitVec 32 := Scalar.select v49 v50 v44
  let c0_i32_28 : BitVec 32 := 0#32
  let c0_i32_29 : BitVec 32 := 0#32
  ![v51.toNat, 0, 0]
def k0_off7 (i : grid0.Coords) : Fin 2 → Nat :=
  let c0_i32_30 : BitVec 32 := 0#32
  let arg0 : BitVec 32 := BitVec.ofNat 32 (i 0).val
  let c159_i32_15 : BitVec 32 := 159#32
  let v31 : BitVec 32 := Scalar.minsi arg0 c159_i32_15
  let c10_i32_16 : BitVec 32 := 10#32
  let c0_i32_17 : BitVec 32 := 0#32
  let v32 : BitVec 1 := Scalar.cmpi .eq c10_i32_16 c0_i32_17
  let c1_i32_18 : BitVec 32 := 1#32
  let v33 : BitVec 32 := Scalar.select v32 c1_i32_18 c10_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1024_i32 : BitVec 32 := 1024#32
  let v52 : BitVec 32 := Scalar.muli v41 c1024_i32
  let v53 : BitVec 32 := v52
  ![0, v53.toNat]
def k0_cond4 (i : grid0.Coords) : BitVec 1 :=
  let arg0 : BitVec 32 := BitVec.ofNat 32 (i 0).val
  let c159_i32 : BitVec 32 := 159#32
  let v0 : BitVec 32 := Scalar.minsi arg0 c159_i32
  let c10_i32 : BitVec 32 := 10#32
  let c0_i32 : BitVec 32 := 0#32
  let v1 : BitVec 1 := Scalar.cmpi .eq c10_i32 c0_i32
  let c1_i32 : BitVec 32 := 1#32
  let v2 : BitVec 32 := Scalar.select v1 c1_i32 c10_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_39 : BitVec 32 := 0#32
  let v72 : BitVec 1 := Scalar.cmpi .eq v10 c0_i32_39
  let c160_i32_40 : BitVec 32 := 160#32
  let v73 : BitVec 1 := Scalar.cmpi .slt arg0 c160_i32_40
  let v74 : BitVec 1 := Scalar.andi v72 v73
  let v75 : BitVec 32 := Scalar.extui v74
  let c0_i32_41 : BitVec 32 := 0#32
  let v76 : BitVec 1 := Scalar.cmpi .ne v75 c0_i32_41
  v76

@[reducible] def k0_t1_loop : Scf.Loop 32 :=
  let c0_i32_57 : BitVec 32 := 0#32
  let c64_i32 : BitVec 32 := 64#32
  let v98 : BitVec 32 := Scalar.addi c0_i32_57 c64_i32
  let c1_i32_58 : BitVec 32 := 1#32
  ⟨c0_i32_57, v98, c1_i32_58⟩
def k0_mult5 (k0_t1 : Fin k0_t1_loop.trips) : BitVec 32 :=
  let c0_i32_57 : BitVec 32 := 0#32
  let c1_i32_58 : BitVec 32 := 1#32
  let arg14 : BitVec 32 := Scf.iv c0_i32_57 c1_i32_58 k0_t1
  let c16_i32 : BitVec 32 := 16#32
  let v99 : BitVec 32 := Scalar.muli arg14 c16_i32
  v99
def k0_off8 (k0_t1 : Fin k0_t1_loop.trips) : Fin 2 → Nat :=
  let c0_i32_57 : BitVec 32 := 0#32
  let c1_i32_58 : BitVec 32 := 1#32
  let arg14 : BitVec 32 := Scf.iv c0_i32_57 c1_i32_58 k0_t1
  let c16_i32 : BitVec 32 := 16#32
  let v99 : BitVec 32 := Scalar.muli arg14 c16_i32
  let v100 : BitVec 32 := v99
  let v101 : Index := Scalar.indexCast v100
  let c0_60 : Index := 0#32
  ![v101.toNat, 0]
def k0_cond5 (i : grid0.Coords) : BitVec 1 :=
  let arg0 : BitVec 32 := BitVec.ofNat 32 (i 0).val
  let c1_i32_3 : BitVec 32 := 1#32
  let v11 : BitVec 32 := Scalar.subi arg0 c1_i32_3
  let c0_i32_4 : BitVec 32 := 0#32
  let v12 : BitVec 32 := Scalar.maxsi v11 c0_i32_4
  let c10_i32_5 : BitVec 32 := 10#32
  let c0_i32_6 : BitVec 32 := 0#32
  let v13 : BitVec 1 := Scalar.cmpi .eq c10_i32_5 c0_i32_6
  let c1_i32_7 : BitVec 32 := 1#32
  let v14 : BitVec 32 := Scalar.select v13 c1_i32_7 c10_i32_5
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c3_i32_46 : BitVec 32 := 3#32
  let v81 : BitVec 1 := Scalar.cmpi .eq v22 c3_i32_46
  let c4_i32 : BitVec 32 := 4#32
  let v82 : BitVec 1 := Scalar.cmpi .eq v22 c4_i32
  let v83 : BitVec 1 := Scalar.ori v81 v82
  let v84 : BitVec 32 := Scalar.extui v83
  let c0_i32_47 : BitVec 32 := 0#32
  let v85 : BitVec 1 := Scalar.cmpi .ne v84 c0_i32_47
  v85

def k0_off9 (i : grid0.Coords) : Fin 3 → Nat :=
  let arg0 : BitVec 32 := BitVec.ofNat 32 (i 0).val
  let c3_i32_31 : BitVec 32 := 3#32
  let c0_i32_32 : BitVec 32 := 0#32
  let v59 : BitVec 1 := Scalar.cmpi .eq c3_i32_31 c0_i32_32
  let c1_i32_33 : BitVec 32 := 1#32
  let v60 : BitVec 32 := Scalar.select v59 c1_i32_33 c3_i32_31
  let v61 : BitVec 32 := Scalar.remsi arg0 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let v826 : Index := Scalar.indexCast v68
  let c0_469 : Index := 0#32
  let c0_470 : Index := 0#32
  ![v826.toNat, 0, 0]
def k0_cond6 (i : grid0.Coords) : BitVec 1 :=
  let arg0 : BitVec 32 := BitVec.ofNat 32 (i 0).val
  let c1_i32_3 : BitVec 32 := 1#32
  let v11 : BitVec 32 := Scalar.subi arg0 c1_i32_3
  let c0_i32_4 : BitVec 32 := 0#32
  let v12 : BitVec 32 := Scalar.maxsi v11 c0_i32_4
  let c10_i32_5 : BitVec 32 := 10#32
  let c0_i32_6 : BitVec 32 := 0#32
  let v13 : BitVec 1 := Scalar.cmpi .eq c10_i32_5 c0_i32_6
  let c1_i32_7 : BitVec 32 := 1#32
  let v14 : BitVec 32 := Scalar.select v13 c1_i32_7 c10_i32_5
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c3_i32_46 : BitVec 32 := 3#32
  let v81 : BitVec 1 := Scalar.cmpi .eq v22 c3_i32_46
  let c4_i32 : BitVec 32 := 4#32
  let v82 : BitVec 1 := Scalar.cmpi .eq v22 c4_i32
  let v83 : BitVec 1 := Scalar.ori v81 v82
  let v_true : BitVec 1 := 1#1
  let v86 : BitVec 1 := Scalar.xori v83 v_true
  let v87 : BitVec 32 := Scalar.extui v86
  let c0_i32_48 : BitVec 32 := 0#32
  let v88 : BitVec 1 := Scalar.cmpi .ne v87 c0_i32_48
  v88

def k0_off10 (i : grid0.Coords) : Fin 3 → Nat :=
  let arg0 : BitVec 32 := BitVec.ofNat 32 (i 0).val
  let c3_i32_31 : BitVec 32 := 3#32
  let c0_i32_32 : BitVec 32 := 0#32
  let v59 : BitVec 1 := Scalar.cmpi .eq c3_i32_31 c0_i32_32
  let c1_i32_33 : BitVec 32 := 1#32
  let v60 : BitVec 32 := Scalar.select v59 c1_i32_33 c3_i32_31
  let v61 : BitVec 32 := Scalar.remsi arg0 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let v130 : Index := Scalar.indexCast v68
  let c0_75 : Index := 0#32
  let c0_76 : Index := 0#32
  ![v130.toNat, 0, 0]
def cc0_transform_0 (i : grid0.Coords) : Fin 2 → Nat :=
  let arg0 : BitVec 32 := BitVec.ofNat 32 (i 0).val
  let c159_i32 : BitVec 32 := 159#32
  let v0 : BitVec 32 := Scalar.minsi arg0 c159_i32
  let c10_i32 : BitVec 32 := 10#32
  let v1 : BitVec 32 := Scalar.divsi v0 c10_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c10_i32 c0_i32_1
  let v8 : BitVec 32 := Scalar.extui v7
  let c0_i32_2 : BitVec 32 := 0#32
  let v9 : BitVec 1 := Scalar.cmpi .slt c10_i32 c0_i32_2
  let v10 : BitVec 32 := Scalar.extui v9
  let v11 : BitVec 32 := Scalar.subi v8 v10
  let v12 : BitVec 1 := Scalar.cmpi .ne v6 v11
  let v13 : BitVec 32 := Scalar.remsi v0 c10_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c159_i32 : BitVec 32 := 159#32
  let v0 : BitVec 32 := Scalar.minsi arg0 c159_i32
  let c10_i32 : BitVec 32 := 10#32
  let v1 : BitVec 32 := Scalar.divsi v0 c10_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c10_i32 c0_i32_1
  let v8 : BitVec 32 := Scalar.extui v7
  let c0_i32_2 : BitVec 32 := 0#32
  let v9 : BitVec 1 := Scalar.cmpi .slt c10_i32 c0_i32_2
  let v10 : BitVec 32 := Scalar.extui v9
  let v11 : BitVec 32 := Scalar.subi v8 v10
  let v12 : BitVec 1 := Scalar.cmpi .ne v6 v11
  let v13 : BitVec 32 := Scalar.remsi v0 c10_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32 : BitVec 32 := 1024#32
  let v18 : BitVec 32 := Scalar.muli v17 c1024_i32
  let c2048_i32 : BitVec 32 := 2048#32
  let v19 : BitVec 32 := Scalar.divsi v18 c2048_i32
  let c0_i32_4 : BitVec 32 := 0#32
  let v20 : BitVec 1 := Scalar.cmpi .sgt v18 c0_i32_4
  let v21 : BitVec 32 := Scalar.extui v20
  let c0_i32_5 : BitVec 32 := 0#32
  let v22 : BitVec 1 := Scalar.cmpi .slt v18 c0_i32_5
  let v23 : BitVec 32 := Scalar.extui v22
  let v24 : BitVec 32 := Scalar.subi v21 v23
  let c0_i32_6 : BitVec 32 := 0#32
  let v25 : BitVec 1 := Scalar.cmpi .sgt c2048_i32 c0_i32_6
  let v26 : BitVec 32 := Scalar.extui v25
  let c0_i32_7 : BitVec 32 := 0#32
  let v27 : BitVec 1 := Scalar.cmpi .slt c2048_i32 c0_i32_7
  let v28 : BitVec 32 := Scalar.extui v27
  let v29 : BitVec 32 := Scalar.subi v26 v28
  let v30 : BitVec 1 := Scalar.cmpi .ne v24 v29
  let v31 : BitVec 32 := Scalar.remsi v18 c2048_i32
  let c0_i32_8 : BitVec 32 := 0#32
  let v32 : BitVec 1 := Scalar.cmpi .ne v31 c0_i32_8
  let v33 : BitVec 1 := Scalar.andi v30 v32
  let c1_i32_9 : BitVec 32 := 1#32
  let v34 : BitVec 32 := Scalar.subi v19 c1_i32_9
  let v35 : BitVec 32 := Scalar.select v33 v34 v19
  let c0_i32_10 : BitVec 32 := 0#32
  let c0_i32_11 : BitVec 32 := 0#32
  let c0_i32_12 : BitVec 32 := 0#32
  ![v35.toNat, c0_i32_10.toNat, c0_i32_11.toNat]

def cc0_transform_3 (i : grid0.Coords) : Fin 3 → Nat :=
  let arg0 : BitVec 32 := BitVec.ofNat 32 (i 0).val
  let c159_i32 : BitVec 32 := 159#32
  let v0 : BitVec 32 := Scalar.minsi arg0 c159_i32
  let c10_i32 : BitVec 32 := 10#32
  let v1 : BitVec 32 := Scalar.divsi v0 c10_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c10_i32 c0_i32_1
  let v8 : BitVec 32 := Scalar.extui v7
  let c0_i32_2 : BitVec 32 := 0#32
  let v9 : BitVec 1 := Scalar.cmpi .slt c10_i32 c0_i32_2
  let v10 : BitVec 32 := Scalar.extui v9
  let v11 : BitVec 32 := Scalar.subi v8 v10
  let v12 : BitVec 1 := Scalar.cmpi .ne v6 v11
  let v13 : BitVec 32 := Scalar.remsi v0 c10_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32 : BitVec 32 := 1024#32
  let v18 : BitVec 32 := Scalar.muli v17 c1024_i32
  let c2048_i32 : BitVec 32 := 2048#32
  let v19 : BitVec 32 := Scalar.divsi v18 c2048_i32
  let c0_i32_4 : BitVec 32 := 0#32
  let v20 : BitVec 1 := Scalar.cmpi .sgt v18 c0_i32_4
  let v21 : BitVec 32 := Scalar.extui v20
  let c0_i32_5 : BitVec 32 := 0#32
  let v22 : BitVec 1 := Scalar.cmpi .slt v18 c0_i32_5
  let v23 : BitVec 32 := Scalar.extui v22
  let v24 : BitVec 32 := Scalar.subi v21 v23
  let c0_i32_6 : BitVec 32 := 0#32
  let v25 : BitVec 1 := Scalar.cmpi .sgt c2048_i32 c0_i32_6
  let v26 : BitVec 32 := Scalar.extui v25
  let c0_i32_7 : BitVec 32 := 0#32
  let v27 : BitVec 1 := Scalar.cmpi .slt c2048_i32 c0_i32_7
  let v28 : BitVec 32 := Scalar.extui v27
  let v29 : BitVec 32 := Scalar.subi v26 v28
  let v30 : BitVec 1 := Scalar.cmpi .ne v24 v29
  let v31 : BitVec 32 := Scalar.remsi v18 c2048_i32
  let c0_i32_8 : BitVec 32 := 0#32
  let v32 : BitVec 1 := Scalar.cmpi .ne v31 c0_i32_8
  let v33 : BitVec 1 := Scalar.andi v30 v32
  let c1_i32_9 : BitVec 32 := 1#32
  let v34 : BitVec 32 := Scalar.subi v19 c1_i32_9
  let v35 : BitVec 32 := Scalar.select v33 v34 v19
  let c0_i32_10 : BitVec 32 := 0#32
  let c0_i32_11 : BitVec 32 := 0#32
  let c0_i32_12 : BitVec 32 := 0#32
  ![v35.toNat, c0_i32_10.toNat, c0_i32_11.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c10_i32 : BitVec 32 := 10#32
  let v2 : BitVec 32 := Scalar.divsi v1 c10_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi v1 c10_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1024_i32 : BitVec 32 := 1024#32
  let v19 : BitVec 32 := Scalar.muli v18 c1024_i32
  let c2048_i32 : BitVec 32 := 2048#32
  let c0_i32_6 : BitVec 32 := 0#32
  let v20 : BitVec 1 := Scalar.cmpi .eq c2048_i32 c0_i32_6
  let c1_i32_7 : BitVec 32 := 1#32
  let v21 : BitVec 32 := Scalar.select v20 c1_i32_7 c2048_i32
  let v22 : BitVec 32 := Scalar.remsi v19 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1024_i32_11 : BitVec 32 := 1024#32
  let v30 : BitVec 32 := Scalar.divsi v29 c1024_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c0_i32_14 : BitVec 32 := 0#32
  let v36 : BitVec 1 := Scalar.cmpi .sgt c1024_i32_11 c0_i32_14
  let v37 : BitVec 32 := Scalar.extui v36
  let c0_i32_15 : BitVec 32 := 0#32
  let v38 : BitVec 1 := Scalar.cmpi .slt c1024_i32_11 c0_i32_15
  let v39 : BitVec 32 := Scalar.extui v38
  let v40 : BitVec 32 := Scalar.subi v37 v39
  let v41 : BitVec 1 := Scalar.cmpi .ne v35 v40
  let v42 : BitVec 32 := Scalar.remsi v29 c1024_i32_11
  let c0_i32_16 : BitVec 32 := 0#32
  let v43 : BitVec 1 := Scalar.cmpi .ne v42 c0_i32_16
  let v44 : BitVec 1 := Scalar.andi v41 v43
  let c1_i32_17 : BitVec 32 := 1#32
  let v45 : BitVec 32 := Scalar.subi v30 c1_i32_17
  let v46 : BitVec 32 := Scalar.select v44 v45 v30
  let c0_i32_18 : BitVec 32 := 0#32
  let c0_i32_19 : BitVec 32 := 0#32
  ![v46.toNat, c0_i32_18.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c10_i32 : BitVec 32 := 10#32
  let v2 : BitVec 32 := Scalar.divsi v1 c10_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi v1 c10_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1024_i32 : BitVec 32 := 1024#32
  let v19 : BitVec 32 := Scalar.muli v18 c1024_i32
  let c2048_i32 : BitVec 32 := 2048#32
  let c0_i32_6 : BitVec 32 := 0#32
  let v20 : BitVec 1 := Scalar.cmpi .eq c2048_i32 c0_i32_6
  let c1_i32_7 : BitVec 32 := 1#32
  let v21 : BitVec 32 := Scalar.select v20 c1_i32_7 c2048_i32
  let v22 : BitVec 32 := Scalar.remsi v19 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1024_i32_11 : BitVec 32 := 1024#32
  let v30 : BitVec 32 := Scalar.divsi v29 c1024_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c0_i32_14 : BitVec 32 := 0#32
  let v36 : BitVec 1 := Scalar.cmpi .sgt c1024_i32_11 c0_i32_14
  let v37 : BitVec 32 := Scalar.extui v36
  let c0_i32_15 : BitVec 32 := 0#32
  let v38 : BitVec 1 := Scalar.cmpi .slt c1024_i32_11 c0_i32_15
  let v39 : BitVec 32 := Scalar.extui v38
  let v40 : BitVec 32 := Scalar.subi v37 v39
  let v41 : BitVec 1 := Scalar.cmpi .ne v35 v40
  let v42 : BitVec 32 := Scalar.remsi v29 c1024_i32_11
  let c0_i32_16 : BitVec 32 := 0#32
  let v43 : BitVec 1 := Scalar.cmpi .ne v42 c0_i32_16
  let v44 : BitVec 1 := Scalar.andi v41 v43
  let c1_i32_17 : BitVec 32 := 1#32
  let v45 : BitVec 32 := Scalar.subi v30 c1_i32_17
  let v46 : BitVec 32 := Scalar.select v44 v45 v30
  let c0_i32_18 : BitVec 32 := 0#32
  let c0_i32_19 : BitVec 32 := 0#32
  ![v46.toNat, c0_i32_18.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c10_i32 : BitVec 32 := 10#32
  let v2 : BitVec 32 := Scalar.divsi v1 c10_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi v1 c10_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1024_i32 : BitVec 32 := 1024#32
  let v19 : BitVec 32 := Scalar.muli v18 c1024_i32
  let c2048_i32 : BitVec 32 := 2048#32
  let c0_i32_6 : BitVec 32 := 0#32
  let v20 : BitVec 1 := Scalar.cmpi .eq c2048_i32 c0_i32_6
  let c1_i32_7 : BitVec 32 := 1#32
  let v21 : BitVec 32 := Scalar.select v20 c1_i32_7 c2048_i32
  let v22 : BitVec 32 := Scalar.remsi v19 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1024_i32_11 : BitVec 32 := 1024#32
  let v30 : BitVec 32 := Scalar.divsi v29 c1024_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c0_i32_14 : BitVec 32 := 0#32
  let v36 : BitVec 1 := Scalar.cmpi .sgt c1024_i32_11 c0_i32_14
  let v37 : BitVec 32 := Scalar.extui v36
  let c0_i32_15 : BitVec 32 := 0#32
  let v38 : BitVec 1 := Scalar.cmpi .slt c1024_i32_11 c0_i32_15
  let v39 : BitVec 32 := Scalar.extui v38
  let v40 : BitVec 32 := Scalar.subi v37 v39
  let v41 : BitVec 1 := Scalar.cmpi .ne v35 v40
  let v42 : BitVec 32 := Scalar.remsi v29 c1024_i32_11
  let c0_i32_16 : BitVec 32 := 0#32
  let v43 : BitVec 1 := Scalar.cmpi .ne v42 c0_i32_16
  let v44 : BitVec 1 := Scalar.andi v41 v43
  let c1_i32_17 : BitVec 32 := 1#32
  let v45 : BitVec 32 := Scalar.subi v30 c1_i32_17
  let v46 : BitVec 32 := Scalar.select v44 v45 v30
  let c0_i32_18 : BitVec 32 := 0#32
  let c0_i32_19 : BitVec 32 := 0#32
  ![v46.toNat, c0_i32_18.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c10_i32 : BitVec 32 := 10#32
  let v2 : BitVec 32 := Scalar.divsi v1 c10_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi v1 c10_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c10_i32_8 : BitVec 32 := 10#32
  let c0_i32_9 : BitVec 32 := 0#32
  let v21 : BitVec 1 := Scalar.cmpi .eq c10_i32_8 c0_i32_9
  let c1_i32_10 : BitVec 32 := 1#32
  let v22 : BitVec 32 := Scalar.select v21 c1_i32_10 c10_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjRefIdeal.lean ====
abbrev S8x2048x2048 : Shape := ⟨3, ![8, 2048, 2048]⟩
abbrev S2048 : Shape := ⟨1, ![2048]⟩
abbrev S8x1x2048 : Shape := ⟨3, ![8, 1, 2048]⟩
abbrev S2048x10240 : Shape := ⟨2, ![2048, 10240]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x10240 : Shape := ⟨3, ![8, 2048, 10240]⟩
abbrev S8x2048x1024 : Shape := ⟨3, ![8, 2048, 1024]⟩
abbrev S8x2048x8x2x64 : Shape := ⟨5, ![8, 2048, 8, 2, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x1x64 : Shape := ⟨5, ![1, 2048, 1, 1, 64]⟩
abbrev S8x2048x8x2x16 : Shape := ⟨5, ![8, 2048, 8, 2, 16]⟩
abbrev S8x2048x5120 : Shape := ⟨3, ![8, 2048, 5120]⟩
abbrev S16384x10240 : Shape := ⟨2, ![16384, 10240]⟩

abbrev nBuf : Space → Nat
  | .hbm => 139
  | .vmem => 0
  | .smem => 0
  | _ => 0

abbrev hbmTy0_0 (i : Nat) : BufTy := match i % 128 with
  | 0 => ⟨S8x2048x2048, .f32⟩
  | 1 => ⟨S2048, .f32⟩
  | 2 => ⟨S8x1x2048, .f32⟩
  | 3 => ⟨S8x1x2048, .f32⟩
  | 4 => ⟨S2048x10240, .f32⟩
  | 5 => ⟨S8x2048x2048, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x2048, .f32⟩
  | 17 => ⟨S8x2048x2048, .f32⟩
  | 18 => ⟨S1x1x2048, .f32⟩
  | 19 => ⟨S8x2048x2048, .f32⟩
  | 20 => ⟨S8x2048x2048, .f32⟩
  | 21 => ⟨S_, .f32⟩
  | 22 => ⟨S8x1x2048, .f32⟩
  | 23 => ⟨S8x1x2048, .f32⟩
  | 24 => ⟨S8x2048x2048, .f32⟩
  | 25 => ⟨S8x2048x2048, .f32⟩
  | 26 => ⟨S8x2048x2048, .f32⟩
  | 27 => ⟨S8x2048x2048, .f32⟩
  | 28 => ⟨S8x2048x10240, .f32⟩
  | 29 => ⟨S8x2048x1024, .f32⟩
  | 30 => ⟨S8x2048x8x2x64, .f32⟩
  | 31 => ⟨S8x2048x1024, .f32⟩
  | 32 => ⟨S8x2048x8x2x64, .f32⟩
  | 33 => ⟨S2048, .i32⟩
  | 34 => ⟨S_, .i32⟩
  | 35 => ⟨S_, .i32⟩
  | 36 => ⟨S2048, .i32⟩
  | 37 => ⟨S2048, .i32⟩
  | 38 => ⟨S2048, .i32⟩
  | 39 => ⟨S_, .i32⟩
  | 40 => ⟨S2048, .i32⟩
  | 41 => ⟨S2048, .i1⟩
  | 42 => ⟨S2048, .i32⟩
  | 43 => ⟨S2048, .i32⟩
  | 44 => ⟨S_, .i32⟩
  | 45 => ⟨S2048, .i32⟩
  | 46 => ⟨S2048, .i1⟩
  | 47 => ⟨S2048, .i1⟩
  | 48 => ⟨S_, .i32⟩
  | 49 => ⟨S2048, .i32⟩
  | 50 => ⟨S2048, .i32⟩
  | 51 => ⟨S2048, .i32⟩
  | 52 => ⟨S2048, .f32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S2048, .i32⟩
  | 60 => ⟨S2048, .i32⟩
  | 61 => ⟨S_, .i32⟩
  | 62 => ⟨S2048, .i32⟩
  | 63 => ⟨S2048, .i1⟩
  | 64 => ⟨S_, .i32⟩
  | 65 => ⟨S2048, .i32⟩
  | 66 => ⟨S2048, .i1⟩
  | 67 => ⟨S_, .i32⟩
  | 68 => ⟨S_, .i1⟩
  | 69 => ⟨S2048, .i1⟩
  | 70 => ⟨S2048, .i1⟩
  | 71 => ⟨S2048, .i1⟩
  | 72 => ⟨S2048, .i32⟩
  | 73 => ⟨S2048, .i32⟩
  | 74 => ⟨S2048, .i32⟩
  | 75 => ⟨S2048, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S2048x1, .f32⟩
  | 85 => ⟨S1x16, .f32⟩
  | 86 => ⟨S2048x16, .f32⟩
  | 87 => ⟨S2048x16, .f32⟩
  | 88 => ⟨S2048x16, .f32⟩
  | 89 => ⟨S2048x1, .f32⟩
  | 90 => ⟨S1x16, .f32⟩
  | 91 => ⟨S2048x16, .f32⟩
  | 92 => ⟨S2048x16, .f32⟩
  | 93 => ⟨S2048x16, .f32⟩
  | 94 => ⟨S2048x64, .f32⟩
  | 95 => ⟨S2048x64, .f32⟩
  | 96 => ⟨S2048x64, .f32⟩
  | 97 => ⟨S1x2048x1x1x64, .f32⟩
  | 98 => ⟨S1x2048x1x1x64, .f32⟩
  | 99 => ⟨S8x2048x8x2x16, .f32⟩
  | 100 => ⟨S8x2048x8x2x16, .f32⟩
  | 101 => ⟨S8x2048x8x2x16, .f32⟩
  | 102 => ⟨S8x2048x8x2x16, .f32⟩
  | 103 => ⟨S8x2048x8x2x16, .f32⟩
  | 104 => ⟨S8x2048x8x2x16, .f32⟩
  | 105 => ⟨S8x2048x8x2x64, .f32⟩
  | 106 => ⟨S8x2048x8x2x64, .f32⟩
  | 107 => ⟨S8x2048x8x2x64, .f32⟩
  | 108 => ⟨S8x2048x8x2x64, .f32⟩
  | 109 => ⟨S8x2048x8x2x64, .f32⟩
  | 110 => ⟨S8x2048x8x2x64, .f32⟩
  | 111 => ⟨S8x2048x1024, .f32⟩
  | 112 => ⟨S1x2048x1x1x64, .f32⟩
  | 113 => ⟨S1x2048x1x1x64, .f32⟩
  | 114 => ⟨S8x2048x8x2x16, .f32⟩
  | 115 => ⟨S8x2048x8x2x16, .f32⟩
  | 116 => ⟨S8x2048x8x2x16, .f32⟩
  | 117 => ⟨S8x2048x8x2x16, .f32⟩
  | 118 => ⟨S8x2048x8x2x16, .f32⟩
  | 119 => ⟨S8x2048x8x2x16, .f32⟩
  | 120 => ⟨S8x2048x8x2x64, .f32⟩
  | 121 => ⟨S8x2048x8x2x64, .f32⟩
  | 122 => ⟨S8x2048x8x2x64, .f32⟩
  | 123 => ⟨S8x2048x8x2x64, .f32⟩
  | 124 => ⟨S8x2048x8x2x64, .f32⟩
  | 125 => ⟨S8x2048x8x2x64, .f32⟩
  | 126 => ⟨S8x2048x1024, .f32⟩
  | 127 => ⟨S8x2048x1024, .f32⟩
  | _ => ⟨S8x2048x2048, .f32⟩

abbrev hbmTy0_1 (i : Nat) : BufTy := match i % 128 with
  | 0 => ⟨S_, .f32⟩
  | 1 => ⟨S8x2048x1024, .f32⟩
  | 2 => ⟨S8x2048x1024, .f32⟩
  | 3 => ⟨S_, .f32⟩
  | 4 => ⟨S8x2048x1024, .f32⟩
  | 5 => ⟨S8x2048x1024, .f32⟩
  | 6 => ⟨S8x2048x2048, .f32⟩
  | 7 => ⟨S8x2048x5120, .f32⟩
  | 8 => ⟨S8x2048x10240, .f32⟩
  | 9 => ⟨S8x2048x10240, .bf16⟩
  | 10 => ⟨S16384x10240, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v25 : Ref sig .tc := ⟨.hbm, 51, rfl⟩
abbrev main_v26 : Ref sig .tc := ⟨.hbm, 52, rfl⟩
abbrev main_c_3 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_v5 : Ref sig .tc := ⟨.hbm, 62, rfl⟩
abbrev main_call1_v6 : Ref sig .tc := ⟨.hbm, 63, rfl⟩
abbrev main_call1_c_2 : Ref sig .tc := ⟨.hbm, 64, rfl⟩
abbrev main_call1_v7 : Ref sig .tc := ⟨.hbm, 65, rfl⟩
abbrev main_call1_v8 : Ref sig .tc := ⟨.hbm, 66, rfl⟩
abbrev main_call1_c_3 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_4 : Ref sig .tc := ⟨.hbm, 78, rfl⟩
abbrev main_v31 : Ref sig .tc := ⟨.hbm, 79, rfl⟩
abbrev main_v32 : Ref sig .tc := ⟨.hbm, 80, rfl⟩
abbrev main_cst_5 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_6 : Ref sig .tc := ⟨.hbm, 128, rfl⟩
abbrev main_v79 : Ref sig .tc := ⟨.hbm, 129, rfl⟩
abbrev main_v80 : Ref sig .tc := ⟨.hbm, 130, rfl⟩
abbrev main_cst_7 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩

abbrev nD : Nat := 1
abbrev τ : Topo := Topo.v7x

variable {F : FTy → Type} [FloatOps F]
-- ==== Proof.Diff.Blocks.lean ====
/- Where the blocks of the differential attention's call lie: at grid point (b, h, 0) batch b and head h of the
   projections, and the slab `8 b + h` of each weight that the call casts on the way. -/
module

public import proofs.«01_k».proof.Proof.Gen.KernelIdeal.Value

@[expose] public section

set_option maxRecDepth 16384

noncomputable section

namespace Cert.Proof.Diff

open Cert.KernelIdeal Cert.KernelIdeal.Gen Idealize.ShloMosaic Idealize.ShloMosaic.TcCoe Idealize.SL.Sem

/-- The block indices of all windows at point `t = 8 b + h`. -/
theorem idx : ∀ t : Fin cfg0.N,
    win0_0.index t = ![t.val / 8, 0, 24 + t.val % 8] ∧ win0_1.index t = ![t.val / 8, 0, 32 + t.val % 8]
    ∧ win0_2.index t = ![t.val / 8, 0, 40 + t.val % 8] ∧ win0_3.index t = ![t.val / 8, 0, 16 + t.val % 8]
    ∧ win0_4.index t = ![t.val / 8, 0, 24 + t.val % 8] ∧ win0_5.index t = ![0, 0] ∧ win0_6.index t = ![0, 0]
    ∧ win0_12.index t = ![t.val / 8, 0, t.val % 8] :=
  (by decide +kernel : ∀ t : Fin grid0.N, _)

/-- The slabs of the weights at point `t`: the last one has 44 slabs only. -/
theorem idxW : ∀ t : Fin cfg0.N,
    win0_7.index t = ![t.val, 0] ∧ win0_8.index t = ![t.val, 0] ∧ win0_9.index t = ![t.val, 0]
    ∧ win0_10.index t = ![t.val, 0] ∧ win0_11.index t = ![min t.val 43, 0]
    ∧ win0_13.index t = ![t.val, 0] ∧ win0_14.index t = ![t.val, 0] ∧ win0_15.index t = ![t.val, 0]
    ∧ win0_16.index t = ![t.val, 0] ∧ win0_17.index t = ![min t.val 43, 0] :=
  (by decide +kernel : ∀ t : Fin grid0.N, _)

end Cert.Proof.Diff

end
-- ==== Proof.Diff.Softmax.lean ====
/- The arithmetic of one row of the attention, over the reals: a softmax does not see a common shift of its logits, a
   power of two of `x / log 2` is the exponential of `x`, and a weighted mean of one row may be divided by its sum of
   weights before or after the values are summed. -/
module

public import Idealize.ShloMosaic.PureOps.Ideal.Laws
public import Mathlib.Analysis.SpecialFunctions.Pow.Real

@[expose] public section

noncomputable section

namespace Cert.Proof.Softmax

open Idealize.ShloMosaic

/-- The extended reals' sum of finitely many reals is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The greatest of `⊥` and finitely many reals, at least one of them, is a real. -/
theorem fold_max_real {ι : Type*} (s : Finset ι) (hs : s.Nonempty) (f : ι → ℝ) :
    ∃ m : ℝ, s.fold max (⊥ : EReal) (fun k => (f k : EReal)) = (m : EReal) := by
  classical
  induction hs using Finset.Nonempty.cons_induction with
  | singleton a => exact ⟨f a, by simp⟩
  | cons a s ha hs ih =>
    obtain ⟨m, hm⟩ := ih
    exact ⟨max (f a) m, by
      rw [Finset.fold_cons, hm]; exact ((EReal.coe_strictMono.monotone).map_max).symm⟩

/-- A quotient of reals by a positive real is the real quotient. -/
theorem div_real (a b : ℝ) (hb : 0 < b) : Ideal.div (a : EReal) (b : EReal) = ((a / b : ℝ) : EReal) := by
  rw [Ideal.div_coe hb.ne', ← EReal.coe_mul]
  congr 1; field_simp

/-- Two to the power `x / log 2 - m` is the exponential of `x` times a factor that does not depend on `x`. -/
theorem exp2_shift (x m : ℝ) :
    Ideal.exp2 (((x * (Real.log 2)⁻¹ : ℝ) : EReal) - (m : EReal)) = ((Real.exp x * Real.exp (-(m * Real.log 2)) : ℝ) : EReal) := by
  rw [← EReal.coe_sub, Ideal.exp2_coe]
  congr 1
  show (2 : ℝ) ^ (x * (Real.log 2)⁻¹ - m) = _
  have h2 : Real.log 2 ≠ 0 := (Real.log_pos (by norm_num)).ne'
  rw [Real.rpow_def_of_pos (by norm_num), ← Real.exp_add]
  congr 1; field_simp; ring

/-- The sum of the exponentials of a row. -/
def mass {n : ℕ} (x : Fin n → ℝ) : ℝ := ∑ k, Real.exp (x k)

/-- The sum of the exponentials is positive. -/
theorem mass_pos {n : ℕ} (hn : 0 < n) (x : Fin n → ℝ) : 0 < mass x :=
  Finset.sum_pos (fun k _ => Real.exp_pos _) ⟨⟨0, hn⟩, Finset.mem_univ _⟩

/-- The softmax of a row of logits. -/
def soft {n : ℕ} (x : Fin n → ℝ) (k : Fin n) : ℝ := Real.exp (x k) / mass x

/-- The softmax of `x` as exponentials of `x - m` over their sum, for whatever `m`. -/
theorem softmax_eq {n : ℕ} (hn : 0 < n) (x : Fin n → ℝ) (m : ℝ) (k : Fin n) :
    Ideal.div (Ideal.exp ((x k : EReal) - (m : EReal))) (∑ k', Ideal.exp ((x k' : EReal) - (m : EReal)))
      = (soft x k : EReal) := by
  have he : ∀ k, Ideal.exp ((x k : EReal) - (m : EReal)) = ((Real.exp (x k) * Real.exp (-m) : ℝ) : EReal) := fun k => by
    rw [← EReal.coe_sub, Ideal.exp_coe, ← Real.exp_add, sub_eq_add_neg]
  simp only [he]
  rw [coe_sum, ← Finset.sum_mul, ← mass.eq_1, div_real _ _ (mul_pos (mass_pos hn x) (Real.exp_pos _))]
  rw [mul_div_mul_right _ _ (Real.exp_pos _).ne']; rfl

/-- The weighted mean of `v` with weights the powers of two of `x / log 2 - m`, divided after the sum: the sum of the
    softmax of `x` times `v`. -/
theorem mean_eq {n : ℕ} (hn : 0 < n) (x v : Fin n → ℝ) (m : ℝ) :
    Ideal.div (∑ k, Ideal.exp2 (((x k * (Real.log 2)⁻¹ : ℝ) : EReal) - (m : EReal)) * (v k : EReal))
        (∑ k, Ideal.exp2 (((x k * (Real.log 2)⁻¹ : ℝ) : EReal) - (m : EReal)))
      = ((∑ k, soft x k * v k : ℝ) : EReal) := by
  simp only [exp2_shift, ← EReal.coe_mul]
  rw [coe_sum, coe_sum, ← Finset.sum_mul, ← mass.eq_1, div_real _ _ (mul_pos (mass_pos hn x) (Real.exp_pos _))]
  congr 1
  simp only [soft, div_mul_eq_mul_div, ← Finset.sum_div, mul_right_comm _ (Real.exp (-(m * Real.log 2)))]
  rw [← Finset.sum_mul, mul_div_mul_right _ _ (Real.exp_pos _).ne']

/-- The difference of two softmax rows, the second scaled, times the values: the difference of the two sums. -/
theorem diff_sum {n : ℕ} (p q v : Fin n → ℝ) (l : ℝ) :
    (∑ k, (v k : EReal) * ((p k : EReal) - (l : EReal) * (q k : EReal)))
      = ((∑ k, p k * v k : ℝ) : EReal) - (l : EReal) * ((∑ k, q k * v k : ℝ) : EReal) := by
  simp only [← EReal.coe_mul, ← EReal.coe_sub]
  rw [coe_sum, Finset.mul_sum, ← Finset.sum_sub_distrib]
  congr 1
  exact Finset.sum_congr rfl fun k _ => by ring

end Cert.Proof.Softmax

end
-- ==== Proof.Diff.Tile.lean ====
/- One tile of 256 query rows of the attention's body, at an index: the two scratch buffers (the keys of both streams, the
   values of both streams beside a block of ones), the two rows of logits, the two weighted means and the norm. -/
module

public import proofs.«01_k».proof.Proof.Diff.Blocks
public import proofs.«01_k».proof.Proof.Diff.Softmax
public import Idealize.ShloMosaic.Lib.Pointwise
public import Idealize.ShloMosaic.Lib.Claim
public import Idealize.ShloMosaic.Lib.Pipeline.ValueKit

@[expose] public section

set_option maxRecDepth 16384

noncomputable section

namespace Cert.Proof.Diff

open Cert.KernelIdeal Cert.KernelIdeal.Gen Idealize.ShloMosaic Idealize.ShloMosaic.TcCoe Idealize.SL.Sem
  Idealize.ShloMosaic.Pipeline

/-- One tile: the two means from the two rows of logits, their difference, its norm. -/
def tile (lam : FVec Ideal S1x1 .f32) (q : FVec Ideal S1x256x128 .bf16) (ka : FVec Ideal S2304x128 .bf16)
    (va : FVec Ideal S2304x256 .bf16) (g : FVec Ideal S1x128 .f32) : FVec Ideal S1x256x128 .bf16 :=
  k0_pay35 lam (k0_pay33 (k0_pay17 q ka) va) (k0_pay34 (k0_pay18 q ka) va) g

/-- What the keys' scratch holds after the two stores: a term over them. -/
def keys (kb : FVec Ideal S1x2048x128 .bf16) (kc : FVec Ideal S1x256x128 .bf16) : FVec Ideal S2304x128 .bf16 :=
  View.readCov (Val := Elt Ideal) (s := S2304x128) (e := .bf16) (View.whole cc0_scratch0)
    [⟨Rect.unit ![2048, 0] ![256, 128] inb_S2304x128_S256x128_2048_0, k0_pay11 (F := Ideal) kc⟩,
      ⟨Rect.unit ![0, 0] ![2048, 128] inb_S2304x128_S2048x128_0_0, k0_pay10 (F := Ideal) kb⟩]
    (Rect.unit (s := S2304x128) ![0, 0] ![2304, 128] inb_S2304x128_S2304x128_0_0).toLoadRect

/-- What the values' scratch holds after the three stores. -/
def vals (vb : FVec Ideal S1x2048x128 .bf16) (vc : FVec Ideal S1x256x128 .bf16) : FVec Ideal S2304x256 .bf16 :=
  View.readCov (Val := Elt Ideal) (s := S2304x256) (e := .bf16) (View.whole cc0_scratch1)
    [⟨Rect.unit ![0, 128] ![2304, 128] inb_S2304x256_S2304x128_0_128, k0_pay14 (F := Ideal)⟩,
      ⟨Rect.unit ![2048, 0] ![256, 128] inb_S2304x256_S256x128_2048_0, k0_pay13 (F := Ideal) vc⟩,
      ⟨Rect.unit ![0, 0] ![2048, 128] inb_S2304x256_S2048x128_0_0, k0_pay12 (F := Ideal) vb⟩]
    (Rect.unit (s := S2304x256) ![0, 0] ![2304, 256] inb_S2304x256_S2304x256_0_0).toLoadRect

/-- The rectangle that is the whole array places an index at itself. -/
theorem emb_whole (s : Shape) (off size : Fin s.rank → ℕ) (inb) (hz : ∀ a, off a = 0) (x : (Rect.unit (s := s) off size inb).shape.Idx)
    (y : s.Idx) (h : ∀ a, (x a : ℕ) = y a) : (Rect.unit (s := s) off size inb).toLoadRect.idx x = y :=
  funext fun a => Fin.ext (by
    show off a + 1 * (x a : ℕ) = _
    rw [hz a, h a]; omega)

/-- An index lies in a rectangle of unit steps when each coordinate lies in its interval: at rank two. -/
theorem mem_two {m n : ℕ} {o0 o1 s0 s1 : ℕ} {inb : ∀ a, (![o0, o1] : Fin 2 → ℕ) a + (![s0, s1] : Fin 2 → ℕ) a ≤ (![m, n] : Fin 2 → ℕ) a}
    (k : Fin m) (d : Fin n)
    (h0 : o0 ≤ (k : ℕ) ∧ (k : ℕ) < o0 + s0) (h1 : o1 ≤ (d : ℕ) ∧ (d : ℕ) < o1 + s1) :
    (ix2 k d : (⟨2, ![m, n]⟩ : Shape).Idx) ∈ (Rect.unit (s := ⟨2, ![m, n]⟩) ![o0, o1] ![s0, s1] inb).set :=
  (Rect.mem_set_unit).mpr fun a => match a with
    | ⟨0, _⟩ => h0
    | ⟨1, _⟩ => h1

/-- Row `k` of the keys' scratch: a latent key below 2048, a context key from there on. -/
theorem keys_at (kb : FVec Ideal S1x2048x128 .bf16) (kc : FVec Ideal S1x256x128 .bf16) (k : Fin 2304) (d : Fin 128) :
    keys kb kc (ix2 k d) = if h : (k : ℕ) < 2048 then kb (ix3 (0 : Fin 1) (⟨k, h⟩ : Fin 2048) d)
      else kc (ix3 (0 : Fin 1) (⟨k - 2048, by omega⟩ : Fin 256) d) := by
  unfold keys
  rw [View.readCov_eq_canon']
  refine (congrArg (View.canon _) (emb_whole S2304x128 ![0, 0] ![2304, 128] inb_S2304x128_S2304x128_0_0
    (by decide) _ (ix2 k d) fun a => rfl)).trans ?_
  canon_tiles x h using (by
    by_cases h : (k : ℕ) < 2048
    · exact ⟨_, List.mem_cons_of_mem _ List.mem_cons_self,
        mem_two (inb := inb_S2304x128_S2048x128_0_0) k d ⟨by omega, by omega⟩ ⟨by omega, by omega⟩⟩
    · exact ⟨_, List.mem_cons_self,
        mem_two (inb := inb_S2304x128_S256x128_2048_0) k d ⟨by omega, by omega⟩ ⟨by omega, by omega⟩⟩)
  · have e : (k : ℕ) = 2048 + x 0 := h0
    have e' : (d : ℕ) = x 1 := h1
    rw [dif_neg (by omega)]
    pointwise [k0_pay11]
    blk_ext
  · have e : (k : ℕ) = x 0 := h0
    have e' : (d : ℕ) = x 1 := h1
    rw [dif_pos (by omega)]
    pointwise [k0_pay10]
    blk_ext

/-- Row `k` of the values' scratch: a latent value below 2048, a context value from there on, in its first 128 lanes. -/
theorem vals_at (vb : FVec Ideal S1x2048x128 .bf16) (vc : FVec Ideal S1x256x128 .bf16) (k : Fin 2304) (d : Fin 128) :
    vals vb vc (ix2 k (⟨d, by omega⟩ : Fin 256)) = if h : (k : ℕ) < 2048 then vb (ix3 (0 : Fin 1) (⟨k, h⟩ : Fin 2048) d)
      else vc (ix3 (0 : Fin 1) (⟨k - 2048, by omega⟩ : Fin 256) d) := by
  unfold vals
  rw [View.readCov_eq_canon']
  refine (congrArg (View.canon _) (emb_whole S2304x256 ![0, 0] ![2304, 256] inb_S2304x256_S2304x256_0_0
    (by decide) _ (ix2 k (⟨d, by omega⟩ : Fin 256)) fun a => rfl)).trans ?_
  canon_tiles x h using (by
    by_cases h : (k : ℕ) < 2048
    · exact ⟨_, List.mem_cons_of_mem _ (List.mem_cons_of_mem _ List.mem_cons_self),
        mem_two (inb := inb_S2304x256_S2048x128_0_0) k (⟨d, by omega⟩ : Fin 256) ⟨by omega, by omega⟩
          ⟨by omega, by show (d : ℕ) < 0 + 128; omega⟩⟩
    · exact ⟨_, List.mem_cons_of_mem _ List.mem_cons_self,
        mem_two (inb := inb_S2304x256_S256x128_2048_0) k (⟨d, by omega⟩ : Fin 256) ⟨by omega, by omega⟩
          ⟨by omega, by show (d : ℕ) < 0 + 128; omega⟩⟩)
  · have e' : (d : ℕ) = 128 + x 1 := h1
    omega
  · have e : (k : ℕ) = 2048 + x 0 := h0
    have e' : (d : ℕ) = x 1 := h1
    rw [dif_neg (by omega)]
    pointwise [k0_pay13]
    blk_ext
  · have e : (k : ℕ) = x 0 := h0
    have e' : (d : ℕ) = x 1 := h1
    rw [dif_pos (by omega)]
    pointwise [k0_pay12]
    blk_ext

/-- The last 128 lanes of the values' scratch are ones. -/
theorem vals_one (vb : FVec Ideal S1x2048x128 .bf16) (vc : FVec Ideal S1x256x128 .bf16) (k : Fin 2304) (d : Fin 128) :
    vals vb vc (ix2 k (⟨128 + d, by omega⟩ : Fin 256)) = 1 := by
  unfold vals
  rw [View.readCov_eq_canon']
  refine (congrArg (View.canon _) (emb_whole S2304x256 ![0, 0] ![2304, 256] inb_S2304x256_S2304x256_0_0
    (by decide) _ (ix2 k (⟨128 + d, by omega⟩ : Fin 256)) fun a => rfl)).trans ?_
  canon_tiles x h using (by
    exact ⟨_, List.mem_cons_self, mem_two (inb := inb_S2304x256_S2304x128_0_128) k (⟨128 + d, by omega⟩ : Fin 256)
      ⟨by omega, by omega⟩ ⟨by show 128 ≤ 128 + (d : ℕ); omega, by show 128 + (d : ℕ) < 128 + 128; omega⟩⟩)
  · pointwise [k0_pay14]
  · have e' : 128 + (d : ℕ) = x 1 := h1
    omega
  · have e' : 128 + (d : ℕ) = x 1 := h1
    omega

/-- A sum over 128 lanes that keeps the lanes below 64. -/
theorem sum_low (f : Fin 128 → EReal) :
    (∑ x : Fin 128, Scalar.select (IntOp.cmpi CmpIPredicate.slt (BitVec.ofNat 32 ↑x) 64#32) (f x) 0)
      = ∑ j : Fin 64, f ⟨j, by omega⟩ := by
  have h1 : ∀ j : Fin 64, IntOp.cmpi CmpIPredicate.slt (BitVec.ofNat 32 (j : ℕ)) 64#32 = 1#1 := by decide
  have h2 : ∀ j : Fin 64, IntOp.cmpi CmpIPredicate.slt (BitVec.ofNat 32 (64 + (j : ℕ))) 64#32 = 0#1 := by decide
  refine (Fin.sum_univ_add (a := 64) (b := 64) _).trans ?_
  simp only [Fin.val_castAdd, Fin.val_natAdd, h1, h2, Scalar.select]
  simp [Fin.castAdd, Fin.castLE]

/-- A sum over 128 lanes that keeps the lanes from 64 on. -/
theorem sum_high (f : Fin 128 → EReal) :
    (∑ x : Fin 128, Scalar.select (IntOp.cmpi CmpIPredicate.sge (BitVec.ofNat 32 ↑x) 64#32) (f x) 0)
      = ∑ j : Fin 64, f ⟨64 + j, by omega⟩ := by
  have h1 : ∀ j : Fin 64, IntOp.cmpi CmpIPredicate.sge (BitVec.ofNat 32 (j : ℕ)) 64#32 = 0#1 := by decide
  have h2 : ∀ j : Fin 64, IntOp.cmpi CmpIPredicate.sge (BitVec.ofNat 32 (64 + (j : ℕ))) 64#32 = 1#1 := by decide
  refine (Fin.sum_univ_add (a := 64) (b := 64) _).trans ?_
  simp only [Fin.val_castAdd, Fin.val_natAdd, h1, h2, Scalar.select]
  simp [Fin.natAdd]

/-- The first row of logits: the product of a query's first 64 lanes with a key's. -/
theorem logits_low (q : FVec Ideal S1x256x128 .bf16) (ka : FVec Ideal S2304x128 .bf16) (r : Fin 256) (k : Fin 2304) :
    k0_pay17 (F := Ideal) q ka (ix2 r k)
      = ∑ j : Fin 64, q (ix3 (0 : Fin 1) r (⟨j, by omega⟩ : Fin 128)) * ka (ix2 k (⟨j, by omega⟩ : Fin 128)) := by
  refine Eq.trans ?_ (sum_low fun l => q (ix3 (0 : Fin 1) r l) * ka (ix2 k l))
  pointwise [k0_pay17, k0_pay16, k0_pay15]

/-- The second row of logits: the product of a query's last 64 lanes with a key's. -/
theorem logits_high (q : FVec Ideal S1x256x128 .bf16) (ka : FVec Ideal S2304x128 .bf16) (r : Fin 256) (k : Fin 2304) :
    k0_pay18 (F := Ideal) q ka (ix2 r k)
      = ∑ j : Fin 64, q (ix3 (0 : Fin 1) r (⟨64 + j, by omega⟩ : Fin 128)) * ka (ix2 k (⟨64 + j, by omega⟩ : Fin 128)) := by
  refine Eq.trans ?_ (sum_high fun l => q (ix3 (0 : Fin 1) r l) * ka (ix2 k l))
  pointwise [k0_pay18, k0_pay16, k0_pay15]

/-- The bits of −∞ are the least extended real. -/
theorem neg_inf : Ideal.ofBits FTy.f32 4286578688#32 = (⊥ : EReal) := by
  simp [Ideal.ofBits, Ideal.ieee]

/-- A weighted mean, from a row of logits `x / log 2`: the softmax of `x` times the values. -/
theorem mean_low (s : FVec Ideal S256x2304 .f32) (va : FVec Ideal S2304x256 .bf16) (r : Fin 256) (d : Fin 128)
    (x v : Fin 2304 → ℝ) (hs : ∀ k, s (ix2 r k) = ((x k * (Real.log 2)⁻¹ : ℝ) : EReal))
    (hv : ∀ k, va (ix2 k (⟨d, by omega⟩ : Fin 256)) = (v k : EReal))
    (h1 : ∀ k, va (ix2 k (⟨128 + d, by omega⟩ : Fin 256)) = 1) :
    k0_pay33 (F := Ideal) s va (ix2 r d) = ((∑ k, Softmax.soft x k * v k : ℝ) : EReal) := by
  pointwise [k0_pay33]
  obtain ⟨M, hM⟩ := Softmax.fold_max_real Finset.univ ⟨(0 : Fin 2304), Finset.mem_univ _⟩ fun k => x k * (Real.log 2)⁻¹
  simp only [hs, hv, h1, neg_inf, hM, mul_one]
  exact Softmax.mean_eq (by norm_num) x v M

/-- The same of the second row. -/
theorem mean_high (s : FVec Ideal S256x2304 .f32) (va : FVec Ideal S2304x256 .bf16) (r : Fin 256) (d : Fin 128)
    (x v : Fin 2304 → ℝ) (hs : ∀ k, s (ix2 r k) = ((x k * (Real.log 2)⁻¹ : ℝ) : EReal))
    (hv : ∀ k, va (ix2 k (⟨d, by omega⟩ : Fin 256)) = (v k : EReal))
    (h1 : ∀ k, va (ix2 k (⟨128 + d, by omega⟩ : Fin 256)) = 1) :
    k0_pay34 (F := Ideal) s va (ix2 r d) = ((∑ k, Softmax.soft x k * v k : ℝ) : EReal) :=
  mean_low s va r d x v hs hv h1

end Cert.Proof.Diff

end
-- ==== Proof.Diff.Spec.lean ====
/- What the differential attention computes, of plain arrays: the logits of each head's two halves over the keys of both
   streams, their softmax weights, the difference of the two weighted means of the values, and the norm of that
   difference. -/
module

public import proofs.«01_k».proof.Proof.Diff.Softmax
public import Idealize.ShloMosaic.Lib.Pointwise

@[expose] public section

noncomputable section

namespace Cert.Proof.Diff

open Idealize.ShloMosaic

/-- The combined projection, with its rotated queries and keys. -/
abbrev Proj := FVec Ideal ⟨3, ![8, 2048, 10240]⟩ .bf16
/-- The projection of the context. -/
abbrev Ctx := FVec Ideal ⟨3, ![8, 256, 4096]⟩ .bf16

variable (P : Proj) (C : Ctx) (L : FVec Ideal ⟨2, ![4, 64]⟩ .f32) (G : FVec Ideal ⟨1, ![128]⟩ .f32)

/-- Column `n` of the query of row `i`. -/
def qry (b : Fin 8) (i : Fin 2048) (n : Fin 1024) : ℝ :=
  (P (ix3 b i (⟨3072 + n, by omega⟩ : Fin 10240))).toReal

/-- Column `n` of key `k`: the latent rows come first, the context's follow. -/
def key (b : Fin 8) (k : Fin 2304) (n : Fin 1024) : ℝ :=
  if h : (k : ℕ) < 2048 then (P (ix3 b (⟨k, h⟩ : Fin 2048) (⟨4096 + n, by omega⟩ : Fin 10240))).toReal
  else (C (ix3 b (⟨k - 2048, by omega⟩ : Fin 256) (⟨2048 + n, by omega⟩ : Fin 4096))).toReal

/-- Column `n` of value `k`. -/
def val (b : Fin 8) (k : Fin 2304) (n : Fin 1024) : ℝ :=
  if h : (k : ℕ) < 2048 then (P (ix3 b (⟨k, h⟩ : Fin 2048) (⟨5120 + n, by omega⟩ : Fin 10240))).toReal
  else (C (ix3 b (⟨k - 2048, by omega⟩ : Fin 256) (⟨3072 + n, by omega⟩ : Fin 4096))).toReal

/-- Column `j` of half `u` of head `h`, among the 1024 columns of all heads. -/
abbrev col (h : Fin 8) (u : Fin 2) (j : Fin 64) : Fin 1024 := ⟨128 * h + 64 * u + j, by omega⟩

/-- The logit of query `i` and key `k` in half `u` of head `h`. -/
def logit (b h : Fin 8) (u : Fin 2) (i : Fin 2048) (k : Fin 2304) : ℝ :=
  (∑ j : Fin 64, qry P b i (col h u j) * key P C b k (col h u j)) * 8⁻¹

/-- The mean of the values weighted by the softmax of one half's logits. -/
def mean (b h : Fin 8) (u : Fin 2) (i : Fin 2048) (d : Fin 128) : ℝ :=
  ∑ k, Softmax.soft (logit P C b h u i) k * val P C b k (⟨128 * h + d, by omega⟩ : Fin 1024)

/-- The factor of the second half. -/
def lam : EReal :=
  Ideal.exp (∑ x, L (ix2 (0 : Fin 4) x) * L (ix2 (1 : Fin 4) x)) - Ideal.exp (∑ x, L (ix2 (2 : Fin 4) x) * L (ix2 (3 : Fin 4) x))
    + Ideal.ofBits .f32 1045220557#32

/-- The difference of the two means. -/
def att (b h : Fin 8) (i : Fin 2048) (d : Fin 128) : EReal :=
  (mean P C b h 0 i d : EReal) - lam L * (mean P C b h 1 i d : EReal)

/-- One entry of the result: the difference over the root of its mean square, times the norm's weight and `1 - λ₀`. -/
def out (b h : Fin 8) (i : Fin 2048) (d : Fin 128) : EReal :=
  att P C L b h i d
      * Ideal.rsqrt (Ideal.div (∑ x, att P C L b h i x * att P C L b h i x) (Ideal.ofBits .f32 1124073472#32)
          + Ideal.ofBits .f32 897988541#32)
    * G (ix1 d) * Ideal.ofBits .f32 1061997773#32

/-- The result as an array: head `h` has the columns `128 h` to `128 h + 127`. -/
def result : FVec Ideal ⟨3, ![8, 2048, 1024]⟩ .bf16 := fun y =>
  out P C L G (y 0) (⟨(y 2 : ℕ) / 128, by have h : (y 2 : ℕ) < 1024 := (y 2).isLt; omega⟩ : Fin 8) (y 1)
    (⟨(y 2 : ℕ) % 128, Nat.mod_lt _ (by norm_num)⟩ : Fin 128)

/-- The entries the attention reads are real numbers. -/
structure Reals : Prop where
  proj : ∀ (b : Fin 8) (i : Fin 2048) (n : Fin 10240), 3072 ≤ (n : ℕ) → (n : ℕ) < 6144 →
    P (ix3 b i n) = ((P (ix3 b i n)).toReal : EReal)
  ctx : ∀ (b : Fin 8) (i : Fin 256) (n : Fin 4096), 2048 ≤ (n : ℕ) → C (ix3 b i n) = ((C (ix3 b i n)).toReal : EReal)
  lam : ∀ (a : Fin 4) (x : Fin 64), L (ix2 a x) = ((L (ix2 a x)).toReal : EReal)

end Cert.Proof.Diff

end
-- ==== Proof.Diff.Entry.lean ====
/- The arrays the host hands to the call: the projection with its queries scaled, the norm's weight as a row. -/
module

public import proofs.«01_k».proof.Proof.Diff.Tile
public import proofs.«01_k».proof.Proof.Diff.Spec
public import Idealize.ShloMosaic.Lib.Pointwise
public import Idealize.ShloMosaic.Lib.Claim
public import Idealize.ShloMosaic.Lib.Pipeline.ValueKit

@[expose] public section

set_option maxRecDepth 16384

noncomputable section

namespace Cert.Proof.Diff

open Cert.KernelIdeal Cert.KernelIdeal.Gen Idealize.ShloMosaic Idealize.ShloMosaic.TcCoe Idealize.SL.Sem
  Idealize.ShloMosaic.Pipeline

variable (m : (ℓ : Loc nD τ sig) → Buf (Elt Ideal) ℓ) (c : Dev nD)

/-- The projection's array. -/
abbrev proj : FVec Ideal S8x2048x10240 .bf16 := m ((c : Thread nD τ).loc main_arg0)

/-- The bits of two. -/
theorem bits_two : Ideal.ofBits .f32 1073741824#32 = ((2 : ℝ) : EReal) := by
  simp [Ideal.ofBits, Ideal.ieee]
  rw [← EReal.coe_mul]
  norm_num

/-- The bits of one eighth. -/
theorem bits_eighth : Ideal.ofBits .f32 1040187392#32 = ((8⁻¹ : ℝ) : EReal) := by
  simp [Ideal.ofBits, Ideal.ieee]
  rw [← EReal.coe_mul]
  congr 1
  norm_num

/-- The queries' scale is `1 / (8 log 2)`. -/
theorem scale_eq : Ideal.div (Ideal.ofBits .f32 1040187392#32) (Ideal.log (Ideal.ofBits .f32 1073741824#32))
    = ((8⁻¹ * (Real.log 2)⁻¹ : ℝ) : EReal) := by
  rw [bits_two, bits_eighth, Ideal.log_coe, if_neg (by norm_num), Softmax.div_real _ _ (Real.log_pos (by norm_num))]
  rfl

/-- A word below `2 ^ 31` compares as its number. -/
theorem sge_iff : ∀ n : Fin 10240, IntOp.cmpi CmpIPredicate.sge (BitVec.ofNat 32 (n : ℕ)) 3072#32
    = if 3072 ≤ (n : ℕ) then 1#1 else 0#1 := by decide +kernel

/-- The same below 4096. -/
theorem slt_iff : ∀ n : Fin 10240, IntOp.cmpi CmpIPredicate.slt (BitVec.ofNat 32 (n : ℕ)) 4096#32
    = if (n : ℕ) < 4096 then 1#1 else 0#1 := by decide +kernel

/-- The projection as the call takes it: its queries, columns 3072 to 4095, are scaled. -/
theorem entry_proj (b : Fin 8) (i : Fin 2048) (n : Fin 10240) :
    (V m c main_v12 : FVec Ideal S8x2048x10240 .bf16) (ix3 b i n)
      = if 3072 ≤ (n : ℕ) ∧ (n : ℕ) < 4096 then proj m c (ix3 b i n) * ((8⁻¹ * (Real.log 2)⁻¹ : ℝ) : EReal)
        else proj m c (ix3 b i n) := by
  entry_read
  pointwise
  rw [scale_eq, sge_iff, slt_iff]
  by_cases h : 3072 ≤ (n : ℕ) <;> by_cases h' : (n : ℕ) < 4096 <;> simp [h, h', IntOp.andi, Scalar.select] <;> rfl

/-- The norm's weight as a row. -/
theorem entry_g (n : Fin 128) :
    (V m c main_v13 : FVec Ideal S1x128 .f32) (ix2 (0 : Fin 1) n) = (m ((c : Thread nD τ).loc main_arg3) : FVec Ideal S128 .f32) (ix1 n) := by
  entry_read
  pointwise

end Cert.Proof.Diff

end
-- ==== Proof.Diff.Args.lean ====
/- What the blocks of the attention's arguments hold at a grid point, of batch element `t / 8` and head `t % 8`. -/
module

public import proofs.«01_k».proof.Proof.Diff.Entry
public import Idealize.ShloMosaic.Lib.Pointwise
public import Idealize.ShloMosaic.Lib.Claim
public import Idealize.ShloMosaic.Lib.Pipeline.ValueKit

@[expose] public section

set_option maxRecDepth 16384

noncomputable section

namespace Cert.Proof.Diff

open Cert.KernelIdeal Cert.KernelIdeal.Gen Idealize.ShloMosaic Idealize.ShloMosaic.TcCoe Idealize.SL.Sem
  Idealize.ShloMosaic.Pipeline

variable (m : (ℓ : Loc nD τ sig) → Buf (Elt Ideal) ℓ) (c : Dev nD)

/-- The batch element of a point. -/
abbrev bat (t : Fin cfg0.N) : Fin 8 := ⟨t.val / 8, by have h : t.val < 64 := t.isLt; omega⟩
/-- The head of a point. -/
abbrev head (t : Fin cfg0.N) : Fin 8 := ⟨t.val % 8, Nat.mod_lt _ (by norm_num)⟩

/-- The block of queries. -/
theorem blk_q (t : Fin cfg0.N) (r : Fin 2048) (j : Fin 128) : (iblk m c 0 t : FVec Ideal S1x2048x128 .bf16) (ix3 (0 : Fin 1) r j)
    = (V m c main_v12 : FVec Ideal S8x2048x10240 .bf16) (ix3 (bat t) r (⟨3072 + (128 * (t.val % 8) + j), by omega⟩ : Fin 10240)) := by
  blk_point [iblk, idx t]

/-- The block of latent keys. -/
theorem blk_k (t : Fin cfg0.N) (r : Fin 2048) (j : Fin 128) : (iblk m c 1 t : FVec Ideal S1x2048x128 .bf16) (ix3 (0 : Fin 1) r j)
    = (V m c main_v12 : FVec Ideal S8x2048x10240 .bf16) (ix3 (bat t) r (⟨4096 + (128 * (t.val % 8) + j), by omega⟩ : Fin 10240)) := by
  blk_point [iblk, idx t]

/-- The block of latent values. -/
theorem blk_v (t : Fin cfg0.N) (r : Fin 2048) (j : Fin 128) : (iblk m c 2 t : FVec Ideal S1x2048x128 .bf16) (ix3 (0 : Fin 1) r j)
    = (V m c main_v12 : FVec Ideal S8x2048x10240 .bf16) (ix3 (bat t) r (⟨5120 + (128 * (t.val % 8) + j), by omega⟩ : Fin 10240)) := by
  blk_point [iblk, idx t]

/-- The block of context keys. -/
theorem blk_kc (t : Fin cfg0.N) (r : Fin 256) (j : Fin 128) : (iblk m c 3 t : FVec Ideal S1x256x128 .bf16) (ix3 (0 : Fin 1) r j)
    = (m ((c : Thread nD τ).loc main_arg1) : FVec Ideal S8x256x4096 .bf16) (ix3 (bat t) r (⟨2048 + (128 * (t.val % 8) + j), by omega⟩ : Fin 4096)) := by
  blk_point [iblk, V, idx t]

/-- The block of context values. -/
theorem blk_vc (t : Fin cfg0.N) (r : Fin 256) (j : Fin 128) : (iblk m c 4 t : FVec Ideal S1x256x128 .bf16) (ix3 (0 : Fin 1) r j)
    = (m ((c : Thread nD τ).loc main_arg1) : FVec Ideal S8x256x4096 .bf16) (ix3 (bat t) r (⟨3072 + (128 * (t.val % 8) + j), by omega⟩ : Fin 4096)) := by
  blk_point [iblk, V, idx t]

/-- The whole array of the four vectors. -/
theorem blk_lam (t : Fin cfg0.N) : (iblk m c 5 t : FVec Ideal S4x64 .f32) = (m ((c : Thread nD τ).loc main_arg2) : FVec Ideal S4x64 .f32) := by
  funext y
  blk_point [iblk, V, idx t]

/-- The norm's weight. -/
theorem blk_g (t : Fin cfg0.N) (d : Fin 128) : (iblk m c 6 t : FVec Ideal S1x128 .f32) (ix2 (0 : Fin 1) d)
    = (V m c main_v13 : FVec Ideal S1x128 .f32) (ix2 (0 : Fin 1) d) := by
  blk_point [iblk, idx t]

end Cert.Proof.Diff

end
-- ==== Proof.Diff.Point.lean ====
/- One tile of the body, at an index: what the differential attention computes of one row of queries. -/
module

public import proofs.«01_k».proof.Proof.Diff.Tile
public import proofs.«01_k».proof.Proof.Diff.Spec
public import Idealize.ShloMosaic.Lib.Pointwise
public import Idealize.ShloMosaic.Lib.Claim
public import Idealize.ShloMosaic.Lib.Pipeline.ValueKit

@[expose] public section

set_option maxRecDepth 16384

noncomputable section

namespace Cert.Proof.Diff

open Cert.KernelIdeal Cert.KernelIdeal.Gen Idealize.ShloMosaic Idealize.ShloMosaic.TcCoe Idealize.SL.Sem
  Idealize.ShloMosaic.Pipeline

variable (P : Proj) (C : Ctx) (L : FVec Ideal ⟨2, ![4, 64]⟩ .f32) (G : FVec Ideal ⟨1, ![128]⟩ .f32)

/-- The factor of the second half, from its four vectors. -/
theorem lam_at (l : FVec Ideal S4x64 .f32) : k0_pay9 (F := Ideal) (k0_pay7 l) (k0_pay8 l) (ix2 (0 : Fin 1) (0 : Fin 1)) = lam l := by
  pointwise [k0_pay9, k0_pay7, k0_pay8]
  rfl

/-- A logit over `log 2`, from a query scaled by `1 / (8 log 2)`. -/
theorem logit_scaled (b h : Fin 8) (u : Fin 2) (i : Fin 2048) (k : Fin 2304) :
    (∑ j : Fin 64, ((qry P b i (col h u j) * (8⁻¹ * (Real.log 2)⁻¹) : ℝ) : EReal) * (key P C b k (col h u j) : EReal))
      = ((logit P C b h u i k * (Real.log 2)⁻¹ : ℝ) : EReal) := by
  simp only [← EReal.coe_mul]
  rw [Softmax.coe_sum]
  congr 1
  unfold logit
  rw [Finset.sum_mul, Finset.sum_mul]
  exact Finset.sum_congr rfl fun j _ => by ring

/-- One tile at row `r` and column `d`, its queries scaled rows of head `h`, its keys and values the head's. -/
theorem tile_at (lm : FVec Ideal S1x1 .f32) (q : FVec Ideal S1x256x128 .bf16) (ka : FVec Ideal S2304x128 .bf16)
    (va : FVec Ideal S2304x256 .bf16) (g : FVec Ideal S1x128 .f32) (b h : Fin 8) (i : Fin 2048) (r : Fin 256) (d : Fin 128)
    (hl : lm (ix2 (0 : Fin 1) (0 : Fin 1)) = lam L) (hg : ∀ d, g (ix2 (0 : Fin 1) d) = G (ix1 d))
    (hq : ∀ j : Fin 128, q (ix3 (0 : Fin 1) r j)
      = ((qry P b i (⟨128 * h + j, by omega⟩ : Fin 1024) * (8⁻¹ * (Real.log 2)⁻¹) : ℝ) : EReal))
    (hk : ∀ (k : Fin 2304) (j : Fin 128), ka (ix2 k j) = (key P C b k (⟨128 * h + j, by omega⟩ : Fin 1024) : EReal))
    (hv : ∀ (k : Fin 2304) (j : Fin 128), va (ix2 k (⟨j, by omega⟩ : Fin 256))
      = (val P C b k (⟨128 * h + j, by omega⟩ : Fin 1024) : EReal))
    (h1 : ∀ (k : Fin 2304) (j : Fin 128), va (ix2 k (⟨128 + j, by omega⟩ : Fin 256)) = 1) :
    tile lm q ka va g (ix3 (0 : Fin 1) r d) = out P C L G b h i d := by
  have l0 : ∀ k, k0_pay17 (F := Ideal) q ka (ix2 r k) = ((logit P C b h 0 i k * (Real.log 2)⁻¹ : ℝ) : EReal) := fun k => by
    rw [logits_low, ← logit_scaled]
    refine Finset.sum_congr rfl fun j _ => ?_
    have e : (⟨128 * h + j, by omega⟩ : Fin 1024) = col h 0 j := Fin.ext (by show 128 * (h : ℕ) + j = 128 * (h : ℕ) + 64 * 0 + j; omega)
    rw [hq, hk, e]
  have l1 : ∀ k, k0_pay18 (F := Ideal) q ka (ix2 r k) = ((logit P C b h 1 i k * (Real.log 2)⁻¹ : ℝ) : EReal) := fun k => by
    rw [logits_high, ← logit_scaled]
    refine Finset.sum_congr rfl fun j _ => ?_
    have e : (⟨128 * h + (64 + j), by omega⟩ : Fin 1024) = col h 1 j :=
      Fin.ext (by show 128 * (h : ℕ) + (64 + j) = 128 * (h : ℕ) + 64 * 1 + j; omega)
    rw [hq, hk, e]
  have o0 : ∀ d, k0_pay33 (F := Ideal) (k0_pay17 q ka) va (ix2 r d) = (mean P C b h 0 i d : EReal) := fun d =>
    mean_low _ va r d _ _ l0 (fun k => hv k d) (fun k => h1 k d)
  have o1 : ∀ d, k0_pay34 (F := Ideal) (k0_pay18 q ka) va (ix2 r d) = (mean P C b h 1 i d : EReal) := fun d =>
    mean_high _ va r d _ _ l1 (fun k => hv k d) (fun k => h1 k d)
  unfold tile
  generalize k0_pay33 (F := Ideal) (k0_pay17 q ka) va = a0 at o0 ⊢
  generalize k0_pay34 (F := Ideal) (k0_pay18 q ka) va = a1 at o1 ⊢
  pointwise [k0_pay35]
  simp only [o0, o1, hl, hg]
  rfl

end Cert.Proof.Diff

end
-- ==== Proof.Diff.Final.lean ====
/- The attention's result: each tile of the kernel's output block is the specification's. -/
module

public import proofs.«01_k».proof.Proof.Diff.Args
public import proofs.«01_k».proof.Proof.Diff.Point
public import Idealize.ShloMosaic.Lib.Pointwise
public import Idealize.ShloMosaic.Lib.Claim
public import Idealize.ShloMosaic.Lib.Pipeline.ValueKit

@[expose] public section

set_option maxRecDepth 16384

noncomputable section

namespace Cert.Proof.Diff

open Cert.KernelIdeal Cert.KernelIdeal.Gen Idealize.ShloMosaic Idealize.ShloMosaic.TcCoe Idealize.SL.Sem
  Idealize.ShloMosaic.Pipeline

variable (m : (ℓ : Loc nD τ sig) → Buf (Elt Ideal) ℓ) (c : Dev nD)

/-- The projection of the context. -/
abbrev ctxArr : Ctx := m ((c : Thread nD τ).loc main_arg1)
/-- The four vectors of the second half's factor. -/
abbrev lamArr : FVec Ideal S4x64 .f32 := m ((c : Thread nD τ).loc main_arg2)
/-- The norm's weight. -/
abbrev gArr : FVec Ideal S128 .f32 := m ((c : Thread nD τ).loc main_arg3)

variable {m c} in
/-- A scaled query of the block. -/
theorem q_val (hR : Reals (proj m c) (ctxArr m c) (lamArr m c)) (t : Fin cfg0.N) (r : Fin 2048) (j : Fin 128) :
    (iblk m c 0 t : FVec Ideal S1x2048x128 .bf16) (ix3 (0 : Fin 1) r j)
      = ((qry (proj m c) (bat t) r (⟨128 * (head t : ℕ) + j, by omega⟩ : Fin 1024) * (8⁻¹ * (Real.log 2)⁻¹) : ℝ) : EReal) := by
  have hh : t.val % 8 < 8 := Nat.mod_lt _ (by norm_num)
  rw [blk_q, entry_proj, if_pos ⟨by show 3072 ≤ 3072 + _; omega, by show 3072 + _ < 4096; omega⟩,
    hR.proj _ _ _ (by show 3072 ≤ 3072 + _; omega) (by show 3072 + _ < 6144; omega), ← EReal.coe_mul]
  rfl

variable {m c} in
/-- A key of the scratch. -/
theorem k_val (hR : Reals (proj m c) (ctxArr m c) (lamArr m c)) (t : Fin cfg0.N) (k : Fin 2304) (j : Fin 128) :
    keys (iblk m c 1 t) (iblk m c 3 t) (ix2 k j)
      = (key (proj m c) (ctxArr m c) (bat t) k (⟨128 * (head t : ℕ) + j, by omega⟩ : Fin 1024) : EReal) := by
  have hh : t.val % 8 < 8 := Nat.mod_lt _ (by norm_num)
  rw [keys_at]
  unfold key
  split
  · rw [blk_k, entry_proj, if_neg (by show ¬(_ ∧ 4096 + _ < 4096); omega),
      hR.proj _ _ _ (by show 3072 ≤ 4096 + _; omega) (by show 4096 + _ < 6144; omega)]
    rfl
  · rw [blk_kc]
    exact hR.ctx _ _ _ (by show 2048 ≤ 2048 + _; omega)

variable {m c} in
/-- A value of the scratch. -/
theorem v_val (hR : Reals (proj m c) (ctxArr m c) (lamArr m c)) (t : Fin cfg0.N) (k : Fin 2304) (j : Fin 128) :
    vals (iblk m c 2 t) (iblk m c 4 t) (ix2 k (⟨j, by omega⟩ : Fin 256))
      = (val (proj m c) (ctxArr m c) (bat t) k (⟨128 * (head t : ℕ) + j, by omega⟩ : Fin 1024) : EReal) := by
  have hh : t.val % 8 < 8 := Nat.mod_lt _ (by norm_num)
  rw [vals_at]
  unfold val
  split
  · rw [blk_v, entry_proj, if_neg (by show ¬(_ ∧ 5120 + _ < 4096); omega),
      hR.proj _ _ _ (by show 3072 ≤ 5120 + _; omega) (by show 5120 + _ < 6144; omega)]
    rfl
  · rw [blk_vc]
    exact hR.ctx _ _ _ (by show 2048 ≤ 3072 + _; omega)

/-- A load of 256 rows of the block of queries. -/
theorem ld_q (f : FVec Ideal S1x2048x128 .bf16) (o : ℕ) (ho : o + 256 ≤ 2048)
    (inb : ∀ a, (![0, o, 0] : Fin 3 → ℕ) a + (![1, 256, 128] : Fin 3 → ℕ) a ≤ S1x2048x128.size a) (r : Fin 256) (j : Fin 128) :
    View.ld (Val := Elt Ideal) (e' := .bf16) f (Rect.unit (s := S1x2048x128) ![0, o, 0] ![1, 256, 128] inb) (ix3 (0 : Fin 1) r j)
      = f (ix3 (0 : Fin 1) (⟨o + r, by omega⟩ : Fin 2048) j) := by
  refine congrArg f (funext fun a => Fin.ext ?_)
  match a with
  | ⟨0, _⟩ => rfl
  | ⟨1, _⟩ => show o + 1 * (r : ℕ) = o + r; omega
  | ⟨2, _⟩ => show 0 + 1 * (j : ℕ) = j; omega

variable {m c} in
/-- A tile of the block at point `t`, its queries the rows from `o` on. -/
theorem tile_val (hR : Reals (proj m c) (ctxArr m c) (lamArr m c)) (t : Fin cfg0.N) (o : ℕ) (ho : o + 256 ≤ 2048)
    (inb : ∀ a, (![0, o, 0] : Fin 3 → ℕ) a + (![1, 256, 128] : Fin 3 → ℕ) a ≤ S1x2048x128.size a)
    (x : S1x256x128.Idx) (z : (⟨3, ![8, 2048, 1024]⟩ : Shape).Idx)
    (z0 : (z 0 : ℕ) = t.val / 8) (z1 : (z 1 : ℕ) = o + x 1) (z2 : (z 2 : ℕ) = 128 * (t.val % 8) + x 2) :
    tile (k0_pay9 (k0_pay7 (iblk m c 5 t)) (k0_pay8 (iblk m c 5 t)))
        (View.ld (iblk m c 0 t) (Rect.unit (s := S1x2048x128) ![0, o, 0] ![1, 256, 128] inb))
        (keys (iblk m c 1 t) (iblk m c 3 t)) (vals (iblk m c 2 t) (iblk m c 4 t)) (iblk m c 6 t) x
      = result (proj m c) (ctxArr m c) (lamArr m c) (gArr m c) z := by
  have h0 : (x 0 : ℕ) = 0 := by have h : (x 0 : ℕ) < 1 := (x 0).isLt; omega
  have h1 : (x 1 : ℕ) < 256 := (x 1).isLt
  have h2 : (x 2 : ℕ) < 128 := (x 2).isLt
  have ex : x = ix3 (0 : Fin 1) (⟨x 1, h1⟩ : Fin 256) (⟨x 2, h2⟩ : Fin 128) := funext fun a => Fin.ext (by
    match a with
    | ⟨0, _⟩ => exact h0
    | ⟨1, _⟩ => rfl
    | ⟨2, _⟩ => rfl)
  have e0 : z 0 = bat t := Fin.ext z0
  have e1 : z 1 = (⟨o + x 1, by omega⟩ : Fin 2048) := Fin.ext z1
  have eh : (⟨(z 2 : ℕ) / 128, by have h : (z 2 : ℕ) < 1024 := (z 2).isLt; omega⟩ : Fin 8) = head t :=
    Fin.ext (by show (z 2 : ℕ) / 128 = t.val % 8; omega)
  have ed : (⟨(z 2 : ℕ) % 128, Nat.mod_lt _ (by norm_num)⟩ : Fin 128) = (⟨x 2, h2⟩ : Fin 128) :=
    Fin.ext (by show (z 2 : ℕ) % 128 = x 2; omega)
  unfold result
  rw [eh, ed, e0, e1]
  refine (congrArg _ ex).trans ?_
  refine tile_at (proj m c) (ctxArr m c) (lamArr m c) (gArr m c) _ _ _ _ _ (bat t) (head t) _ _ _ ?_ ?_ ?_ ?_ ?_ ?_
  · rw [blk_lam]; exact lam_at _
  · intro d; rw [blk_g, entry_g]
  · intro j; rw [ld_q _ o ho]; exact q_val hR t _ j
  · exact k_val hR t
  · exact v_val hR t
  · exact vals_one _ _

/-- Where an index of the output block at point `t` lies in the array. -/
theorem emb_out (t : Fin cfg0.N) (y : ((cfg0.win 12).xblock (cfg0.grid.coords t)).Idx) :
    ((((View.whole main_v14_0).slice (win0_12.rect t)).emb y 0 : ℕ) = t.val / 8 + (y 0 : ℕ))
    ∧ ((((View.whole main_v14_0).slice (win0_12.rect t)).emb y 1 : ℕ) = (y 1 : ℕ))
    ∧ ((((View.whole main_v14_0).slice (win0_12.rect t)).emb y 2 : ℕ) = 128 * (t.val % 8) + (y 2 : ℕ)) := by
  have hi := (idx t).2.2.2.2.2.2.2
  refine ⟨?_, ?_, ?_⟩
  · show win0_12.index t 0 * 1 + 1 * (y 0 : ℕ) = _
    rw [hi]; show t.val / 8 * 1 + 1 * (y 0 : ℕ) = _; omega
  · show win0_12.index t 1 * 2048 + 1 * (y 1 : ℕ) = _
    rw [hi]; show 0 * 2048 + 1 * (y 1 : ℕ) = _; omega
  · show win0_12.index t 2 * 128 + 1 * (y 2 : ℕ) = _
    rw [hi]; show t.val % 8 * 128 + 1 * (y 2 : ℕ) = _; omega

variable {m c} in
/-- The attention's result. -/
theorem final12 (hR : Reals (proj m c) (ctxArr m c) (lamArr m c)) :
    (dats m 0 c).arrAt 12 cfg0.N = result (proj m c) (ctxArr m c) (lamArr m c) (gArr m c) := by
  refine Dat.arrAt_eq_of_covers _ 12 _ (by decide +kernel) fun t _ y => ?_
  blk_simp
  rw [after0_12]
  simp only [outsAt0]
  frame_out
  obtain ⟨z0, z1, z2⟩ := emb_out t y
  generalize ((View.whole main_v14_0).slice (win0_12.rect t)).emb y = z at z0 z1 z2 ⊢
  canon_tiles x h
  all_goals refine Eq.trans (b := tile (k0_pay9 (k0_pay7 (iblk m c 5 t)) (k0_pay8 (iblk m c 5 t))) (View.ld (iblk m c 0 t) (Rect.unit ![0, _, 0] ![1, 256, 128] _)) (keys (iblk m c 1 t) (iblk m c 3 t)) (vals (iblk m c 2 t) (iblk m c 4 t)) (iblk m c 6 t) x) (by rfl) ?_
  all_goals exact tile_val hR t _ (by norm_num) _ x z (by omega) (by omega) (by omega)

end Cert.Proof.Diff

end
-- ==== Proof.Diff.Weights.lean ====
/- The five weights the call casts on the way: after the run each result array holds its argument, rounded to bf16,
   which on the extended reals is the argument itself. -/
module

public import proofs.«01_k».proof.Proof.Diff.Blocks
public import Idealize.ShloMosaic.Lib.Pointwise
public import Idealize.ShloMosaic.Lib.Claim
public import Idealize.ShloMosaic.Lib.Pipeline.ValueKit

@[expose] public section

set_option maxRecDepth 16384

noncomputable section

namespace Cert.Proof.Diff

open Cert.KernelIdeal Cert.KernelIdeal.Gen Idealize.ShloMosaic Idealize.ShloMosaic.TcCoe Idealize.SL.Sem
  Idealize.ShloMosaic.Pipeline

variable (m : (ℓ : Loc nD τ sig) → Buf (Elt Ideal) ℓ) (c : Dev nD)

/-- The first branch weight's cast is the weight. -/
theorem final13 : (dats m 0 c).arrAt 13 cfg0.N = (m ((c : Thread nD τ).loc main_arg4) : FVec Ideal S1024x2048 .f32) := by
  refine Dat.arrAt_eq_of_covers _ 13 _ (by decide +kernel) fun t _ y => ?_
  blk_simp
  rw [after0_13]
  frame_out
  pointwise [k0_pay2]
  blk_point [iblk, V, idxW t]

/-- The second branch weight's cast is the weight. -/
theorem final14 : (dats m 0 c).arrAt 14 cfg0.N = (m ((c : Thread nD τ).loc main_arg5) : FVec Ideal S1024x2048 .f32) := by
  refine Dat.arrAt_eq_of_covers _ 14 _ (by decide +kernel) fun t _ y => ?_
  blk_simp
  rw [after0_14]
  frame_out
  pointwise [k0_pay3]
  blk_point [iblk, V, idxW t]

/-- The output weight's cast is the weight. -/
theorem final15 : (dats m 0 c).arrAt 15 cfg0.N = (m ((c : Thread nD τ).loc main_arg6) : FVec Ideal S2048x2048 .f32) := by
  refine Dat.arrAt_eq_of_covers _ 15 _ (by decide +kernel) fun t _ y => ?_
  blk_simp
  rw [after0_15]
  frame_out
  pointwise [k0_pay4]
  blk_point [iblk, V, idxW t]

/-- The up-projection weight's cast is the weight. -/
theorem final16 : (dats m 0 c).arrAt 16 cfg0.N = (m ((c : Thread nD τ).loc main_arg7) : FVec Ideal S2048x11264 .f32) := by
  refine Dat.arrAt_eq_of_covers _ 16 _ (by decide +kernel) fun t _ y => ?_
  blk_simp
  rw [after0_16]
  frame_out
  pointwise [k0_pay5]
  blk_point [iblk, V, idxW t]

/-- The last weight's cast is the weight: its final slab is written again at every later point, with the same values. -/
theorem final17 : (dats m 0 c).arrAt 17 cfg0.N = (m ((c : Thread nD τ).loc main_arg8) : FVec Ideal S5632x2048 .f32) := by
  refine Dat.arrAt_eq_of_covers _ 17 _ (by decide +kernel) fun t _ y => ?_
  blk_simp
  rw [after0_17]
  frame_out
  pointwise [k0_pay6]
  blk_point [iblk, V, idxW t]

end Cert.Proof.Diff

end
-- ==== Proof.Diff.Ref.lean ====
/- What the reference computes, at an index: its logits, its softmax weights, the difference of the two means, the norm. -/
module

public import proofs.«01_k».proof.Proof.Diff.Spec
public import proofs.«01_k».proof.Proof.Gen.ReferenceIdeal.Read
public import Idealize.ShloMosaic.Lib.Pointwise
public import Idealize.ShloMosaic.Lib.Claim

@[expose] public section

set_option maxRecDepth 16384

noncomputable section

namespace Cert.Proof.Diff

open Cert.ReferenceIdeal Cert.ReferenceIdeal.Read Idealize.ShloMosaic

variable (P : Proj) (C : Ctx) (L : FVec Ideal ⟨2, ![4, 64]⟩ .f32) (G : FVec Ideal ⟨1, ![128]⟩ .f32)

/-- A query's entry. -/
theorem ref_q (hR : Reals P C L) (b : Fin 8) (i : Fin 2048) (h : Fin 8) (u : Fin 2) (j : Fin 64) :
    val_main_v3 (F := Ideal) P (ix5 b i h u j) = (qry P b i (col h u j) : EReal) := by
  pointwise [val_main_v3, val_main_v2, val_main_v0]
  refine (hR.proj _ _ _ (by show 3072 ≤ 3072 + _; omega) (by show 3072 + _ < 6144; omega)).trans ?_
  exact congrArg (fun n => ((P (ix3 b i n)).toReal : EReal))
    (Fin.ext (by show 3072 + ((h : ℕ) * 128 + u * 64 + j) = 3072 + (128 * h + 64 * u + j); omega))

/-- A key's entry. -/
theorem ref_k (hR : Reals P C L) (b : Fin 8) (k : Fin 2304) (h : Fin 8) (u : Fin 2) (j : Fin 64) :
    val_main_v28 (F := Ideal) P C (ix5 b k h u j) = (key P C b k (col h u j) : EReal) := by
  pointwise [val_main_v28, val_main_v5, val_main_v4, val_main_v0, val_main_v9, val_main_v8, val_main_v1]
  unfold key
  split
  · refine (hR.proj _ _ _ (by show 3072 ≤ 4096 + _; omega) (by show 4096 + _ < 6144; omega)).trans ?_
    exact congrArg (fun n => ((P (ix3 b _ n)).toReal : EReal))
      (Fin.ext (by show 4096 + ((h : ℕ) * 128 + u * 64 + j) = 4096 + (128 * h + 64 * u + j); omega))
  · refine (hR.ctx _ _ _ (by show 2048 ≤ 2048 + _; omega)).trans ?_
    exact congrArg (fun n => ((C (ix3 b _ n)).toReal : EReal))
      (Fin.ext (by show 2048 + ((h : ℕ) * 128 + u * 64 + j) = 2048 + (128 * h + 64 * u + j); omega))

/-- A value's entry. -/
theorem ref_v (hR : Reals P C L) (b : Fin 8) (k : Fin 2304) (h : Fin 8) (d : Fin 128) :
    val_main_v29 (F := Ideal) P C (ix4 b k h d) = (val P C b k (⟨128 * h + d, by omega⟩ : Fin 1024) : EReal) := by
  pointwise [val_main_v29, val_main_v7, val_main_v6, val_main_v0, val_main_v11, val_main_v10, val_main_v1]
  unfold val
  split
  · refine (hR.proj _ _ _ (by show 3072 ≤ 5120 + _; omega) (by show 5120 + _ < 6144; omega)).trans ?_
    exact congrArg (fun n => ((P (ix3 b _ n)).toReal : EReal))
      (Fin.ext (by show 5120 + ((h : ℕ) * 128 + d) = 5120 + (128 * h + d); omega))
  · refine (hR.ctx _ _ _ (by show 2048 ≤ 3072 + _; omega)).trans ?_
    exact congrArg (fun n => ((C (ix3 b _ n)).toReal : EReal))
      (Fin.ext (by show 3072 + ((h : ℕ) * 128 + d) = 3072 + (128 * h + d); omega))

/-- The factor of the second half. -/
theorem ref_lam : val_main_v27 (F := Ideal) L ix0 = lam L := by
  pointwise [val_main_v27, val_main_v26, val_main_v25, val_main_v24, val_main_v23, val_main_v22, val_main_v21, val_main_v20,
    val_main_v19, val_main_v18, val_main_v17, val_main_v16, val_main_v15, val_main_v14, val_main_v13, val_main_v12,
    val_main_cst, val_main_cst_0, val_main_cst_1]
  rfl

/-- The bits of one eighth. -/
theorem eighth : Ideal.ofBits .f32 1040187392#32 = ((8⁻¹ : ℝ) : EReal) := by
  simp [Ideal.ofBits, Ideal.ieee]
  rw [← EReal.coe_mul]
  congr 1
  norm_num

/-- The bits of −∞ are the least extended real. -/
theorem ref_bot : Ideal.ofBits FTy.f32 4286578688#32 = (⊥ : EReal) := by
  simp [Ideal.ofBits, Ideal.ieee]

/-- A logit. -/
theorem ref_logit (hR : Reals P C L) (b : Fin 8) (i : Fin 2048) (h : Fin 8) (u : Fin 2) (k : Fin 2304) :
    val_main_v32 (F := Ideal) P C (ix5 b h u i k) = (logit P C b h u i k : EReal) := by
  pointwise [val_main_v32, val_main_v31, val_main_v30, val_main_cst_2]
  simp only [ref_q P C L hR, ref_k P C L hR, eighth, ← EReal.coe_mul]
  rw [Softmax.coe_sum, ← EReal.coe_mul]
  rfl

/-- A host reduction by the greatest over the last of five axes, at an index. -/
theorem host_max {n0 n1 n2 n3 n4 : ℕ} (x : FVec Ideal ⟨5, ![n0, n1, n2, n3, n4]⟩ .f32) (z : FVec Ideal S_ .f32)
    (h : (⟨5, ![n0, n1, n2, n3, n4]⟩ : Shape).ReducesTo [4] ⟨4, ![n0, n1, n2, n3]⟩) (hu : 0 < S_.numel)
    (a : Fin n0) (b : Fin n1) (c : Fin n2) (d : Fin n3) :
    Host.reduce (FloatOps.maximumf (F := Ideal) (φ := .f32)) x z h hu (ix4 a b c d)
      = Finset.univ.fold max (z (Shape.Idx.first hu)) (fun k => x (ix5 a b c d k)) := by
  pointwise

/-- The greatest logit of a row. -/
theorem ref_max (b : Fin 8) (i : Fin 2048) (h : Fin 8) (u : Fin 2) :
    val_main_v33 (F := Ideal) P C (ix4 b h u i) = Finset.univ.fold max (Ideal.ofBits .f32 4286578688#32)
      fun k => val_main_v32 (F := Ideal) P C (ix5 b h u i k) := by
  unfold val_main_v33
  generalize val_main_v32 (F := Ideal) P C = y
  exact host_max y _ _ _ b h u i

/-- The exponential of a logit less the greatest. -/
theorem ref_exp (b : Fin 8) (i : Fin 2048) (h : Fin 8) (u : Fin 2) (k : Fin 2304) :
    val_main_v39 (F := Ideal) P C (ix5 b h u i k)
      = Ideal.exp (val_main_v32 (F := Ideal) P C (ix5 b h u i k)
          - max (Ideal.ofBits .f32 4286578688#32) (val_main_v33 (F := Ideal) P C (ix4 b h u i))) := by
  rw [val_main_v39_apply, val_main_v38_apply, val_main_v37_apply, val_main_v36_apply, val_main_v35_apply, val_main_v34_apply]
  have e : idx_main_v36 (idx_main_v37 (ix5 b h u i k)) = ix4 b h u i := funext fun a =>
    match a with | ⟨0, _⟩ => rfl | ⟨1, _⟩ => rfl | ⟨2, _⟩ => rfl | ⟨3, _⟩ => rfl
  rw [e]
  generalize val_main_v32 (F := Ideal) P C (ix5 b h u i k) = x
  generalize val_main_v33 (F := Ideal) P C (ix4 b h u i) = y
  rfl

/-- It over the sum of its row. -/
theorem ref_quot (b : Fin 8) (i : Fin 2048) (h : Fin 8) (u : Fin 2) (k : Fin 2304) :
    val_main_v43 (F := Ideal) P C (ix5 b h u i k)
      = Ideal.div (val_main_v39 (F := Ideal) P C (ix5 b h u i k)) (∑ k', val_main_v39 (F := Ideal) P C (ix5 b h u i k')) := by
  rw [val_main_v43_apply, val_main_v42_apply, val_main_v41_apply, val_main_v40_apply]
  have e : ∀ k', idx_main_v40 (idx_main_v41 (idx_main_v42 (ix5 b h u i k))) k' = ix5 b h u i k' := fun k' => funext fun a =>
    match a with | ⟨0, _⟩ => rfl | ⟨1, _⟩ => rfl | ⟨2, _⟩ => rfl | ⟨3, _⟩ => rfl | ⟨4, _⟩ => rfl
  simp only [e, val_main_cst_5_apply]
  generalize val_main_v39 (F := Ideal) P C = y
  refine congrArg (Ideal.div _) ?_
  show Ideal.ofBits .f32 0#32 + _ = _
  rw [show Ideal.ofBits .f32 0#32 = 0 by simp [Ideal.ofBits, Ideal.ieee], zero_add]

/-- A softmax weight. -/
theorem ref_soft (hR : Reals P C L) (b : Fin 8) (i : Fin 2048) (h : Fin 8) (u : Fin 2) (k : Fin 2304) :
    val_main_v43 (F := Ideal) P C (ix5 b h u i k) = (Softmax.soft (logit P C b h u i) k : EReal) := by
  obtain ⟨M, hM⟩ := Softmax.fold_max_real Finset.univ ⟨(0 : Fin 2304), Finset.mem_univ _⟩ (logit P C b h u i)
  rw [ref_quot]
  simp only [ref_exp, ref_max, ref_logit P C L hR, ref_bot, hM, bot_sup_eq, max_eq_right bot_le]
  exact Softmax.softmax_eq (by norm_num) _ M k

/-- The weights of the first half of a head. -/
theorem ref_half0 (b : Fin 8) (i : Fin 2048) (h : Fin 8) (k : Fin 2304) :
    val_main_v45 (F := Ideal) P C (ix4 b h i k) = val_main_v43 (F := Ideal) P C (ix5 b h 0 i k) := by
  rw [val_main_v45_apply, val_main_v44_apply]
  refine congrArg _ (funext fun a => Fin.ext ?_)
  match a with
  | ⟨0, _⟩ => show ((((b : ℕ) * 8 + h) * 2048 + i) * 2304 + k) / 37748736 = b; omega
  | ⟨1, _⟩ => show ((((b : ℕ) * 8 + h) * 2048 + i) * 2304 + k) / 4718592 % 8 = h; omega
  | ⟨2, _⟩ => rfl
  | ⟨3, _⟩ => show ((((b : ℕ) * 8 + h) * 2048 + i) * 2304 + k) / 2304 % 2048 = i; omega
  | ⟨4, _⟩ => show ((((b : ℕ) * 8 + h) * 2048 + i) * 2304 + k) % 2304 = k; omega

/-- The weights of the second half of a head. -/
theorem ref_half1 (b : Fin 8) (i : Fin 2048) (h : Fin 8) (k : Fin 2304) :
    val_main_v47 (F := Ideal) P C (ix4 b h i k) = val_main_v43 (F := Ideal) P C (ix5 b h 1 i k) := by
  rw [val_main_v47_apply, val_main_v46_apply]
  refine congrArg _ (funext fun a => Fin.ext ?_)
  match a with
  | ⟨0, _⟩ => show ((((b : ℕ) * 8 + h) * 2048 + i) * 2304 + k) / 37748736 = b; omega
  | ⟨1, _⟩ => show ((((b : ℕ) * 8 + h) * 2048 + i) * 2304 + k) / 4718592 % 8 = h; omega
  | ⟨2, _⟩ => rfl
  | ⟨3, _⟩ => show ((((b : ℕ) * 8 + h) * 2048 + i) * 2304 + k) / 2304 % 2048 = i; omega
  | ⟨4, _⟩ => show ((((b : ℕ) * 8 + h) * 2048 + i) * 2304 + k) % 2304 = k; omega

/-- The difference of the weights, times the values. -/
theorem ref_att (b : Fin 8) (i : Fin 2048) (h : Fin 8) (d : Fin 128) :
    val_main_v52 (F := Ideal) P C L (ix4 b i h d) = ∑ k, val_main_v29 (F := Ideal) P C (ix4 b k h d)
      * (val_main_v45 (F := Ideal) P C (ix4 b h i k) - val_main_v27 (F := Ideal) L ix0 * val_main_v47 (F := Ideal) P C (ix4 b h i k)) := by
  rw [val_main_v52_apply, val_main_v51_apply]
  refine Finset.sum_congr rfl fun k _ => ?_
  rw [val_main_v50_apply, val_main_v49_apply, val_main_v48_apply]
  have e : lidx_main_v51 (idx_main_v52 (ix4 b i h d)) k = ix4 b k h d := funext fun a =>
    match a with | ⟨0, _⟩ => rfl | ⟨1, _⟩ => rfl | ⟨2, _⟩ => rfl | ⟨3, _⟩ => rfl
  have e' : ridx_main_v51 (idx_main_v52 (ix4 b i h d)) k = ix4 b h i k := funext fun a =>
    match a with | ⟨0, _⟩ => rfl | ⟨1, _⟩ => rfl | ⟨2, _⟩ => rfl | ⟨3, _⟩ => rfl
  have e0 : ∀ j : S_.Idx, j = ix0 := fun j => funext fun a => a.elim0
  rw [e, e', e0 (idx_main_v48 _)]
  generalize val_main_v29 (F := Ideal) P C (ix4 b k h d) = x
  generalize val_main_v45 (F := Ideal) P C (ix4 b h i k) = y
  generalize val_main_v47 (F := Ideal) P C (ix4 b h i k) = z
  rfl

/-- The factor of the second half is a real number. -/
theorem lam_real (hR : Reals P C L) : ∃ l : ℝ, lam L = (l : EReal) := by
  have hc : ∃ r : ℝ, Ideal.ofBits .f32 1045220557#32 = (r : EReal) := ⟨_, by simp [Ideal.ofBits, Ideal.ieee]; rfl⟩
  obtain ⟨r, hr⟩ := hc
  refine ⟨Real.exp (∑ x, (L (ix2 (0 : Fin 4) x)).toReal * (L (ix2 (1 : Fin 4) x)).toReal)
    - Real.exp (∑ x, (L (ix2 (2 : Fin 4) x)).toReal * (L (ix2 (3 : Fin 4) x)).toReal) + r, ?_⟩
  have e : ∀ a a' : Fin 4, (∑ x, L (ix2 a x) * L (ix2 a' x))
      = ((∑ x, (L (ix2 a x)).toReal * (L (ix2 a' x)).toReal : ℝ) : EReal) := fun a a' => by
    rw [← Softmax.coe_sum]
    refine Finset.sum_congr rfl fun x _ => ?_
    rw [EReal.coe_mul, ← hR.lam a x, ← hR.lam a' x]
  unfold lam
  rw [e, e, hr, Ideal.exp_coe, Ideal.exp_coe, ← EReal.coe_sub, ← EReal.coe_add]

/-- The difference of the two means. -/
theorem ref_diff (hR : Reals P C L) (b : Fin 8) (i : Fin 2048) (h : Fin 8) (d : Fin 128) :
    val_main_v52 (F := Ideal) P C L (ix4 b i h d) = att P C L b h i d := by
  obtain ⟨l, hl⟩ := lam_real P C L hR
  rw [ref_att]
  simp only [ref_half0, ref_half1, ref_soft P C L hR, ref_v P C L hR, ref_lam, hl]
  rw [Softmax.diff_sum]
  unfold att mean
  rw [hl]

/-- The reference's result. -/
theorem ref_out (hR : Reals P C L) : val_main_v69 (F := Ideal) P C L G = result P C L G := by
  funext y
  idx_vars y
  pointwise [val_main_v69, val_main_v68, val_main_v67, val_main_v66, val_main_v65, val_main_v64, val_main_v63, val_main_v62,
    val_main_v61, val_main_v60, val_main_v59, val_main_v58, val_main_v57, val_main_v56, val_main_v55, val_main_v54,
    val_main_v53, val_main_cst_6, val_main_cst_7, val_main_cst_8, val_main_cst_9]
  simp only [ref_diff P C L hR]
  rfl

end Cert.Proof.Diff

end
-- ==== Proof.Diff.Pre.lean ====
/- What the precondition says: the columns the attention reads and the four vectors are real numbers. -/
module

public import proofs.«01_k».proof.Proof.Diff.Spec
public import proofs.«01_k».proof.Proof.Gen.Pre_finite
public import Idealize.ShloMosaic.Lib.ReduceAll
public import Idealize.ShloMosaic.Lib.Pointwise
public import Idealize.ShloMosaic.Lib.Claim

@[expose] public section

set_option maxRecDepth 16384

noncomputable section

namespace Cert.Proof.Diff

open Cert.Pre_finite Idealize.ShloMosaic

/-- An extended real whose absolute value is below +∞ is a real number. -/
theorem real_of_abs {x : EReal} (h : FloatOps.cmpf (F := Ideal) (φ := .f32) .olt (FloatOps.hostAbsf (F := Ideal) (φ := .f32) x)
    (Ideal.ofBits .f32 2139095040#32) = 1#1) : x = (x.toReal : EReal) := by
  have hi : Ideal.ofBits .f32 2139095040#32 = (⊤ : EReal) := by simp [Ideal.ofBits, Ideal.ieee]
  rw [hi] at h
  induction x with
  | bot => exfalso; revert h; simp [FloatOps.cmpf, FloatOps.hostAbsf, Ideal.cmp]
  | top => exfalso; revert h; simp [FloatOps.cmpf, FloatOps.hostAbsf, Ideal.cmp]
  | coe r => rfl

/-- Under the precondition the entries the attention reads are real numbers. -/
theorem reals_of_pre (P : Proj) (C : Ctx) (L : FVec Ideal ⟨2, ![4, 64]⟩ .f32) (G : FVec Ideal ⟨1, ![128]⟩ .f32)
    (w1 w2 : FVec Ideal S1024x2048 .f32) (w3 : FVec Ideal S2048x2048 .f32) (w4 : FVec Ideal S2048x11264 .f32)
    (w5 : FVec Ideal S5632x2048 .f32) (h : fn (F := Ideal) P C L G w1 w2 w3 w4 w5 = fun _ => 1#1) : Reals P C L := by
  have h := congrFun h ix0
  dsimp only [fn] at h
  obtain ⟨h12, h3⟩ := IntOp.andi_eq_one.mp h
  obtain ⟨h1, h2⟩ := IntOp.andi_eq_one.mp h12
  refine ⟨fun b i n hn hn' => ?_, fun b i n hn => ?_, fun a x => ?_⟩
  · have e := Host.reduce_andi_all _ _ _ _ _ h1 (ix3 b i (⟨(n : ℕ) - 3072, by omega⟩ : Fin 3072))
    have r : extractStridedSlice S8x2048x3072 ![0, 0, 3072] P Gen.slices_S8x2048x10240_S8x2048x3072_0_0_3072
        (ix3 b i (⟨(n : ℕ) - 3072, by omega⟩ : Fin 3072)) = P (ix3 b i n) := by
      pointwise
      exact congrArg (fun n => P (ix3 b i n)) (Fin.ext (by show 3072 + ((n : ℕ) - 3072) = n; omega))
    rw [← r]
    exact real_of_abs e
  · have e := Host.reduce_andi_all _ _ _ _ _ h2 (ix3 b i (⟨(n : ℕ) - 2048, by omega⟩ : Fin 2048))
    have r : extractStridedSlice S8x256x2048 ![0, 0, 2048] C Gen.slices_S8x256x4096_S8x256x2048_0_0_2048
        (ix3 b i (⟨(n : ℕ) - 2048, by omega⟩ : Fin 2048)) = C (ix3 b i n) := by
      pointwise
      exact congrArg (fun n => C (ix3 b i n)) (Fin.ext (by show 2048 + ((n : ℕ) - 2048) = n; omega))
    rw [← r]
    exact real_of_abs e
  · exact real_of_abs (Host.reduce_andi_all _ _ _ _ _ h3 (ix2 a x))

end Cert.Proof.Diff

end
-- ==== Proof.Diff.Claims.lean ====
/- The claims of the differential attention: its frames, and that its six results are the reference's. -/
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import proofs.«01_k».proof.Proof.Diff.Final
public import proofs.«01_k».proof.Proof.Diff.Weights
public import proofs.«01_k».proof.Proof.Diff.Ref
public import proofs.«01_k».proof.Proof.Diff.Pre

@[expose] public section

set_option maxRecDepth 16384

noncomputable section

namespace Cert.Proof.Diff

open Idealize.ShloMosaic Idealize.SL.Sem

theorem frame_k : quiescent_Kernel := fun m g _ => Cert.Kernel.Gen.frame m g

theorem frame_ki : quiescent_KernelIdeal := fun m g _ => Cert.KernelIdeal.Gen.frame m g

theorem frame_ki_pre : quiescent_KernelIdeal_pre_finite := fun m g _ => Cert.KernelIdeal.Gen.frame m g

theorem frame_ri : quiescent_ReferenceIdeal := fun m g _ =>
  (θ_run Cert.ReferenceIdeal.defs _ _).mono (fun r h => ⟨fun c => (h c).2.2.2.2.2.2, sem_eq_zero_of_no_sems (by decide) r.2⟩)
    (Cert.ReferenceIdeal.Value.run (F := Ideal) m g)

theorem frame_ri_pre : quiescent_ReferenceIdeal_pre_finite := fun m g _ =>
  (θ_run Cert.ReferenceIdeal.defs _ _).mono (fun r h => ⟨fun c => (h c).2.2.2.2.2.2, sem_eq_zero_of_no_sems (by decide) r.2⟩)
    (Cert.ReferenceIdeal.Value.run (F := Ideal) m g)

/-- Under the precondition the kernel's six results are the reference's. -/
theorem algebraic : algebraic_KernelIdeal_ReferenceIdeal_pre_finite := by
  pair_intro
  · run_from (Cert.KernelIdeal.Value.run_blocks m g)
  · run_from (Cert.ReferenceIdeal.Value.run m' g')
    · rw [Cert.ReferenceIdeal.Read.val_main_v69_eq, (hagree c).1, (hagree c).2.1, (hagree c).2.2.1, (hagree c).2.2.2.1]
      have hR : Reals (proj m c) (ctxArr m c) (lamArr m c) := reals_of_pre _ _ _ (gArr m c) _ _ _ _ _ (hpre c)
      exact (ref_out _ _ _ _ hR).trans (final12 hR).symm
    · exact (final13 m c).symm
    · exact (final14 m c).symm
    · exact (final15 m c).symm
    · exact (final16 m c).symm
    · exact (final17 m c).symm

end Cert.Proof.Diff

end
-- ==== Proof.Common.Rows.lean ====
/- The norm of a row of 2048 entries by the root of its mean square. -/
module

public import Idealize.ShloMosaic.Lib.Pointwise
public import Idealize.ShloMosaic.Lib.Claim
public import Idealize.ShloMosaic.Lib.Pipeline.ValueKit

@[expose] public section

set_option maxRecDepth 16384

noncomputable section

namespace Cert.Proof.Common

open Idealize.ShloMosaic Idealize.ShloMosaic.TcCoe Idealize.SL.Sem Idealize.ShloMosaic.Pipeline

/-- One over the root of the mean square of a row, a small constant added to it. -/
def inv (x : Fin 2048 → EReal) : EReal :=
  Ideal.rsqrt (Ideal.div (∑ k, x k * x k) (Ideal.ofBits FTy.f32 1157627904#32) + Ideal.ofBits FTy.f32 897988541#32)

/-- The batch element of a row of the flat arrays. -/
abbrev batch (r : Fin 16384) : Fin 8 := ⟨(r : ℕ) / 2048, by omega⟩
/-- Its place in the batch element. -/
abbrev place (r : Fin 16384) : Fin 2048 := ⟨(r : ℕ) % 2048, by omega⟩

/-- An index of two axes by its coordinates. -/
theorem split2 {a b : ℕ} (x : (⟨2, ![a, b]⟩ : Shape).Idx) : ∃ (r : Fin a) (n : Fin b), x = ix2 r n :=
  ⟨x 0, x 1, funext fun d => match d with | ⟨0, _⟩ => rfl | ⟨1, _⟩ => rfl⟩

/-- A load of the rows from `o` on, of a block of `a` rows. -/
theorem ld_rows {e : EltTy} {a n k : ℕ} (f : Vec Ideal ⟨2, ![a, n]⟩ e) (o : ℕ) (ho : o + k ≤ a)
    (inb : ∀ d, (![o, 0] : Fin 2 → ℕ) d + (![k, n] : Fin 2 → ℕ) d ≤ (⟨2, ![a, n]⟩ : Shape).size d) (r : Fin k) (j : Fin n) :
    View.ld (Val := Elt Ideal) (e' := e) f (Rect.unit (s := ⟨2, ![a, n]⟩) ![o, 0] ![k, n] inb) (ix2 r j)
      = f (ix2 (⟨o + r, by omega⟩ : Fin a) j) := by
  refine congrArg f (funext fun d => Fin.ext ?_)
  match d with
  | ⟨0, _⟩ => show o + 1 * (r : ℕ) = o + r; omega
  | ⟨1, _⟩ => show 0 + 1 * (j : ℕ) = j; omega

/-- A load of a whole block. -/
theorem ld_whole {e : EltTy} {a n : ℕ} (f : Vec Ideal ⟨2, ![a, n]⟩ e)
    (inb : ∀ d, (![0, 0] : Fin 2 → ℕ) d + (![a, n] : Fin 2 → ℕ) d ≤ (⟨2, ![a, n]⟩ : Shape).size d) (r : Fin a) (j : Fin n) :
    View.ld (Val := Elt Ideal) (e' := e) f (Rect.unit (s := ⟨2, ![a, n]⟩) ![0, 0] ![a, n] inb) (ix2 r j) = f (ix2 r j) := by
  rw [ld_rows f 0 (by omega)]
  exact congrArg (fun i => f (ix2 i j)) (Fin.ext (by show 0 + (r : ℕ) = r; omega))

/-- A load of a whole block of one row, under two axes of one. -/
theorem ld_row3 {e : EltTy} {n : ℕ} (f : Vec Ideal ⟨3, ![1, 1, n]⟩ e)
    (inb : ∀ d, (![0, 0, 0] : Fin 3 → ℕ) d + (![1, 1, n] : Fin 3 → ℕ) d ≤ (⟨3, ![1, 1, n]⟩ : Shape).size d) (j : Fin n) :
    View.ld (Val := Elt Ideal) (e' := e) f (Rect.unit (s := ⟨3, ![1, 1, n]⟩) ![0, 0, 0] ![1, 1, n] inb) (ix3 (0 : Fin 1) (0 : Fin 1) j)
      = f (ix3 (0 : Fin 1) (0 : Fin 1) j) := by
  refine congrArg f (funext fun d => Fin.ext ?_)
  match d with
  | ⟨0, _⟩ => rfl
  | ⟨1, _⟩ => rfl
  | ⟨2, _⟩ => show 0 + 1 * (j : ℕ) = j; omega

end Cert.Proof.Common

end
-- ==== Proof.Down.Ref.lean ====
/- What `ffn_down` computes: the residual with the gated product, normed. -/
module

public import proofs.«01_k».proof.Proof.Common.Rows
public import proofs.«01_k».proof.Proof.Gen.DownRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.Proof.Down

open Idealize.ShloMosaic Idealize.ShloMosaic.TcCoe Idealize.SL.Sem Idealize.ShloMosaic.Pipeline

open Common Cert.DownRefIdeal Cert.DownRefIdeal.Read

variable (A : FVec Ideal ⟨2, ![16384, 5632]⟩ .bf16) (W : FVec Ideal ⟨2, ![5632, 2048]⟩ .bf16)
  (X : FVec Ideal ⟨2, ![16384, 2048]⟩ .f32) (G : FVec Ideal ⟨3, ![8, 1, 2048]⟩ .f32) (g : FVec Ideal ⟨1, ![2048]⟩ .f32)

/-- An entry of the stream: the residual and the gated product. -/
def stream (r : Fin 16384) (n : Fin 2048) : EReal :=
  X (ix2 r n) + G (ix3 (batch r) (0 : Fin 1) n) * ∑ k, A (ix2 r k) * W (ix2 k n)

/-- The result: the stream, normed. -/
def result : FVec Ideal ⟨2, ![16384, 2048]⟩ .f32 := fun i =>
  stream A W X G (i 0) (i 1) * inv (stream A W X G (i 0)) * g (ix1 (i 1))

/-- The reference's stream. -/
theorem ref_stream (r : Fin 16384) (n : Fin 2048) :
    val_main_v7 (F := Ideal) A W X G (ix3 (batch r) (place r) n) = stream A W X G r n := by
  pointwise [val_main_v7, val_main_v6, val_main_v5, val_main_v4, val_main_v3, val_main_v2, val_main_v1, val_main_v0]
  have e : (⟨(r : ℕ) / 2048 * 2048 + (r : ℕ) % 2048, by omega⟩ : Fin 16384) = r := Fin.ext (by show (r : ℕ) / 2048 * 2048 + (r : ℕ) % 2048 = r; omega)
  simp only [e]
  rfl

/-- The reference's result is `result`. -/
theorem ref_out : val_main_v21 (F := Ideal) A W X G g = result A W X G g := by
  funext i
  idx_vars i
  rename' i0 => r, i1 => n
  rw [val_main_v21_apply]
  have e : idx_main_v21 (ix2 r n) = ix3 (batch r) (place r) n := funext fun a => Fin.ext (by
    have hn : (n : ℕ) < 2048 := n.isLt
    match a with
    | ⟨0, _⟩ => show ((r : ℕ) * 2048 + n) / 4194304 = (r : ℕ) / 2048; omega
    | ⟨1, _⟩ => show ((r : ℕ) * 2048 + n) / 2048 % 2048 = (r : ℕ) % 2048; omega
    | ⟨2, _⟩ => show ((r : ℕ) * 2048 + n) % 2048 = n; omega)
  rw [e]
  unfold val_main_v20 val_main_v17 val_main_v16 val_main_v15 val_main_v14 val_main_v12 val_main_v10 val_main_v9 val_main_v8
  have hs := ref_stream A W X G r
  generalize val_main_v7 (F := Ideal) A W X G = y at hs ⊢
  pointwise [val_main_v19, val_main_v18, val_main_v13, val_main_v11, val_main_cst, val_main_cst_0, val_main_cst_1]
  simp only [hs]
  rfl

end Cert.Proof.Down

end
-- ==== Proof.Down.Final.lean ====
/- The call `ffn_down` leaves `result` in its output array. -/
module

public import proofs.«01_k».proof.Proof.Gen.DownIdeal.Value
public import proofs.«01_k».proof.Proof.Down.Ref
public import Idealize.ShloMosaic.Lib.Pointwise
public import Idealize.ShloMosaic.Lib.Claim
public import Idealize.ShloMosaic.Lib.Pipeline.ValueKit

@[expose] public section

set_option maxRecDepth 16384

noncomputable section

namespace Cert.Proof.Down

open Idealize.ShloMosaic Idealize.ShloMosaic.TcCoe Idealize.SL.Sem Idealize.ShloMosaic.Pipeline

open Common Cert.DownIdeal Cert.DownIdeal.Gen

variable (m : (ℓ : Loc nD τ sig) → Buf (Elt Ideal) ℓ) (c : Dev nD)

/-- The block indices of all windows at point `t`, the 512 rows from `512 t` on. -/
theorem idx : ∀ t : Fin cfg0.N,
    win0_0.index t = ![t.val, 0] ∧ win0_1.index t = ![0, 0] ∧ win0_2.index t = ![t.val, 0]
    ∧ win0_3.index t = ![t.val / 4, 0, 0] ∧ win0_4.index t = ![0, 0] ∧ win0_5.index t = ![t.val, 0] :=
  (by decide +kernel : ∀ t : Fin grid0.N, _)

/-- The argument arrays. -/
abbrev aA : FVec Ideal S16384x5632 .bf16 := m ((c : Thread nD τ).loc main_arg0)
abbrev aW : FVec Ideal S5632x2048 .bf16 := m ((c : Thread nD τ).loc main_arg1)
abbrev aX : FVec Ideal S16384x2048 .f32 := m ((c : Thread nD τ).loc main_arg2)
abbrev aG : FVec Ideal S8x1x2048 .f32 := m ((c : Thread nD τ).loc main_arg3)
abbrev ag : FVec Ideal S2048 .f32 := m ((c : Thread nD τ).loc main_arg4)

/-- The blocks of the arguments. -/
theorem blk_a (t : Fin cfg0.N) (r : Fin 512) (k : Fin 5632) : (iblk m c 0 t : FVec Ideal S512x5632 .bf16) (ix2 r k)
    = aA m c (ix2 (⟨512 * t.val + r, by have h : t.val < 32 := t.isLt; omega⟩ : Fin 16384) k) := by
  blk_point [iblk, V, idx t]

theorem blk_w (t : Fin cfg0.N) (k : Fin 5632) (n : Fin 2048) : (iblk m c 1 t : FVec Ideal S5632x2048 .bf16) (ix2 k n)
    = aW m c (ix2 k n) := by
  blk_point [iblk, V, idx t]

theorem blk_x (t : Fin cfg0.N) (r : Fin 512) (n : Fin 2048) : (iblk m c 2 t : FVec Ideal S512x2048 .f32) (ix2 r n)
    = aX m c (ix2 (⟨512 * t.val + r, by have h : t.val < 32 := t.isLt; omega⟩ : Fin 16384) n) := by
  blk_point [iblk, V, idx t]

theorem blk_gate (t : Fin cfg0.N) (n : Fin 2048) : (iblk m c 3 t : FVec Ideal S1x1x2048 .f32) (ix3 (0 : Fin 1) (0 : Fin 1) n)
    = aG m c (ix3 (⟨t.val / 4, by have h : t.val < 32 := t.isLt; omega⟩ : Fin 8) (0 : Fin 1) n) := by
  blk_point [iblk, V, idx t]

theorem blk_g (t : Fin cfg0.N) (n : Fin 2048) : (iblk m c 4 t : FVec Ideal S1x2048 .f32) (ix2 (0 : Fin 1) n) = ag m c (ix1 n) := by
  refine Eq.trans (b := (V m c main_v0 : FVec Ideal S1x2048 .f32) (ix2 (0 : Fin 1) n)) (by blk_point [iblk, idx t]) ?_
  entry_read
  pointwise

/-- A tile: 256 rows of the block, at an index. -/
theorem tile_at (v0 : FVec Ideal S256x2048 .f32) (v1 : FVec Ideal S1x1x2048 .f32) (v3 : FVec Ideal S256x5632 .bf16)
    (v4 : FVec Ideal S5632x2048 .bf16) (v9 : FVec Ideal S1x2048 .f32) (r : Fin 256) (R : Fin 16384) (n : Fin 2048)
    (A : FVec Ideal S16384x5632 .bf16) (W : FVec Ideal S5632x2048 .bf16)
    (X : FVec Ideal S16384x2048 .f32) (G : FVec Ideal S8x1x2048 .f32) (g : FVec Ideal S2048 .f32)
    (h0 : ∀ n, v0 (ix2 r n) = X (ix2 R n)) (h1 : ∀ n, v1 (ix3 (0 : Fin 1) (0 : Fin 1) n) = G (ix3 (batch R) (0 : Fin 1) n))
    (h3 : ∀ k, v3 (ix2 r k) = A (ix2 R k)) (h4 : ∀ k n, v4 (ix2 k n) = W (ix2 k n)) (h9 : ∀ n, v9 (ix2 (0 : Fin 1) n) = g (ix1 n)) :
    k0_pay2 (F := Ideal) v0 v1 v3 v4 v9 (ix2 r n) = result A W X G g (ix2 R n) := by
  pointwise [k0_pay2]
  simp only [h0, h1, h3, h4, h9]
  rfl

/-- Where an index of the output block lies in the array. -/
theorem emb_out (t : Fin cfg0.N) (y : ((cfg0.win 5).xblock (cfg0.grid.coords t)).Idx) :
    ((((View.whole main_v1).slice (win0_5.rect t)).emb y 0 : ℕ) = 512 * t.val + (y 0 : ℕ))
    ∧ ((((View.whole main_v1).slice (win0_5.rect t)).emb y 1 : ℕ) = (y 1 : ℕ)) := by
  have hi := (idx t).2.2.2.2.2
  refine ⟨?_, ?_⟩
  · show win0_5.index t 0 * 512 + 1 * (y 0 : ℕ) = _
    rw [hi]; show t.val * 512 + 1 * (y 0 : ℕ) = _; omega
  · show win0_5.index t 1 * 2048 + 1 * (y 1 : ℕ) = _
    rw [hi]; show 0 * 2048 + 1 * (y 1 : ℕ) = _; omega

/-- A tile of the block at point `t`, its rows those from `o` on. -/
theorem tile_val (t : Fin cfg0.N) (o : ℕ) (ho : o + 256 ≤ 512) (i1 i2 i3 i4 i5)
    (x : S256x2048.Idx) (z : S16384x2048.Idx) (z0 : (z 0 : ℕ) = 512 * t.val + (o + x 0)) (z1 : (z 1 : ℕ) = x 1) :
    k0_pay2 (F := Ideal) (View.ld (iblk m c 2 t) (Rect.unit (s := S512x2048) ![o, 0] ![256, 2048] i1))
        (View.ld (iblk m c 3 t) (Rect.unit (s := S1x1x2048) ![0, 0, 0] ![1, 1, 2048] i2))
        (View.ld (iblk m c 0 t) (Rect.unit (s := S512x5632) ![o, 0] ![256, 5632] i3))
        (View.ld (iblk m c 1 t) (Rect.unit (s := S5632x2048) ![0, 0] ![5632, 2048] i4))
        (View.ld (iblk m c 4 t) (Rect.unit (s := S1x2048) ![0, 0] ![1, 2048] i5)) x
      = result (aA m c) (aW m c) (aX m c) (aG m c) (ag m c) z := by
  obtain ⟨r, n, rfl⟩ := split2 x
  obtain ⟨R, n', rfl⟩ := split2 z
  replace z0 : (R : ℕ) = 512 * t.val + (o + r) := z0
  obtain rfl : n' = n := Fin.ext z1
  have ht : t.val < 32 := t.isLt
  have e0 : (⟨512 * t.val + (o + r), by omega⟩ : Fin 16384) = R := Fin.ext z0.symm
  have eb : (⟨t.val / 4, by omega⟩ : Fin 8) = batch R := Fin.ext (by show t.val / 4 = (R : ℕ) / 2048; omega)
  refine tile_at _ _ _ _ _ r R n' _ _ _ _ _ ?_ ?_ ?_ ?_ ?_
  · exact fun n => (ld_rows _ o ho _ r n).trans ((blk_x m c t _ n).trans (by rw [← e0]))
  · exact fun n => (ld_row3 _ _ n).trans ((blk_gate m c t n).trans (by rw [← eb]))
  · exact fun k => (ld_rows _ o ho _ r k).trans ((blk_a m c t _ k).trans (by rw [← e0]))
  · exact fun k n => (ld_whole _ _ k n).trans (blk_w m c t k n)
  · exact fun n => (ld_whole _ _ 0 n).trans (blk_g m c t n)

/-- The output array. -/
theorem final : (dats m 0 c).arrAt 5 cfg0.N = result (aA m c) (aW m c) (aX m c) (aG m c) (ag m c) := by
  refine Dat.arrAt_eq_of_covers _ 5 _ (by decide +kernel) fun t _ y => ?_
  blk_simp
  rw [after0_5]
  unfold out0_5
  obtain ⟨z0, z1⟩ := emb_out t y
  generalize ((View.whole main_v1).slice (win0_5.rect t)).emb y = z at z0 z1 ⊢
  canon_tiles x h
  · refine Eq.trans ?_ (tile_val m c t 256 (by norm_num) inb_S512x2048_S256x2048_256_0 inb_S1x1x2048_S1x1x2048_0_0_0
      inb_S512x5632_S256x5632_256_0 inb_S5632x2048_S5632x2048_0_0 inb_S1x2048_S1x2048_0_0 x z (by omega) (by omega))
    rfl
  · exact tile_val m c t 0 (by norm_num) inb_S512x2048_S256x2048_0_0 inb_S1x1x2048_S1x1x2048_0_0_0
      inb_S512x5632_S256x5632_0_0 inb_S5632x2048_S5632x2048_0_0 inb_S1x2048_S1x2048_0_0 x z (by omega) (by omega)

end Cert.Proof.Down

end
-- ==== Proof.Down.Claims.lean ====
/- The claims of the call stated as `Down`. -/
module

public import proofs.«01_k».proof.Defs
public import proofs.«01_k».proof.Proof.Gen.Down
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Down.Final
public import Idealize.ShloMosaic.Lib.Claim

@[expose] public section

set_option maxRecDepth 16384

noncomputable section

namespace Cert.Proof.Down

open Idealize.ShloMosaic Idealize.SL.Sem

theorem frame_k : quiescent_Down := fun m g _ => Cert.Down.Gen.frame m g

theorem frame_ki : quiescent_DownIdeal := fun m g _ => Cert.DownIdeal.Gen.frame m g

theorem frame_ri : quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

/-- The call's result is the reference's. -/
theorem algebraic : algebraic_DownIdeal_DownRefIdeal := by
  pair_intro
  · run_from (Cert.DownIdeal.Value.run_blocks m g)
  · run_from (Cert.DownRefIdeal.Value.run m' g')
    rw [Cert.DownRefIdeal.Read.val_main_v21_eq]
    exact (ref_out _ _ _ _ _).trans (final m c).symm

end Cert.Proof.Down

end
-- ==== Proof.Merge.Ref.lean ====
/- What `merge` computes: the two attentions mixed by their gates and projected onto the residual stream, and the modulated norm of
   that stream. -/
module

public import proofs.«01_k».proof.Proof.Common.Rows
public import proofs.«01_k».proof.Proof.Gen.MergeRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.Proof.Merge

open Idealize.ShloMosaic Idealize.ShloMosaic.TcCoe Idealize.SL.Sem Idealize.ShloMosaic.Pipeline

open Common Cert.MergeRefIdeal Cert.MergeRefIdeal.Read

variable (A B : FVec Ideal ⟨2, ![16384, 1024]⟩ .bf16) (P : FVec Ideal ⟨2, ![16384, 10240]⟩ .bf16)
  (X : FVec Ideal ⟨2, ![16384, 2048]⟩ .f32) (G S C : FVec Ideal ⟨3, ![8, 1, 2048]⟩ .f32) (g : FVec Ideal ⟨1, ![2048]⟩ .f32)
  (Wa Wb : FVec Ideal ⟨2, ![1024, 2048]⟩ .bf16) (Wo : FVec Ideal ⟨2, ![2048, 2048]⟩ .bf16)

/-- An entry of the mix: each attention's projection, times its gate. The gates lie in columns 6144 to 10240 of `P`. -/
def mix (r : Fin 16384) (n : Fin 2048) : EReal :=
  Ideal.logistic (P (ix2 r (⟨6144 + n, by omega⟩ : Fin 10240))) * (∑ k, A (ix2 r k) * Wa (ix2 k n))
    + Ideal.logistic (P (ix2 r (⟨6144 + (2048 + n), by omega⟩ : Fin 10240))) * (∑ k, B (ix2 r k) * Wb (ix2 k n))

/-- An entry of the stream: the residual and the gated projection of the mix. -/
def stream (r : Fin 16384) (n : Fin 2048) : EReal :=
  X (ix2 r n) + G (ix3 (batch r) (0 : Fin 1) n) * ∑ k, mix A B P Wa Wb r k * Wo (ix2 k n)

/-- The first result: the stream. -/
def result0 : FVec Ideal ⟨2, ![16384, 2048]⟩ .f32 := fun i => stream A B P X G Wa Wb Wo (i 0) (i 1)

/-- The second result: the stream, normed, scaled and shifted. -/
def result1 : FVec Ideal ⟨2, ![16384, 2048]⟩ .bf16 := fun i =>
  stream A B P X G Wa Wb Wo (i 0) (i 1) * inv (stream A B P X G Wa Wb Wo (i 0)) * g (ix1 (i 1))
      * (1 + C (ix3 (batch (i 0)) (0 : Fin 1) (i 1)))
    + S (ix3 (batch (i 0)) (0 : Fin 1) (i 1))

/-- The logistic function as the reference writes it. -/
theorem logistic_eq (x : EReal) : Ideal.div 1 (1 + Ideal.exp (-x)) = Ideal.logistic x := rfl

/-- The reference's mix. -/
theorem ref_mix (r : Fin 16384) (n : Fin 2048) :
    val_main_v27 (F := Ideal) A B P Wa Wb (ix3 (batch r) (place r) n) = mix A B P Wa Wb r n := by
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2]
  have e : (⟨(r : ℕ) / 2048 * 2048 + (r : ℕ) % 2048, by omega⟩ : Fin 16384) = r := Fin.ext (by show (r : ℕ) / 2048 * 2048 + (r : ℕ) % 2048 = r; omega)
  simp only [e, logistic_eq]
  rfl

/-- The reference's stream. -/
theorem ref_stream (r : Fin 16384) (n : Fin 2048) :
    val_main_v33 (F := Ideal) A B P X G Wa Wb Wo (ix3 (batch r) (place r) n) = stream A B P X G Wa Wb Wo r n := by
  unfold val_main_v33 val_main_v32 val_main_v30
  have hs := ref_mix A B P Wa Wb r
  generalize val_main_v27 (F := Ideal) A B P Wa Wb = y at hs ⊢
  pointwise [val_main_v31, val_main_v29, val_main_v28]
  have e : (⟨(r : ℕ) / 2048 * 2048 + (r : ℕ) % 2048, by omega⟩ : Fin 16384) = r := Fin.ext (by show (r : ℕ) / 2048 * 2048 + (r : ℕ) % 2048 = r; omega)
  simp only [e, hs]
  rfl

/-- Where an index of the flat result lies in the batched one. -/
theorem idx_flat (r : Fin 16384) (n : Fin 2048) : idx_main_v53 (ix2 r n) = ix3 (batch r) (place r) n := funext fun a => Fin.ext (by
  have hn : (n : ℕ) < 2048 := n.isLt
  match a with
  | ⟨0, _⟩ => show ((r : ℕ) * 2048 + n) / 4194304 = (r : ℕ) / 2048; omega
  | ⟨1, _⟩ => show ((r : ℕ) * 2048 + n) / 2048 % 2048 = (r : ℕ) % 2048; omega
  | ⟨2, _⟩ => show ((r : ℕ) * 2048 + n) % 2048 = n; omega)

/-- The reference's first result is `result0`. -/
theorem ref_out0 : val_main_v53 (F := Ideal) A B P X G Wa Wb Wo = result0 A B P X G Wa Wb Wo := by
  funext i
  idx_vars i
  rename' i0 => r, i1 => n
  rw [val_main_v53_apply, idx_flat]
  exact ref_stream A B P X G Wa Wb Wo r n

/-- The reference's second result is `result1`. -/
theorem ref_out1 : val_main_v55 (F := Ideal) A B P X G S C g Wa Wb Wo = result1 A B P X G S C g Wa Wb Wo := by
  funext i
  idx_vars i
  rename' i0 => r, i1 => n
  rw [val_main_v55_apply, val_main_v54_apply, show idx_main_v54 (ix2 r n) = ix3 (batch r) (place r) n from idx_flat r n]
  unfold val_main_v52 val_main_v50 val_main_v46 val_main_v43 val_main_v42 val_main_v41 val_main_v40 val_main_v38 val_main_v36 val_main_v35 val_main_v34
  have hs := ref_stream A B P X G Wa Wb Wo r
  generalize val_main_v33 (F := Ideal) A B P X G Wa Wb Wo = y at hs ⊢
  pointwise [val_main_v51, val_main_v49, val_main_v48, val_main_v47, val_main_v45, val_main_v44, val_main_v39, val_main_v37, val_main_cst_3, val_main_cst_4, val_main_cst_5, val_main_cst_6]
  simp only [hs]
  rfl

end Cert.Proof.Merge

end
-- ==== Proof.Merge.Final.lean ====
/- The call `merge` leaves `result0` and `result1` in its output arrays. -/
module

public import proofs.«01_k».proof.Proof.Gen.MergeIdeal.Value
public import proofs.«01_k».proof.Proof.Merge.Ref
public import Idealize.ShloMosaic.Lib.Pointwise
public import Idealize.ShloMosaic.Lib.Claim
public import Idealize.ShloMosaic.Lib.Pipeline.ValueKit

@[expose] public section

set_option maxRecDepth 16384

noncomputable section

namespace Cert.Proof.Merge

open Idealize.ShloMosaic Idealize.ShloMosaic.TcCoe Idealize.SL.Sem Idealize.ShloMosaic.Pipeline

open Common Cert.MergeIdeal Cert.MergeIdeal.Gen

variable (m : (ℓ : Loc nD τ sig) → Buf (Elt Ideal) ℓ) (c : Dev nD)

/-- The block indices of all windows at point `t`, the 512 rows from `512 t` on. -/
theorem idx : ∀ t : Fin cfg0.N,
    win0_0.index t = ![t.val, 0] ∧ win0_1.index t = ![t.val, 0] ∧ win0_2.index t = ![t.val, 3] ∧ win0_3.index t = ![t.val, 4]
    ∧ win0_4.index t = ![t.val, 0] ∧ win0_5.index t = ![t.val / 4, 0, 0] ∧ win0_6.index t = ![t.val / 4, 0, 0]
    ∧ win0_7.index t = ![t.val / 4, 0, 0] ∧ win0_8.index t = ![0, 0] ∧ win0_9.index t = ![0, 0] ∧ win0_10.index t = ![0, 0]
    ∧ win0_11.index t = ![0, 0] ∧ win0_12.index t = ![t.val, 0] ∧ win0_13.index t = ![t.val, 0] :=
  (by decide +kernel : ∀ t : Fin grid0.N, _)

/-- The argument arrays. -/
abbrev aA : FVec Ideal S16384x1024 .bf16 := m ((c : Thread nD τ).loc main_arg0)
abbrev aB : FVec Ideal S16384x1024 .bf16 := m ((c : Thread nD τ).loc main_arg1)
abbrev aP : FVec Ideal S16384x10240 .bf16 := m ((c : Thread nD τ).loc main_arg2)
abbrev aX : FVec Ideal S16384x2048 .f32 := m ((c : Thread nD τ).loc main_arg3)
abbrev aG : FVec Ideal S8x1x2048 .f32 := m ((c : Thread nD τ).loc main_arg4)
abbrev aS : FVec Ideal S8x1x2048 .f32 := m ((c : Thread nD τ).loc main_arg5)
abbrev aC : FVec Ideal S8x1x2048 .f32 := m ((c : Thread nD τ).loc main_arg6)
abbrev ag : FVec Ideal S2048 .f32 := m ((c : Thread nD τ).loc main_arg7)
abbrev aWa : FVec Ideal S1024x2048 .bf16 := m ((c : Thread nD τ).loc main_arg8)
abbrev aWb : FVec Ideal S1024x2048 .bf16 := m ((c : Thread nD τ).loc main_arg9)
abbrev aWo : FVec Ideal S2048x2048 .bf16 := m ((c : Thread nD τ).loc main_arg10)

/-- The blocks of the arguments. -/
theorem blk_a (t : Fin cfg0.N) (r : Fin 512) (k : Fin 1024) : (iblk m c 0 t : FVec Ideal S512x1024 .bf16) (ix2 r k)
    = aA m c (ix2 (⟨512 * t.val + r, by have h : t.val < 32 := t.isLt; omega⟩ : Fin 16384) k) := by
  blk_point [iblk, V, idx t]

theorem blk_b (t : Fin cfg0.N) (r : Fin 512) (k : Fin 1024) : (iblk m c 1 t : FVec Ideal S512x1024 .bf16) (ix2 r k)
    = aB m c (ix2 (⟨512 * t.val + r, by have h : t.val < 32 := t.isLt; omega⟩ : Fin 16384) k) := by
  blk_point [iblk, V, idx t]

theorem blk_ga (t : Fin cfg0.N) (r : Fin 512) (k : Fin 2048) : (iblk m c 2 t : FVec Ideal S512x2048 .bf16) (ix2 r k)
    = aP m c (ix2 (⟨512 * t.val + r, by have h : t.val < 32 := t.isLt; omega⟩ : Fin 16384) (⟨6144 + k, by omega⟩ : Fin 10240)) := by
  blk_point [iblk, V, idx t]

theorem blk_gb (t : Fin cfg0.N) (r : Fin 512) (k : Fin 2048) : (iblk m c 3 t : FVec Ideal S512x2048 .bf16) (ix2 r k)
    = aP m c (ix2 (⟨512 * t.val + r, by have h : t.val < 32 := t.isLt; omega⟩ : Fin 16384) (⟨6144 + (2048 + k), by omega⟩ : Fin 10240)) := by
  blk_point [iblk, V, idx t]

theorem blk_x (t : Fin cfg0.N) (r : Fin 512) (k : Fin 2048) : (iblk m c 4 t : FVec Ideal S512x2048 .f32) (ix2 r k)
    = aX m c (ix2 (⟨512 * t.val + r, by have h : t.val < 32 := t.isLt; omega⟩ : Fin 16384) k) := by
  blk_point [iblk, V, idx t]

theorem blk_gate (t : Fin cfg0.N) (n : Fin 2048) : (iblk m c 5 t : FVec Ideal S1x1x2048 .f32) (ix3 (0 : Fin 1) (0 : Fin 1) n)
    = aG m c (ix3 (⟨t.val / 4, by have h : t.val < 32 := t.isLt; omega⟩ : Fin 8) (0 : Fin 1) n) := by
  blk_point [iblk, V, idx t]

theorem blk_shift (t : Fin cfg0.N) (n : Fin 2048) : (iblk m c 6 t : FVec Ideal S1x1x2048 .f32) (ix3 (0 : Fin 1) (0 : Fin 1) n)
    = aS m c (ix3 (⟨t.val / 4, by have h : t.val < 32 := t.isLt; omega⟩ : Fin 8) (0 : Fin 1) n) := by
  blk_point [iblk, V, idx t]

theorem blk_scale (t : Fin cfg0.N) (n : Fin 2048) : (iblk m c 7 t : FVec Ideal S1x1x2048 .f32) (ix3 (0 : Fin 1) (0 : Fin 1) n)
    = aC m c (ix3 (⟨t.val / 4, by have h : t.val < 32 := t.isLt; omega⟩ : Fin 8) (0 : Fin 1) n) := by
  blk_point [iblk, V, idx t]

theorem blk_g (t : Fin cfg0.N) (n : Fin 2048) : (iblk m c 8 t : FVec Ideal S1x2048 .f32) (ix2 (0 : Fin 1) n) = ag m c (ix1 n) := by
  refine Eq.trans (b := (V m c main_v0 : FVec Ideal S1x2048 .f32) (ix2 (0 : Fin 1) n)) (by blk_point [iblk, idx t]) ?_
  entry_read
  pointwise

theorem blk_wa (t : Fin cfg0.N) (k : Fin 1024) (n : Fin 2048) : (iblk m c 9 t : FVec Ideal S1024x2048 .bf16) (ix2 k n)
    = aWa m c (ix2 k n) := by
  blk_point [iblk, V, idx t]

theorem blk_wb (t : Fin cfg0.N) (k : Fin 1024) (n : Fin 2048) : (iblk m c 10 t : FVec Ideal S1024x2048 .bf16) (ix2 k n)
    = aWb m c (ix2 k n) := by
  blk_point [iblk, V, idx t]

theorem blk_wo (t : Fin cfg0.N) (k : Fin 2048) (n : Fin 2048) : (iblk m c 11 t : FVec Ideal S2048x2048 .bf16) (ix2 k n)
    = aWo m c (ix2 k n) := by
  blk_point [iblk, V, idx t]

/-- The mix of a tile of 256 rows, at an index. -/
theorem mix_at (v50 : FVec Ideal S256x1024 .bf16) (v51 : FVec Ideal S1024x2048 .bf16) (v53 : FVec Ideal S256x1024 .bf16)
    (v54 : FVec Ideal S1024x2048 .bf16) (v56 v60 : FVec Ideal S256x2048 .bf16) (r : Fin 256) (R : Fin 16384)
    (A B : FVec Ideal S16384x1024 .bf16) (P : FVec Ideal S16384x10240 .bf16) (Wa Wb : FVec Ideal S1024x2048 .bf16)
    (h50 : ∀ k, v50 (ix2 r k) = A (ix2 R k)) (h51 : ∀ k n, v51 (ix2 k n) = Wa (ix2 k n))
    (h53 : ∀ k, v53 (ix2 r k) = B (ix2 R k)) (h54 : ∀ k n, v54 (ix2 k n) = Wb (ix2 k n))
    (h56 : ∀ n : Fin 2048, v56 (ix2 r n) = P (ix2 R (⟨6144 + n, by omega⟩ : Fin 10240)))
    (h60 : ∀ n : Fin 2048, v60 (ix2 r n) = P (ix2 R (⟨6144 + (2048 + n), by omega⟩ : Fin 10240))) (n : Fin 2048) :
    k0_pay6 (F := Ideal) v50 v51 v53 v54 v56 v60 (ix2 r n) = mix A B P Wa Wb R n := by
  pointwise [k0_pay6]
  simp only [h50, h51, h53, h54, h56, h60]
  rfl

/-- The stream of a tile, at an index. -/
theorem stream_at (v64 : FVec Ideal S256x2048 .f32) (v65 : FVec Ideal S256x2048 .f32) (v66 : FVec Ideal S1x1x2048 .f32)
    (v69 : FVec Ideal S2048x2048 .bf16) (r : Fin 256) (M : Fin 2048 → EReal) (n : Fin 2048)
    (h64 : ∀ k, v64 (ix2 r k) = M k) :
    k0_pay1 (F := Ideal) v64 v65 v66 v69 (ix2 r n)
      = v65 (ix2 r n) + v66 (ix3 (0 : Fin 1) (0 : Fin 1) n) * ∑ k, M k * v69 (ix2 k n) := by
  pointwise [k0_pay1]
  simp only [h64]

/-- The gain at an index. -/
theorem gain_at (v0 : FVec Ideal S1x2048 .f32) (v2 : FVec Ideal S1x1x2048 .f32) (n : Fin 2048) :
    k0_pay3 (F := Ideal) v0 v2 (ix2 (0 : Fin 1) n) = v0 (ix2 (0 : Fin 1) n) * (1 + v2 (ix3 (0 : Fin 1) (0 : Fin 1) n)) := by
  pointwise [k0_pay3]

/-- The normed stream of a tile, at an index. -/
theorem norm_at (v6 : FVec Ideal S1x2048 .f32) (v30 : FVec Ideal S256x2048 .f32) (v44 : FVec Ideal S1x1x2048 .f32) (r : Fin 256)
    (M : Fin 2048 → EReal) (n : Fin 2048) (h : ∀ k, v30 (ix2 r k) = M k) :
    k0_pay5 (F := Ideal) v6 v30 v44 (ix2 r n) = M n * inv M * v6 (ix2 (0 : Fin 1) n) + v44 (ix3 (0 : Fin 1) (0 : Fin 1) n) := by
  pointwise [k0_pay5]
  simp only [h]
  rfl

/-- The stream of the rows from `o` on of the block at point `t`. -/
def tileStream (t : Fin cfg0.N) (o : ℕ) (ia : ∀ d, (![o, 0] : Fin 2 → ℕ) d + S256x1024.size d ≤ S512x1024.size d)
    (ix : ∀ d, (![o, 0] : Fin 2 → ℕ) d + S256x2048.size d ≤ S512x2048.size d) : FVec Ideal S256x2048 .f32 :=
  k0_pay1 (F := Ideal) (k0_pay6 (F := Ideal) (View.ld (iblk m c 0 t) (Rect.unit (s := S512x1024) ![o, 0] S256x1024.size ia))
      (View.ld (iblk m c 9 t) r0_3) (View.ld (iblk m c 1 t) (Rect.unit (s := S512x1024) ![o, 0] S256x1024.size ia))
      (View.ld (iblk m c 10 t) r0_3) (View.ld (iblk m c 2 t) (Rect.unit (s := S512x2048) ![o, 0] S256x2048.size ix))
      (View.ld (iblk m c 3 t) (Rect.unit (s := S512x2048) ![o, 0] S256x2048.size ix)))
    (View.ld (iblk m c 4 t) (Rect.unit (s := S512x2048) ![o, 0] S256x2048.size ix)) (View.ld (iblk m c 5 t) r0_1)
    (View.ld (iblk m c 11 t) r0_5)

/-- It is the stream at those rows. -/
theorem tile_stream (t : Fin cfg0.N) (o : ℕ) (ho : o + 256 ≤ 512) (ia ix) (r : Fin 256) (R : Fin 16384)
    (hR : (R : ℕ) = 512 * t.val + (o + r)) (n : Fin 2048) :
    tileStream m c t o ia ix (ix2 r n) = stream (aA m c) (aB m c) (aP m c) (aX m c) (aG m c) (aWa m c) (aWb m c) (aWo m c) R n := by
  have ht : t.val < 32 := t.isLt
  have e0 : (⟨512 * t.val + (o + r), by omega⟩ : Fin 16384) = R := Fin.ext hR.symm
  have eb : (⟨t.val / 4, by omega⟩ : Fin 8) = batch R := Fin.ext (by show t.val / 4 = (R : ℕ) / 2048; omega)
  refine (stream_at _ _ _ _ r (mix (aA m c) (aB m c) (aP m c) (aWa m c) (aWb m c) R) n
    (mix_at _ _ _ _ _ _ r R _ _ _ _ _ ?_ ?_ ?_ ?_ ?_ ?_)).trans ?_
  · exact fun k => (ld_rows _ o ho _ r k).trans ((blk_a m c t _ k).trans (by rw [← e0]))
  · exact fun k n => (ld_whole _ _ k n).trans (blk_wa m c t k n)
  · exact fun k => (ld_rows _ o ho _ r k).trans ((blk_b m c t _ k).trans (by rw [← e0]))
  · exact fun k n => (ld_whole _ _ k n).trans (blk_wb m c t k n)
  · exact fun k => (ld_rows _ o ho _ r k).trans ((blk_ga m c t _ k).trans (by rw [← e0]))
  · exact fun k => (ld_rows _ o ho _ r k).trans ((blk_gb m c t _ k).trans (by rw [← e0]))
  · refine congrArg₂ (· + ·) ((ld_rows _ o ho _ r n).trans ((blk_x m c t _ n).trans (by rw [← e0]))) (congrArg₂ (· * ·)
      ((ld_row3 _ _ n).trans ((blk_gate m c t n).trans (by rw [← eb]))) (Finset.sum_congr rfl fun k _ => congrArg₂ (· * ·) rfl
        ((ld_whole _ _ k n).trans (blk_wo m c t k n))))

/-- The normed stream of the same rows. -/
theorem tile_norm (t : Fin cfg0.N) (o : ℕ) (ho : o + 256 ≤ 512) (ia ix) (r : Fin 256) (R : Fin 16384)
    (hR : (R : ℕ) = 512 * t.val + (o + r)) (n : Fin 2048) :
    k0_pay5 (F := Ideal) (k0_pay3 (View.ld (iblk m c 8 t) r0_0) (View.ld (iblk m c 7 t) r0_1)) (tileStream m c t o ia ix)
      (View.ld (iblk m c 6 t) r0_1) (ix2 r n) = result1 (aA m c) (aB m c) (aP m c) (aX m c) (aG m c) (aS m c) (aC m c) (ag m c) (aWa m c) (aWb m c) (aWo m c) (ix2 R n) := by
  have ht : t.val < 32 := t.isLt
  have eb : (⟨t.val / 4, by omega⟩ : Fin 8) = batch R := Fin.ext (by show t.val / 4 = (R : ℕ) / 2048; omega)
  refine (norm_at _ _ _ r (stream (aA m c) (aB m c) (aP m c) (aX m c) (aG m c) (aWa m c) (aWb m c) (aWo m c) R) n
    (tile_stream m c t o ho ia ix r R hR)).trans ?_
  have hs := (ld_row3 _ inb_S1x1x2048_S1x1x2048_0_0_0 n).trans ((blk_shift m c t n).trans (congrArg (fun b => aS m c (ix3 b (0 : Fin 1) n)) eb))
  have hc := (ld_row3 _ inb_S1x1x2048_S1x1x2048_0_0_0 n).trans ((blk_scale m c t n).trans (congrArg (fun b => aC m c (ix3 b (0 : Fin 1) n)) eb))
  have hg := (ld_whole _ inb_S1x2048_S1x2048_0_0 (0 : Fin 1) n).trans (blk_g m c t n)
  refine congrArg₂ (· + ·) ?_ hs
  refine (congrArg₂ (· * ·) rfl ((gain_at _ _ n).trans (congrArg₂ (· * ·) hg (congrArg (1 + ·) hc)))).trans ?_
  exact (mul_assoc _ _ _).symm

/-- Where an index of output block 12 lies in its array. -/
theorem emb_out12 (t : Fin cfg0.N) (y : ((cfg0.win 12).xblock (cfg0.grid.coords t)).Idx) :
    ((((View.whole main_v1_0).slice (win0_12.rect t)).emb y 0 : ℕ) = 512 * t.val + (y 0 : ℕ))
    ∧ ((((View.whole main_v1_0).slice (win0_12.rect t)).emb y 1 : ℕ) = (y 1 : ℕ)) := by
  have hi := (idx t).2.2.2.2.2.2.2.2.2.2.2.2.1
  refine ⟨?_, ?_⟩
  · show win0_12.index t 0 * 512 + 1 * (y 0 : ℕ) = _
    rw [hi]; show t.val * 512 + 1 * (y 0 : ℕ) = _; omega
  · show win0_12.index t 1 * 2048 + 1 * (y 1 : ℕ) = _
    rw [hi]; show 0 * 2048 + 1 * (y 1 : ℕ) = _; omega

/-- Where an index of output block 13 lies in its array. -/
theorem emb_out13 (t : Fin cfg0.N) (y : ((cfg0.win 13).xblock (cfg0.grid.coords t)).Idx) :
    ((((View.whole main_v1_1).slice (win0_13.rect t)).emb y 0 : ℕ) = 512 * t.val + (y 0 : ℕ))
    ∧ ((((View.whole main_v1_1).slice (win0_13.rect t)).emb y 1 : ℕ) = (y 1 : ℕ)) := by
  have hi := (idx t).2.2.2.2.2.2.2.2.2.2.2.2.2
  refine ⟨?_, ?_⟩
  · show win0_13.index t 0 * 512 + 1 * (y 0 : ℕ) = _
    rw [hi]; show t.val * 512 + 1 * (y 0 : ℕ) = _; omega
  · show win0_13.index t 1 * 2048 + 1 * (y 1 : ℕ) = _
    rw [hi]; show 0 * 2048 + 1 * (y 1 : ℕ) = _; omega

/-- A tile of the first output block. -/
theorem tile0 (t : Fin cfg0.N) (o : ℕ) (ho : o + 256 ≤ 512) (ia ix) (x : S256x2048.Idx) (z : S16384x2048.Idx)
    (z0 : (z 0 : ℕ) = 512 * t.val + (o + x 0)) (z1 : (z 1 : ℕ) = x 1) :
    tileStream m c t o ia ix x = result0 (aA m c) (aB m c) (aP m c) (aX m c) (aG m c) (aWa m c) (aWb m c) (aWo m c) z := by
  obtain ⟨r, n, rfl⟩ := split2 x
  obtain ⟨R, n', rfl⟩ := split2 z
  obtain rfl : n' = n := Fin.ext z1
  exact tile_stream m c t o ho ia ix r R z0 n'

/-- A tile of the second output block. -/
theorem tile1 (t : Fin cfg0.N) (o : ℕ) (ho : o + 256 ≤ 512) (ia ix) (x : S256x2048.Idx) (z : S16384x2048.Idx)
    (z0 : (z 0 : ℕ) = 512 * t.val + (o + x 0)) (z1 : (z 1 : ℕ) = x 1) :
    k0_pay5 (F := Ideal) (k0_pay3 (View.ld (iblk m c 8 t) r0_0) (View.ld (iblk m c 7 t) r0_1)) (tileStream m c t o ia ix)
      (View.ld (iblk m c 6 t) r0_1) x = result1 (aA m c) (aB m c) (aP m c) (aX m c) (aG m c) (aS m c) (aC m c) (ag m c) (aWa m c) (aWb m c) (aWo m c) z := by
  obtain ⟨r, n, rfl⟩ := split2 x
  obtain ⟨R, n', rfl⟩ := split2 z
  obtain rfl : n' = n := Fin.ext z1
  exact tile_norm m c t o ho ia ix r R z0 n'

/-- The first output array. -/
theorem final12 : (dats m 0 c).arrAt 12 cfg0.N = result0 (aA m c) (aB m c) (aP m c) (aX m c) (aG m c) (aWa m c) (aWb m c) (aWo m c) := by
  refine Dat.arrAt_eq_of_covers _ 12 _ (by decide +kernel) fun t _ y => ?_
  blk_simp
  rw [after0_12]
  unfold out0_12
  obtain ⟨z0, z1⟩ := emb_out12 t y
  generalize ((View.whole main_v1_0).slice (win0_12.rect t)).emb y = z at z0 z1 ⊢
  canon_tiles x h
  · refine Eq.trans ?_ (tile0 m c t 256 (by norm_num) inb_S512x1024_S256x1024_256_0 inb_S512x2048_S256x2048_256_0 x z (by omega) (by omega))
    rfl
  · refine Eq.trans ?_ (tile0 m c t 0 (by norm_num) inb_S512x1024_S256x1024_0_0 inb_S512x2048_S256x2048_0_0 x z (by omega) (by omega))
    rfl

/-- The second output array. -/
theorem final13 : (dats m 0 c).arrAt 13 cfg0.N = result1 (aA m c) (aB m c) (aP m c) (aX m c) (aG m c) (aS m c) (aC m c) (ag m c) (aWa m c) (aWb m c) (aWo m c) := by
  refine Dat.arrAt_eq_of_covers _ 13 _ (by decide +kernel) fun t _ y => ?_
  blk_simp
  rw [after0_13]
  unfold out0_13
  obtain ⟨z0, z1⟩ := emb_out13 t y
  generalize ((View.whole main_v1_1).slice (win0_13.rect t)).emb y = z at z0 z1 ⊢
  canon_tiles x h
  · refine Eq.trans ?_ (tile1 m c t 256 (by norm_num) inb_S512x1024_S256x1024_256_0 inb_S512x2048_S256x2048_256_0 x z (by omega) (by omega))
    rfl
  · refine Eq.trans ?_ (tile1 m c t 0 (by norm_num) inb_S512x1024_S256x1024_0_0 inb_S512x2048_S256x2048_0_0 x z (by omega) (by omega))
    rfl

end Cert.Proof.Merge

end
-- ==== Proof.Merge.Claims.lean ====
/- The claims of the call stated as `Merge`. -/
module

public import proofs.«01_k».proof.Defs
public import proofs.«01_k».proof.Proof.Gen.Merge
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge.Final
public import Idealize.ShloMosaic.Lib.Claim

@[expose] public section

set_option maxRecDepth 16384

noncomputable section

namespace Cert.Proof.Merge

open Idealize.ShloMosaic Idealize.SL.Sem

theorem frame_k : quiescent_Merge := fun m g _ => Cert.Merge.Gen.frame m g

theorem frame_ki : quiescent_MergeIdeal := fun m g _ => Cert.MergeIdeal.Gen.frame m g

theorem frame_ri : quiescent_MergeRefIdeal := fun m g _ =>
  (θ_run Cert.MergeRefIdeal.defs _ _).mono (fun r h => ⟨fun c => (h c).2.2, sem_eq_zero_of_no_sems (by decide) r.2⟩)
    (Cert.MergeRefIdeal.Value.run (F := Ideal) m g)

/-- The call's two results are the reference's. -/
theorem algebraic : algebraic_MergeIdeal_MergeRefIdeal := by
  pair_intro
  · run_from (Cert.MergeIdeal.Value.run_blocks m g)
  · run_from (Cert.MergeRefIdeal.Value.run m' g')
    · rw [Cert.MergeRefIdeal.Read.val_main_v53_eq]
      exact (ref_out0 _ _ _ _ _ _ _ _).trans (final12 m c).symm
    · obtain ⟨h0, h1, h2, h3, h4, h5, h6, h7, h8, h9, h10⟩ := hagree c
      rw [Cert.MergeRefIdeal.Read.val_main_v55_eq, h0, h1, h2, h3, h4, h5, h6, h7, h8, h9, h10]
      exact (ref_out1 _ _ _ _ _ _ _ _ _ _ _).trans (final13 m c).symm

end Cert.Proof.Merge

end
-- ==== Proof.Up.Taps.lean ====
/- Taps over neighbouring rows, the gated product, and what `ffn_up` computes. -/
module

public import proofs.«01_k».proof.Proof.Common.Rows
public import Idealize.ShloMosaic.Lib.Pointwise
public import Idealize.ShloMosaic.Lib.Claim
public import Idealize.ShloMosaic.Lib.Pipeline.ValueKit

@[expose] public section

set_option maxRecDepth 16384

noncomputable section

namespace Cert.Proof.Up

open Idealize.ShloMosaic Idealize.ShloMosaic.TcCoe Idealize.SL.Sem Idealize.ShloMosaic.Pipeline

open Common

/-- Three taps over neighbouring rows, and a bias. -/
def taps (w : Fin 3 → EReal) (b p q s : EReal) : EReal := w 0 * p + w 1 * q + w 2 * s + b

/-- Equal weights and biases give equal taps. -/
theorem taps_eq {w w' : Fin 3 → EReal} {b b' : EReal} (p q s : EReal) (hw : ∀ j, w j = w' j) (hb : b = b') :
    taps w b p q s = taps w' b' p q s := by rw [funext hw, hb]

/-- The gated product of two entries. -/
def glu (g u : EReal) : EReal := g * Ideal.logistic g * u

/-- An index of three axes by its coordinates. -/
theorem split3 {a b d : ℕ} (x : (⟨3, ![a, b, d]⟩ : Shape).Idx) : ∃ (i : Fin a) (r : Fin b) (n : Fin d), x = ix3 i r n :=
  ⟨x 0, x 1, x 2, funext fun k => match k with | ⟨0, _⟩ => rfl | ⟨1, _⟩ => rfl | ⟨2, _⟩ => rfl⟩

/-- A column of 2048 entries with a zero before it and zeros after it, counted from the first zero. -/
def row (P : Fin 2048 → EReal) (p : ℕ) : EReal := if h : 1 ≤ p ∧ p - 1 < 2048 then P ⟨p - 1, h.2⟩ else 0

variable (H : FVec Ideal ⟨3, ![8, 2048, 2048]⟩ .bf16) (W : FVec Ideal ⟨2, ![2048, 11264]⟩ .bf16)
  (K : FVec Ideal ⟨2, ![3, 11264]⟩ .f32) (b : FVec Ideal ⟨1, ![11264]⟩ .f32)

/-- An entry of the product. -/
def prod (e : Fin 8) (j : Fin 11264) (r : Fin 2048) : EReal := ∑ k, H (ix3 e r k) * W (ix2 k j)

/-- The taps over a row of the product and its neighbours. -/
def conv (e : Fin 8) (r : Fin 2048) (j : Fin 11264) : EReal :=
  taps (fun a => K (ix2 a j)) (b (ix1 j)) (row (prod H W e j) r) (row (prod H W e j) (r + 1)) (row (prod H W e j) (r + 2))

/-- The result: the gated product of the first half of the columns with the second. -/
def result : FVec Ideal ⟨3, ![8, 2048, 5632]⟩ .bf16 := fun i =>
  glu (conv H W K b (i 0) (i 1) ⟨(i 2 : ℕ), lt_trans (i 2).isLt (by norm_num : 5632 < 11264)⟩)
    (conv H W K b (i 0) (i 1) ⟨5632 + (i 2 : ℕ), Nat.add_lt_add_left (i 2).isLt 5632⟩)

end Cert.Proof.Up

end
-- ==== Proof.Up.Tile.lean ====
/- A tile of the block that a point of `ffn_up` writes, from the buffer of products. -/
module

public import proofs.«01_k».proof.Proof.Gen.UpIdeal.Value
public import proofs.«01_k».proof.Proof.Up.Taps
public import Idealize.ShloMosaic.Lib.Pointwise
public import Idealize.ShloMosaic.Lib.Claim
public import Idealize.ShloMosaic.Lib.Pipeline.ValueKit

@[expose] public section

set_option maxRecDepth 16384

noncomputable section

namespace Cert.Proof.Up

open Idealize.ShloMosaic Idealize.ShloMosaic.TcCoe Idealize.SL.Sem Idealize.ShloMosaic.Pipeline

open Common Cert.UpIdeal Cert.UpIdeal.Gen

/-- A tile at an index: the taps of both halves, at rows 7, 8 and 9 on, then the gated product. -/
theorem tile_at (cg cu : FVec Ideal S3x128 .f32) (bg bu : FVec Ideal S1x128 .f32) (g u : FVec Ideal S48x128 .f32)
    (i : Fin 1) (r : Fin 32) (n : Fin 128) :
    k0_pay664 (F := Ideal) cg cu (k0_pay657 bg) (k0_pay658 bu) g u (ix3 i r n)
      = glu (taps (fun j => cg (ix2 j n)) (bg (ix2 (0 : Fin 1) n)) (g (ix2 (⟨r + 7, by omega⟩ : Fin 48) n))
            (g (ix2 (⟨r + 8, by omega⟩ : Fin 48) n)) (g (ix2 (⟨r + 9, by omega⟩ : Fin 48) n)))
          (taps (fun j => cu (ix2 j n)) (bu (ix2 (0 : Fin 1) n)) (u (ix2 (⟨r + 7, by omega⟩ : Fin 48) n))
            (u (ix2 (⟨r + 8, by omega⟩ : Fin 48) n)) (u (ix2 (⟨r + 9, by omega⟩ : Fin 48) n))) := by
  pointwise [k0_pay664, k0_pay657, k0_pay658]
  have e7 : (⟨(8 + (r : ℕ) + 48 - 1) % 48, by omega⟩ : Fin 48) = ⟨r + 7, by omega⟩ := Fin.ext (by show (8 + (r : ℕ) + 48 - 1) % 48 = r + 7; omega)
  have e8 : (⟨8 + (r : ℕ), by omega⟩ : Fin 48) = ⟨r + 8, by omega⟩ := Fin.ext (by show 8 + (r : ℕ) = r + 8; omega)
  have e9 : (⟨(8 + (r : ℕ) + 48 - 47) % 48, by omega⟩ : Fin 48) = ⟨r + 9, by omega⟩ := Fin.ext (by show (8 + (r : ℕ) + 48 - 47) % 48 = r + 9; omega)
  simp only [e7, e8, e9]
  rfl

/-- A load of a part of an array of two axes. -/
theorem ld_part {e : EltTy} {a b k n : ℕ} (f : Vec Ideal ⟨2, ![a, b]⟩ e) (o l : ℕ) (ho : o + k ≤ a) (hl : l + n ≤ b)
    (inb : ∀ d, (![o, l] : Fin 2 → ℕ) d + (![k, n] : Fin 2 → ℕ) d ≤ (⟨2, ![a, b]⟩ : Shape).size d) (r : Fin k) (j : Fin n) :
    View.ld (Val := Elt Ideal) (e' := e) f (Rect.unit (s := ⟨2, ![a, b]⟩) ![o, l] ![k, n] inb) (ix2 r j)
      = f (ix2 (⟨o + r, by omega⟩ : Fin a) (⟨l + j, by omega⟩ : Fin b)) := by
  refine congrArg f (funext fun d => Fin.ext ?_)
  match d with
  | ⟨0, _⟩ => show o + 1 * (r : ℕ) = o + r; omega
  | ⟨1, _⟩ => show l + 1 * (j : ℕ) = l + j; omega

/-- A part that starts and ends within both axes lies in the array. -/
theorem inside {a b k n : ℕ} (o l : ℕ) (ho : o + k ≤ a) (hl : l + n ≤ b) :
    ∀ d, (![o, l] : Fin 2 → ℕ) d + (![k, n] : Fin 2 → ℕ) d ≤ (⟨2, ![a, b]⟩ : Shape).size d := fun d => by
  match d with
  | ⟨0, _⟩ => exact ho
  | ⟨1, _⟩ => exact hl

/-- The same of three axes, the first of one entry. -/
theorem inside3 {a b k n : ℕ} (o l : ℕ) (ho : o + k ≤ a) (hl : l + n ≤ b) :
    ∀ d, (![0, o, l] : Fin 3 → ℕ) d + (![1, k, n] : Fin 3 → ℕ) d ≤ (⟨3, ![1, a, b]⟩ : Shape).size d := fun d => by
  match d with
  | ⟨0, _⟩ => exact (le_refl 1 : 0 + 1 ≤ 1)
  | ⟨1, _⟩ => exact ho
  | ⟨2, _⟩ => exact hl

variable (w3 w4 : FVec Ideal S3x512 .f32) (b5 b6 : FVec Ideal S1x512 .f32) (S : FVec Ideal S2064x1024 .f32)

/-- The taps over the buffer of products: row `r` of the block from rows 7, 8 and 9 further on, column `k` of the buffer. -/
def half (w : FVec Ideal S3x512 .f32) (b : FVec Ideal S1x512 .f32) (r : Fin 2048) (n : Fin 512) (k : Fin 1024) : EReal :=
  taps (fun j => w (ix2 j n)) (b (ix2 (0 : Fin 1) n)) (S (ix2 (⟨r + 7, by omega⟩ : Fin 2064) k))
    (S (ix2 (⟨r + 8, by omega⟩ : Fin 2064) k)) (S (ix2 (⟨r + 9, by omega⟩ : Fin 2064) k))

/-- The block that a point writes: the gated product of the taps of both halves of the buffer. -/
def block : FVec Ideal S1x2048x512 .bf16 := fun y =>
  glu (half S w3 b5 (y 1) (y 2) ⟨(y 2 : ℕ), lt_trans (y 2).isLt (by norm_num : 512 < 1024)⟩)
    (half S w4 b6 (y 1) (y 2) ⟨512 + (y 2 : ℕ), Nat.add_lt_add_left (y 2).isLt 512⟩)

/-- A tile is its part of the block. -/
theorem piece (o l : ℕ) (ho : o + 32 ≤ 2048) (hl : l + 128 ≤ 512) (P : FVec Ideal S1x32x128 .bf16)
    (hP : P = k0_pay664 (F := Ideal) (View.ld w3 (Rect.unit (s := S3x512) ![0, l] ![3, 128] (inside 0 l (by norm_num) hl)))
      (View.ld w4 (Rect.unit (s := S3x512) ![0, l] ![3, 128] (inside 0 l (by norm_num) hl)))
      (k0_pay657 (View.ld b5 (Rect.unit (s := S1x512) ![0, l] ![1, 128] (inside 0 l (by norm_num) hl))))
      (k0_pay658 (View.ld b6 (Rect.unit (s := S1x512) ![0, l] ![1, 128] (inside 0 l (by norm_num) hl))))
      (View.ld S (Rect.unit (s := S2064x1024) ![o, l] ![48, 128] (inside o l (by omega) (by omega))))
      (View.ld S (Rect.unit (s := S2064x1024) ![o, 512 + l] ![48, 128] (inside o (512 + l) (by omega) (by omega)))))
    (x : S1x32x128.Idx) :
    P x = block w3 w4 b5 b6 S ((Rect.unit (s := S1x2048x512) ![0, o, l] ![1, 32, 128] (inside3 o l ho hl)).emb x) := by
  subst hP
  obtain ⟨i, r, n, rfl⟩ := split3 x
  have e : ((Rect.unit (s := S1x2048x512) ![0, o, l] ![1, 32, 128] (inside3 o l ho hl)).emb (ix3 i r n))
      = ix3 (0 : Fin 1) (⟨o + r, by omega⟩ : Fin 2048) (⟨l + n, by omega⟩ : Fin 512) := funext fun d => Fin.ext (by
    match d with
    | ⟨0, _⟩ => show 0 + 1 * (i : ℕ) = 0; omega
    | ⟨1, _⟩ => show o + 1 * (r : ℕ) = o + r; omega
    | ⟨2, _⟩ => show l + 1 * (n : ℕ) = l + n; omega)
  rw [e, tile_at]
  have ew : ∀ (w : FVec Ideal S3x512 .f32) (i3) (j : Fin 3), View.ld (Val := Elt Ideal) (e' := .f32) w (Rect.unit (s := S3x512) ![0, l] ![3, 128] i3) (ix2 j n)
      = w (ix2 j (⟨l + n, by omega⟩ : Fin 512)) := fun w i3 j =>
    (ld_part (e := .f32) w 0 l (by norm_num) hl i3 j n).trans (congrArg (fun q => w (ix2 q _)) (Fin.ext (Nat.zero_add _)))
  have eb : ∀ (b : FVec Ideal S1x512 .f32) (i3), View.ld (Val := Elt Ideal) (e' := .f32) b (Rect.unit (s := S1x512) ![0, l] ![1, 128] i3) (ix2 (0 : Fin 1) n)
      = b (ix2 (0 : Fin 1) (⟨l + n, by omega⟩ : Fin 512)) := fun b i3 => ld_part (e := .f32) b 0 l (by norm_num) hl i3 0 n
  have es : ∀ (k : ℕ) (hk : k + 128 ≤ 1024) (i3) (q : ℕ) (hq : (r : ℕ) + q < 48), View.ld (Val := Elt Ideal) (e' := .f32) S
        (Rect.unit (s := S2064x1024) ![o, k] ![48, 128] i3) (ix2 (⟨r + q, hq⟩ : Fin 48) n)
      = S (ix2 (⟨o + r + q, by omega⟩ : Fin 2064) (⟨k + n, by omega⟩ : Fin 1024)) := fun k hk i3 q hq =>
    (ld_part (e := .f32) S o k (by omega) hk i3 _ n).trans (congrArg (fun p => S (ix2 p _)) (Fin.ext (Nat.add_assoc o r q).symm))
  have ec : (⟨512 + l + (n : ℕ), by omega⟩ : Fin 1024) = ⟨512 + (l + n), by omega⟩ := Fin.ext (Nat.add_assoc 512 l n)
  simp only [es l (by omega), es (512 + l) (by omega), ec]
  exact congrArg₂ glu (taps_eq _ _ _ (ew w3 _) (eb b5 _)) (taps_eq _ _ _ (ew w4 _) (eb b6 _))

end Cert.Proof.Up

end
-- ==== Proof.Up.Block.lean ====
/- The block that a point of `ffn_up` writes. -/
module

public import proofs.«01_k».proof.Proof.Up.Tile
public import Idealize.ShloMosaic.Lib.Pipeline.ReadBack
public import Idealize.ShloMosaic.Lib.Pointwise
public import Idealize.ShloMosaic.Lib.Claim
public import Idealize.ShloMosaic.Lib.Pipeline.ValueKit

@[expose] public section

set_option maxRecDepth 16384
set_option maxHeartbeats 4000000
noncomputable section

namespace Cert.Proof.Up

open Idealize.ShloMosaic Idealize.ShloMosaic.TcCoe Idealize.SL.Sem Idealize.ShloMosaic.Pipeline

open Common Cert.UpIdeal Cert.UpIdeal.Gen

variable (m : (ℓ : Loc nD τ sig) → Buf (Elt Ideal) ℓ) (c : Dev nD)

/-- What a point after the first writes is the block over the buffer that the point before it left. -/
theorem out_at (t : Fin cfg0.N) (h0 : ¬t.val % 89 = 0) (x : S1x2048x512.Idx) :
    (outsAt0 m c t.val t.isLt).1 x = block (iblk m c 3 t) (iblk m c 4 t) (iblk m c 5 t) (iblk m c 6 t)
      (outsAt0 m c (t.val - 1) (Nat.lt_of_le_of_lt (Nat.sub_le _ _) t.isLt)).2 x := by
  rw [outsAt0_B m c t h0]
  frame_out
  simp only [read_unread_whole]
  generalize iblk m c 3 t = w3
  generalize iblk m c 4 t = w4
  generalize iblk m c 5 t = b5
  generalize iblk m c 6 t = b6
  generalize (outsAt0 m c (t.val - 1) (Nat.lt_of_le_of_lt (Nat.sub_le _ _) t.isLt)).2 = S
  refine View.canon_apply_of_pieces (Val := Elt Ideal) (e := .bf16) (block w3 w4 b5 b6 S) _ (View.PiecesOf.mem ?_) _ ?_
  · iterate 256 refine ⟨piece w3 w4 b5 b6 S _ _ (by decide) (by decide) _ rfl, ?_⟩
    exact trivial
  · exact View.cover_of_tiledL (s := S1x2048x512) _ S1x32x128.size (by sl_kernel_rfl) x

end Cert.Proof.Up

end
-- ==== Proof.Up.Buffer.lean ====
/- The buffer of products that `ffn_up` carries from one point to the next. -/
module

public import proofs.«01_k».proof.Proof.Up.Tile
public import Idealize.ShloMosaic.Lib.Pipeline.ReadBack
public import Idealize.ShloMosaic.Lib.WritesUnit
public import Idealize.ShloMosaic.Lib.Pointwise
public import Idealize.ShloMosaic.Lib.Claim
public import Idealize.ShloMosaic.Lib.Pipeline.ValueKit

@[expose] public section

set_option maxRecDepth 16384
set_option maxHeartbeats 4000000
noncomputable section

namespace Cert.Proof.Up

open Idealize.ShloMosaic Idealize.ShloMosaic.TcCoe Idealize.SL.Sem Idealize.ShloMosaic.Pipeline

open Common Cert.UpIdeal Cert.UpIdeal.Gen

variable (h : FVec Ideal S1x2048x2048 .bf16) (w1 w2 w : FVec Ideal S2048x512 .bf16)

/-- Two blocks of 512 columns side by side. -/
def cols (k : Fin 2048) (j : Fin 1024) : EReal :=
  if q : (j : ℕ) < 512 then w1 (ix2 k (⟨j, q⟩ : Fin 512)) else w2 (ix2 k (⟨j - 512, by omega⟩ : Fin 512))

/-- The buffer after a point: the products of a block of 2048 rows, rows of zeros before and after. -/
def fill : FVec Ideal S2064x1024 .f32 := fun y => row (fun r => ∑ k, h (ix3 (0 : Fin 1) r k) * cols w1 w2 k (y 1)) ((y 0 : ℕ) - 7)

/-- The columns of the first block, and of the second. -/
theorem cols_left (k : Fin 2048) (n : Fin 512) (q : 0 + (n : ℕ) < 1024) : cols w1 w2 k ⟨0 + n, q⟩ = w1 (ix2 k n) := by
  unfold cols
  rw [dif_pos (by show 0 + (n : ℕ) < 512; omega)]
  exact congrArg (fun i => w1 (ix2 k i)) (Fin.ext (Nat.zero_add _))

theorem cols_right (k : Fin 2048) (n : Fin 512) (q : 512 + (n : ℕ) < 1024) : cols w1 w2 k ⟨512 + n, q⟩ = w2 (ix2 k n) := by
  unfold cols
  rw [dif_neg (by show ¬(512 + (n : ℕ) < 512); omega)]
  exact congrArg (fun i => w2 (ix2 k i)) (Fin.ext (Nat.add_sub_cancel_left 512 n))

/-- The product of 512 rows of the block with 512 columns, as the point stores it. -/
abbrev part (o : ℕ) (ho : o + 512 ≤ 2048) : FVec Ideal S512x512 .f32 :=
  k0_pay814 (F := Ideal) (View.ld h (Rect.unit (s := S1x2048x2048) ![0, o, 0] ![1, 512, 2048] (inside3 o 0 ho (by norm_num)))) w

/-- Its entries. -/
theorem part_at (v : FVec Ideal S1x512x2048 .bf16) (r n : Fin 512) :
    k0_pay814 (F := Ideal) v w (ix2 r n) = ∑ k, v (ix3 (0 : Fin 1) r k) * w (ix2 k n) := by
  pointwise [k0_pay814, k0_pay812]

/-- A stored part is its part of `fill`. -/
theorem part_fill (o : ℕ) (ho : o + 512 ≤ 2048) (l : ℕ) (hl : l + 512 ≤ 1024)
    (hw : ∀ (k : Fin 2048) (n : Fin 512) (q : l + (n : ℕ) < 1024), cols w1 w2 k ⟨l + n, q⟩ = w (ix2 k n)) (x : S512x512.Idx) :
    part h w o ho x = fill h w1 w2 ((Rect.unit (s := S2064x1024) ![8 + o, l] ![512, 512] (inside (8 + o) l (by omega) hl)).emb x) := by
  obtain ⟨r, n, rfl⟩ := split2 x
  have e : ((Rect.unit (s := S2064x1024) ![8 + o, l] ![512, 512] (inside (8 + o) l (by omega) hl)).emb (ix2 r n))
      = ix2 (⟨8 + o + r, by omega⟩ : Fin 2064) (⟨l + n, by omega⟩ : Fin 1024) := funext fun d => Fin.ext (by
    match d with
    | ⟨0, _⟩ => show 8 + o + 1 * (r : ℕ) = 8 + o + r; omega
    | ⟨1, _⟩ => show l + 1 * (n : ℕ) = l + n; omega)
  rw [e]
  refine (part_at w _ r n).trans ?_
  show _ = row (fun r => ∑ k, h (ix3 (0 : Fin 1) r k) * cols w1 w2 k ⟨l + n, by omega⟩) (8 + o + r - 7)
  unfold row
  rw [dif_pos (by omega)]
  refine Finset.sum_congr rfl fun k _ => ?_
  rw [hw k n]
  refine congrArg (· * w (ix2 k n)) (congrArg h (funext fun d => Fin.ext ?_))
  match d with
  | ⟨0, _⟩ => rfl
  | ⟨1, _⟩ => show o + 1 * (r : ℕ) = 8 + o + r - 7 - 1; omega
  | ⟨2, _⟩ => show 0 + 1 * (k : ℕ) = k; omega

/-- The stores of a point into the buffer, the last one first. -/
def stores : List (View.Piece (Elt Ideal) S2064x1024 .f32) :=
  [⟨Rect.unit (s := S2064x1024) ![1544, 512] ![512, 512] (inside 1544 512 (by norm_num) (by norm_num)), part h w2 1536 (by norm_num)⟩,
   ⟨Rect.unit (s := S2064x1024) ![1544, 0] ![512, 512] (inside 1544 0 (by norm_num) (by norm_num)), part h w1 1536 (by norm_num)⟩,
   ⟨Rect.unit (s := S2064x1024) ![1032, 512] ![512, 512] (inside 1032 512 (by norm_num) (by norm_num)), part h w2 1024 (by norm_num)⟩,
   ⟨Rect.unit (s := S2064x1024) ![1032, 0] ![512, 512] (inside 1032 0 (by norm_num) (by norm_num)), part h w1 1024 (by norm_num)⟩,
   ⟨Rect.unit (s := S2064x1024) ![520, 512] ![512, 512] (inside 520 512 (by norm_num) (by norm_num)), part h w2 512 (by norm_num)⟩,
   ⟨Rect.unit (s := S2064x1024) ![520, 0] ![512, 512] (inside 520 0 (by norm_num) (by norm_num)), part h w1 512 (by norm_num)⟩,
   ⟨Rect.unit (s := S2064x1024) ![8, 512] ![512, 512] (inside 8 512 (by norm_num) (by norm_num)), part h w2 0 (by norm_num)⟩,
   ⟨Rect.unit (s := S2064x1024) ![8, 0] ![512, 512] (inside 8 0 (by norm_num) (by norm_num)), part h w1 0 (by norm_num)⟩]

theorem stores_fill : View.PiecesOf (fill h w1 w2) (stores h w1 w2) := by
  unfold stores
  refine ⟨part_fill h w1 w2 w2 1536 (by norm_num) 512 (by norm_num) (cols_right w1 w2), ?_⟩
  refine ⟨part_fill h w1 w2 w1 1536 (by norm_num) 0 (by norm_num) (cols_left w1 w2), ?_⟩
  refine ⟨part_fill h w1 w2 w2 1024 (by norm_num) 512 (by norm_num) (cols_right w1 w2), ?_⟩
  refine ⟨part_fill h w1 w2 w1 1024 (by norm_num) 0 (by norm_num) (cols_left w1 w2), ?_⟩
  refine ⟨part_fill h w1 w2 w2 512 (by norm_num) 512 (by norm_num) (cols_right w1 w2), ?_⟩
  refine ⟨part_fill h w1 w2 w1 512 (by norm_num) 0 (by norm_num) (cols_left w1 w2), ?_⟩
  refine ⟨part_fill h w1 w2 w2 0 (by norm_num) 512 (by norm_num) (cols_right w1 w2), ?_⟩
  refine ⟨part_fill h w1 w2 w1 0 (by norm_num) 0 (by norm_num) (cols_left w1 w2), ?_⟩
  exact trivial

/-- An index within a part lies in it. -/
theorem in_part (o l : ℕ) (ho : o + 512 ≤ 2064) (hl : l + 512 ≤ 1024) (y : S2064x1024.Idx)
    (q : (o ≤ (y 0 : ℕ) ∧ (y 0 : ℕ) < o + 512) ∧ l ≤ (y 1 : ℕ) ∧ (y 1 : ℕ) < l + 512) :
    y ∈ (Rect.unit (s := S2064x1024) ![o, l] ![512, 512] (inside o l ho hl)).set :=
  Rect.mem_set_unit.mpr fun a => match a with
    | ⟨0, _⟩ => q.1
    | ⟨1, _⟩ => q.2

/-- An index that no store holds lies in the rows of zeros. -/
theorem outside (y : S2064x1024.Idx) (hy : ∀ p ∈ stores h w1 w2, y ∉ p.1.set) : (y 0 : ℕ) < 8 ∨ 2056 ≤ (y 0 : ℕ) := by
  have y1 : (y 1 : ℕ) < 1024 := (y 1).isLt
  have h0 : ¬((1544 ≤ (y 0 : ℕ) ∧ (y 0 : ℕ) < 1544 + 512) ∧ 512 ≤ (y 1 : ℕ) ∧ (y 1 : ℕ) < 512 + 512) := fun h' => hy ⟨Rect.unit (s := S2064x1024) ![1544, 512] ![512, 512] (inside 1544 512 (by norm_num) (by norm_num)), part h w2 1536 (by norm_num)⟩ (by unfold stores; simp) (in_part 1544 512 (by norm_num) (by norm_num) y h')
  have h1 : ¬((1544 ≤ (y 0 : ℕ) ∧ (y 0 : ℕ) < 1544 + 512) ∧ 0 ≤ (y 1 : ℕ) ∧ (y 1 : ℕ) < 0 + 512) := fun h' => hy ⟨Rect.unit (s := S2064x1024) ![1544, 0] ![512, 512] (inside 1544 0 (by norm_num) (by norm_num)), part h w1 1536 (by norm_num)⟩ (by unfold stores; simp) (in_part 1544 0 (by norm_num) (by norm_num) y h')
  have h2 : ¬((1032 ≤ (y 0 : ℕ) ∧ (y 0 : ℕ) < 1032 + 512) ∧ 512 ≤ (y 1 : ℕ) ∧ (y 1 : ℕ) < 512 + 512) := fun h' => hy ⟨Rect.unit (s := S2064x1024) ![1032, 512] ![512, 512] (inside 1032 512 (by norm_num) (by norm_num)), part h w2 1024 (by norm_num)⟩ (by unfold stores; simp) (in_part 1032 512 (by norm_num) (by norm_num) y h')
  have h3 : ¬((1032 ≤ (y 0 : ℕ) ∧ (y 0 : ℕ) < 1032 + 512) ∧ 0 ≤ (y 1 : ℕ) ∧ (y 1 : ℕ) < 0 + 512) := fun h' => hy ⟨Rect.unit (s := S2064x1024) ![1032, 0] ![512, 512] (inside 1032 0 (by norm_num) (by norm_num)), part h w1 1024 (by norm_num)⟩ (by unfold stores; simp) (in_part 1032 0 (by norm_num) (by norm_num) y h')
  have h4 : ¬((520 ≤ (y 0 : ℕ) ∧ (y 0 : ℕ) < 520 + 512) ∧ 512 ≤ (y 1 : ℕ) ∧ (y 1 : ℕ) < 512 + 512) := fun h' => hy ⟨Rect.unit (s := S2064x1024) ![520, 512] ![512, 512] (inside 520 512 (by norm_num) (by norm_num)), part h w2 512 (by norm_num)⟩ (by unfold stores; simp) (in_part 520 512 (by norm_num) (by norm_num) y h')
  have h5 : ¬((520 ≤ (y 0 : ℕ) ∧ (y 0 : ℕ) < 520 + 512) ∧ 0 ≤ (y 1 : ℕ) ∧ (y 1 : ℕ) < 0 + 512) := fun h' => hy ⟨Rect.unit (s := S2064x1024) ![520, 0] ![512, 512] (inside 520 0 (by norm_num) (by norm_num)), part h w1 512 (by norm_num)⟩ (by unfold stores; simp) (in_part 520 0 (by norm_num) (by norm_num) y h')
  have h6 : ¬((8 ≤ (y 0 : ℕ) ∧ (y 0 : ℕ) < 8 + 512) ∧ 512 ≤ (y 1 : ℕ) ∧ (y 1 : ℕ) < 512 + 512) := fun h' => hy ⟨Rect.unit (s := S2064x1024) ![8, 512] ![512, 512] (inside 8 512 (by norm_num) (by norm_num)), part h w2 0 (by norm_num)⟩ (by unfold stores; simp) (in_part 8 512 (by norm_num) (by norm_num) y h')
  have h7 : ¬((8 ≤ (y 0 : ℕ) ∧ (y 0 : ℕ) < 8 + 512) ∧ 0 ≤ (y 1 : ℕ) ∧ (y 1 : ℕ) < 0 + 512) := fun h' => hy ⟨Rect.unit (s := S2064x1024) ![8, 0] ![512, 512] (inside 8 0 (by norm_num) (by norm_num)), part h w1 0 (by norm_num)⟩ (by unfold stores; simp) (in_part 8 0 (by norm_num) (by norm_num) y h')
  omega

/-- There `fill` is zero. -/
theorem fill_zero (y : S2064x1024.Idx) (hy : (y 0 : ℕ) < 8 ∨ 2056 ≤ (y 0 : ℕ)) : fill h w1 w2 y = 0 := by
  unfold fill row
  exact dif_neg (by omega)

variable (m : (ℓ : Loc nD τ sig) → Buf (Elt Ideal) ℓ) (c : Dev nD)

/-- The buffer after the first point. -/
theorem buffer_first (t : Fin cfg0.N) (h0 : t.val % 89 = 0) :
    (outsAt0 m c t.val t.isLt).2 = fill (iblk m c 0 t) (iblk m c 1 t) (iblk m c 2 t) := by
  rw [outsAt0_A m c t h0]
  frame_out
  generalize iblk m c 0 t = h
  generalize iblk m c 1 t = w1
  generalize iblk m c 2 t = w2
  funext y
  refine Eq.trans (b := View.canon (stores h w1 w2 ++ [⟨Rect.unit ![0, 0] ![2064, 1024] inb_S2064x1024_S2064x1024_0_0, k0_pay2 (F := Ideal)⟩]) y) rfl ?_
  by_cases hy : ∃ p ∈ stores h w1 w2, y ∈ p.1.set
  · exact View.canon_append_of_piecesOf _ _ _ (stores_fill h w1 w2) y hy
  · have hy' : ∀ p ∈ stores h w1 w2, y ∉ p.1.set := fun p hp hm => hy ⟨p, hp, hm⟩
    rw [fill_zero h w1 w2 y (outside h w1 w2 y hy'), ← View.read_writes_junk_eq_canon (View.whole cc0_scratch0)]
    refine (View.read_writes_apply_of_forall_not_mem (View.whole cc0_scratch0) ((View.whole cc0_scratch0).writes (Elt Ideal)
      (View.whole cc0_scratch0).junk [⟨Rect.unit ![0, 0] ![2064, 1024] inb_S2064x1024_S2064x1024_0_0, k0_pay2 (F := Ideal)⟩]) y _ hy').trans ?_
    refine (View.read_writes_cons_unit_of_mem (Val := Elt Ideal) (s := S2064x1024) (e := .f32) (off' := ![0, 0]) (View.whole cc0_scratch0) (View.whole cc0_scratch0).junk
      inb_S2064x1024_S2064x1024_0_0 (k0_pay2 (F := Ideal)) [] y y rfl fun a => ?_).trans ?_
    · match a with
      | ⟨0, _⟩ => exact (Nat.zero_add _).symm
      | ⟨1, _⟩ => exact (Nat.zero_add _).symm
    · pointwise [k0_pay2]

/-- The buffer after a later point, if the rows of zeros were zero before it. -/
theorem buffer_later (t : Fin cfg0.N) (h0 : ¬t.val % 89 = 0)
    (hz : ∀ y : S2064x1024.Idx, ((y 0 : ℕ) < 8 ∨ 2056 ≤ (y 0 : ℕ)) →
      (outsAt0 m c (t.val - 1) (Nat.lt_of_le_of_lt (Nat.sub_le _ _) t.isLt)).2 y = 0) :
    (outsAt0 m c t.val t.isLt).2 = fill (iblk m c 0 t) (iblk m c 1 t) (iblk m c 2 t) := by
  rw [outsAt0_B m c t h0]
  frame_out
  generalize iblk m c 0 t = h
  generalize iblk m c 1 t = w1
  generalize iblk m c 2 t = w2
  generalize (outsAt0 m c (t.val - 1) (Nat.lt_of_le_of_lt (Nat.sub_le _ _) t.isLt)).2 = S at hz ⊢
  funext y
  refine Eq.trans (b := View.read (Elt Ideal) (View.whole cc0_scratch0) ((View.whole cc0_scratch0).writes (Elt Ideal)
    ((Memref.isWhole_whole cc0_scratch0).unread S) (stores h w1 w2)) y) rfl ?_
  by_cases hy : ∃ p ∈ stores h w1 w2, y ∈ p.1.set
  · rw [View.read_writes_apply_eq_canon _ _ _ _ hy]
    exact View.canon_apply_of_pieces _ _ (stores_fill h w1 w2).mem y hy
  · have hy' : ∀ p ∈ stores h w1 w2, y ∉ p.1.set := fun p hp hm => hy ⟨p, hp, hm⟩
    rw [View.read_writes_apply_of_forall_not_mem _ _ _ _ hy', read_unread_whole]
    have ho := outside h w1 w2 y hy'
    rw [fill_zero h w1 w2 y ho]
    exact hz y ho

end Cert.Proof.Up

end
-- ==== Proof.Up.Blocks.lean ====
/- The blocks of `ffn_up`, and the buffer after each point. -/
module

public import proofs.«01_k».proof.Proof.Up.Block
public import proofs.«01_k».proof.Proof.Up.Buffer
public import Idealize.ShloMosaic.Lib.Pointwise
public import Idealize.ShloMosaic.Lib.Claim
public import Idealize.ShloMosaic.Lib.Pipeline.ValueKit

@[expose] public section

set_option maxRecDepth 16384
set_option maxHeartbeats 1000000
noncomputable section

namespace Cert.Proof.Up

open Idealize.ShloMosaic Idealize.ShloMosaic.TcCoe Idealize.SL.Sem Idealize.ShloMosaic.Pipeline

open Common Cert.UpIdeal Cert.UpIdeal.Gen

variable (m : (ℓ : Loc nD τ sig) → Buf (Elt Ideal) ℓ) (c : Dev nD)

/-- The block indices of the windows whose products a point computes. -/
theorem idx_cur : ∀ t : Fin cfg0.N, win0_0.index t = ![min t.val 87 / 11, 0, 0] ∧ win0_1.index t = ![0, min t.val 87 % 11]
    ∧ win0_2.index t = ![0, 11 + min t.val 87 % 11] :=
  (by decide +kernel : ∀ t : Fin grid0.N, _)

/-- The block indices of the windows with which a point finishes the products of the point before it. -/
theorem idx_prev : ∀ t : Fin cfg0.N, win0_3.index t = ![0, (t.val - 1) % 11] ∧ win0_4.index t = ![0, 11 + (t.val - 1) % 11]
    ∧ win0_5.index t = ![0, (t.val - 1) % 11] ∧ win0_6.index t = ![0, 11 + (t.val - 1) % 11]
    ∧ win0_7.index t = ![(t.val - 1) / 11, 0, (t.val - 1) % 11] :=
  (by decide +kernel : ∀ t : Fin grid0.N, _)

/-- The first point does not write its block back. -/
theorem late : ∀ t : Fin cfg0.N, (cfg0.win 7).flush t = true → t.val ≠ 0 :=
  (by decide +kernel : ∀ t : Fin grid0.N, _)

/-- The argument arrays. -/
abbrev aH : FVec Ideal S8x2048x2048 .bf16 := m ((c : Thread nD τ).loc main_arg0)
abbrev aW : FVec Ideal S2048x11264 .bf16 := m ((c : Thread nD τ).loc main_arg1)
abbrev aK : FVec Ideal S3x11264 .f32 := m ((c : Thread nD τ).loc main_arg2)
abbrev ab : FVec Ideal S11264 .f32 := m ((c : Thread nD τ).loc main_arg3)

/-- The blocks of the arguments. -/
theorem blk_h (t : Fin cfg0.N) (r k : Fin 2048) : (iblk m c 0 t : FVec Ideal S1x2048x2048 .bf16) (ix3 (0 : Fin 1) r k)
    = aH m c (ix3 (⟨min t.val 87 / 11, by omega⟩ : Fin 8) r k) := by
  blk_point [iblk, V, idx_cur t]

theorem blk_w1 (t : Fin cfg0.N) (k : Fin 2048) (n : Fin 512) : (iblk m c 1 t : FVec Ideal S2048x512 .bf16) (ix2 k n)
    = aW m c (ix2 k (⟨512 * (min t.val 87 % 11) + n, by omega⟩ : Fin 11264)) := by
  blk_point [iblk, V, idx_cur t]

theorem blk_w2 (t : Fin cfg0.N) (k : Fin 2048) (n : Fin 512) : (iblk m c 2 t : FVec Ideal S2048x512 .bf16) (ix2 k n)
    = aW m c (ix2 k (⟨5632 + 512 * (min t.val 87 % 11) + n, by omega⟩ : Fin 11264)) := by
  blk_point [iblk, V, idx_cur t]

theorem blk_k3 (t : Fin cfg0.N) (j : Fin 3) (n : Fin 512) : (iblk m c 3 t : FVec Ideal S3x512 .f32) (ix2 j n)
    = aK m c (ix2 j (⟨512 * ((t.val - 1) % 11) + n, by omega⟩ : Fin 11264)) := by
  blk_point [iblk, V, idx_prev t]

theorem blk_k4 (t : Fin cfg0.N) (j : Fin 3) (n : Fin 512) : (iblk m c 4 t : FVec Ideal S3x512 .f32) (ix2 j n)
    = aK m c (ix2 j (⟨5632 + 512 * ((t.val - 1) % 11) + n, by omega⟩ : Fin 11264)) := by
  blk_point [iblk, V, idx_prev t]

theorem blk_b5 (t : Fin cfg0.N) (n : Fin 512) : (iblk m c 5 t : FVec Ideal S1x512 .f32) (ix2 (0 : Fin 1) n)
    = ab m c (ix1 (⟨512 * ((t.val - 1) % 11) + n, by omega⟩ : Fin 11264)) := by
  refine Eq.trans (b := (V m c main_v0 : FVec Ideal S1x11264 .f32) (ix2 (0 : Fin 1) (⟨512 * ((t.val - 1) % 11) + n, by omega⟩ : Fin 11264)))
    (by blk_point [iblk, idx_prev t]) ?_
  entry_read
  pointwise

theorem blk_b6 (t : Fin cfg0.N) (n : Fin 512) : (iblk m c 6 t : FVec Ideal S1x512 .f32) (ix2 (0 : Fin 1) n)
    = ab m c (ix1 (⟨5632 + 512 * ((t.val - 1) % 11) + n, by omega⟩ : Fin 11264)) := by
  refine Eq.trans (b := (V m c main_v1 : FVec Ideal S1x11264 .f32) (ix2 (0 : Fin 1) (⟨5632 + 512 * ((t.val - 1) % 11) + n, by omega⟩ : Fin 11264)))
    (by blk_point [iblk, idx_prev t]) ?_
  entry_read
  pointwise

/-- The buffer after point `t`: the products of its blocks. -/
theorem buffer (n : ℕ) : ∀ hn : n < cfg0.N, (outsAt0 m c n hn).2 = fill (iblk m c 0 ⟨n, hn⟩) (iblk m c 1 ⟨n, hn⟩) (iblk m c 2 ⟨n, hn⟩) := by
  induction n with
  | zero => exact fun hn => buffer_first m c ⟨0, hn⟩ rfl
  | succ n ih =>
    intro hn
    have hN : n + 1 < 89 := hn
    refine buffer_later m c ⟨n + 1, hn⟩ (by show ¬(n + 1) % 89 = 0; omega) fun y hy => ?_
    exact (congrFun (ih (by omega)) y).trans (fill_zero _ _ _ y hy)

end Cert.Proof.Up

end
-- ==== Proof.Up.Final.lean ====
/- The call `ffn_up` leaves `result` in its output array. -/
module

public import proofs.«01_k».proof.Proof.Up.Blocks
public import Idealize.ShloMosaic.Lib.Pointwise
public import Idealize.ShloMosaic.Lib.Claim
public import Idealize.ShloMosaic.Lib.Pipeline.ValueKit

@[expose] public section

set_option maxRecDepth 16384
set_option maxHeartbeats 1000000
noncomputable section

namespace Cert.Proof.Up

open Idealize.ShloMosaic Idealize.ShloMosaic.TcCoe Idealize.SL.Sem Idealize.ShloMosaic.Pipeline

open Common Cert.UpIdeal Cert.UpIdeal.Gen

variable (m : (ℓ : Loc nD τ sig) → Buf (Elt Ideal) ℓ) (c : Dev nD)

/-- The taps over the buffer are those over the products whose columns it holds. -/
theorem half_conv (h : FVec Ideal S1x2048x2048 .bf16) (w1 w2 : FVec Ideal S2048x512 .bf16) (w : FVec Ideal S3x512 .f32) (b : FVec Ideal S1x512 .f32)
    (H : FVec Ideal S8x2048x2048 .bf16) (W : FVec Ideal S2048x11264 .bf16) (K : FVec Ideal S3x11264 .f32) (bb : FVec Ideal S11264 .f32)
    (e : Fin 8) (r : Fin 2048) (n : Fin 512) (k : Fin 1024) (j : Fin 11264)
    (hh : ∀ r q, h (ix3 (0 : Fin 1) r q) = H (ix3 e r q)) (hc : ∀ q, cols w1 w2 q k = W (ix2 q j))
    (hw : ∀ a, w (ix2 a n) = K (ix2 a j)) (hb : b (ix2 (0 : Fin 1) n) = bb (ix1 j)) :
    half (fill h w1 w2) w b r n k = conv H W K bb e r j := by
  have hp : (fun r => ∑ q, h (ix3 (0 : Fin 1) r q) * cols w1 w2 q k) = prod H W e j :=
    funext fun r => Finset.sum_congr rfl fun q _ => by rw [hh, hc]
  refine (taps_eq _ _ _ hw hb).trans ?_
  have hf : ∀ (p : ℕ) (hp' : p < 2064), fill h w1 w2 (ix2 (⟨p, hp'⟩ : Fin 2064) k) = row (prod H W e j) (p - 7) := fun p hp' => by
    rw [← hp]; rfl
  rw [hf, hf, hf]
  rfl

/-- Where an index of the output block lies in the array. -/
theorem emb_out (t : Fin cfg0.N) (y : ((cfg0.win 7).xblock (cfg0.grid.coords t)).Idx) :
    ((((View.whole main_v2).slice (win0_7.rect t)).emb y 0 : ℕ) = (t.val - 1) / 11)
    ∧ ((((View.whole main_v2).slice (win0_7.rect t)).emb y 1 : ℕ) = (y 1 : ℕ))
    ∧ ((((View.whole main_v2).slice (win0_7.rect t)).emb y 2 : ℕ) = 512 * ((t.val - 1) % 11) + (y 2 : ℕ)) := by
  have hi := (idx_prev t).2.2.2.2
  have hy : (y 0 : ℕ) < 1 := (y 0).isLt
  refine ⟨?_, ?_, ?_⟩
  · show win0_7.index t 0 * 1 + 1 * (y 0 : ℕ) = _
    rw [hi]; show (t.val - 1) / 11 * 1 + 1 * (y 0 : ℕ) = _; omega
  · show win0_7.index t 1 * 2048 + 1 * (y 1 : ℕ) = _
    rw [hi]; show 0 * 2048 + 1 * (y 1 : ℕ) = _; omega
  · show win0_7.index t 2 * 512 + 1 * (y 2 : ℕ) = _
    rw [hi]; show (t.val - 1) % 11 * 512 + 1 * (y 2 : ℕ) = _; omega

/-- The block that a later point writes, at an index. -/
theorem block_val (t : Fin cfg0.N) (h0 : t.val ≠ 0) (x : S1x2048x512.Idx) (z : S8x2048x5632.Idx) (z0 : (z 0 : ℕ) = (t.val - 1) / 11)
    (z1 : (z 1 : ℕ) = x 1) (z2 : (z 2 : ℕ) = 512 * ((t.val - 1) % 11) + x 2) :
    (outsAt0 m c t.val t.isLt).1 x = result (aH m c) (aW m c) (aK m c) (ab m c) z := by
  have ht : t.val < 89 := t.isLt
  rw [out_at m c t (by omega) x, buffer m c (t.val - 1)]
  obtain ⟨i, r, n, rfl⟩ := split3 x
  obtain ⟨e, r', n', rfl⟩ := split3 z
  obtain rfl : r' = r := Fin.ext z1
  replace z0 : (e : ℕ) = (t.val - 1) / 11 := z0
  replace z2 : (n' : ℕ) = 512 * ((t.val - 1) % 11) + n := z2
  have hs : min (t.val - 1) 87 = t.val - 1 := by omega
  have hn : (n : ℕ) < 512 := n.isLt
  have hh : ∀ r q : Fin 2048, (iblk m c 0 ⟨t.val - 1, by omega⟩ : FVec Ideal S1x2048x2048 .bf16) (ix3 (0 : Fin 1) r q) = aH m c (ix3 e r q) := fun r q =>
    (blk_h m c ⟨t.val - 1, by omega⟩ r q).trans (congrArg (fun i => aH m c (ix3 i r q)) (Fin.ext (by
      show min (t.val - 1) 87 / 11 = (e : ℕ); rw [hs, z0])))
  refine congrArg₂ glu (half_conv _ _ _ _ _ (aH m c) (aW m c) (aK m c) (ab m c) e r' n _ _ hh ?_ ?_ ?_)
    (half_conv _ _ _ _ _ (aH m c) (aW m c) (aK m c) (ab m c) e r' n _ _ hh ?_ ?_ ?_)
  · intro q
    refine Eq.trans (dif_pos (show (n : ℕ) < 512 from hn)) ?_
    exact (blk_w1 m c ⟨t.val - 1, by omega⟩ q n).trans (congrArg (fun i => aW m c (ix2 q i)) (Fin.ext (by
      show 512 * (min (t.val - 1) 87 % 11) + (n : ℕ) = (n' : ℕ); rw [hs, z2])))
  · exact fun a => (blk_k3 m c t a n).trans (congrArg (fun i => aK m c (ix2 a i)) (Fin.ext z2.symm))
  · exact (blk_b5 m c t n).trans (congrArg (fun i => ab m c (ix1 i)) (Fin.ext z2.symm))
  · intro q
    refine (cols_right _ _ q n (by omega)).trans ((blk_w2 m c ⟨t.val - 1, by omega⟩ q n).trans (congrArg (fun i => aW m c (ix2 q i)) (Fin.ext ?_)))
    show 5632 + 512 * (min (t.val - 1) 87 % 11) + (n : ℕ) = 5632 + (n' : ℕ)
    rw [hs, z2, Nat.add_assoc]
  · exact fun a => (blk_k4 m c t a n).trans (congrArg (fun i => aK m c (ix2 a i)) (Fin.ext (by
      show 5632 + 512 * ((t.val - 1) % 11) + (n : ℕ) = 5632 + (n' : ℕ); rw [z2, Nat.add_assoc])))
  · exact (blk_b6 m c t n).trans (congrArg (fun i => ab m c (ix1 i)) (Fin.ext (by
      show 5632 + 512 * ((t.val - 1) % 11) + (n : ℕ) = 5632 + (n' : ℕ); rw [z2, Nat.add_assoc])))

/-- The output array. -/
theorem final : (dats m 0 c).arrAt 7 cfg0.N = result (aH m c) (aW m c) (aK m c) (ab m c) := by
  refine Dat.arrAt_eq_of_covers _ 7 _ (by decide +kernel) fun t hf y => ?_
  have h0 := late t hf
  blk_simp
  obtain ⟨z0, z1, z2⟩ := emb_out t y
  generalize ((View.whole main_v2).slice (win0_7.rect t)).emb y = z at z0 z1 z2 ⊢
  rw [after0_7]
  exact block_val m c t h0 y z z0 z1 z2

end Cert.Proof.Up

end
-- ==== Proof.Up.Ref.lean ====
/- The reference of `ffn_up` computes `result`. -/
module

public import proofs.«01_k».proof.Proof.Up.Taps
public import proofs.«01_k».proof.Proof.Gen.UpRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.Proof.Up

open Idealize.ShloMosaic Idealize.ShloMosaic.TcCoe Idealize.SL.Sem Idealize.ShloMosaic.Pipeline

open Common Cert.UpRefIdeal Cert.UpRefIdeal.Read

variable (H : FVec Ideal ⟨3, ![8, 2048, 2048]⟩ .bf16) (W : FVec Ideal ⟨2, ![2048, 11264]⟩ .bf16)
  (K : FVec Ideal ⟨2, ![3, 11264]⟩ .f32) (b : FVec Ideal ⟨1, ![11264]⟩ .f32)

/-- The reference's product. -/
theorem ref_prod (e : Fin 8) (r : Fin 2048) (j : Fin 11264) :
    val_main_v2 (F := Ideal) H W (ix3 e r j) = prod H W e j r := by
  pointwise [val_main_v2, val_main_v1, val_main_v0]
  rfl

/-- The reference's product, padded. -/
theorem ref_row (e : Fin 8) (p : Fin 2050) (j : Fin 11264) :
    val_main_v3 (F := Ideal) H W (ix3 e p j) = row (prod H W e j) p := by
  unfold val_main_v3
  have hp := ref_prod H W e
  generalize val_main_v2 (F := Ideal) H W = y at hp ⊢
  pointwise [val_main_call0_v0]
  unfold row
  by_cases h : 1 ≤ (p : ℕ) ∧ (p : ℕ) - 1 < 2048
  · rw [dif_pos h, dif_pos h]
    exact hp _ _
  · rw [dif_neg h, dif_neg h]
    show (((0#32 : BitVec 32).toInt : ℝ) : EReal) = 0
    simp

/-- The taps of the reference. -/
theorem ref_conv (e : Fin 8) (r : Fin 2048) (j : Fin 11264) :
    val_main_v26 (F := Ideal) H W K b (ix3 e r j) = conv H W K b e r j := by
  unfold val_main_v26 val_main_v23 val_main_v22 val_main_v19 val_main_v16 val_main_v15 val_main_v12 val_main_v9 val_main_v6
  have hr := ref_row H W e
  generalize val_main_v3 (F := Ideal) H W = y at hr ⊢
  pointwise [val_main_v4, val_main_v5, val_main_v7, val_main_v8, val_main_v10, val_main_v11, val_main_v13, val_main_v14,
    val_main_v17, val_main_v18, val_main_v20, val_main_v21, val_main_v24, val_main_v25]
  simp only [hr]
  rw [Nat.add_comm 1 (r : ℕ), Nat.add_comm 2 (r : ℕ)]
  rfl

theorem ref_out : val_main_v37 (F := Ideal) H W K b = result H W K b := by
  funext i
  idx_vars i
  rename' i0 => e, i1 => r, i2 => n
  unfold val_main_v37 val_main_v36 val_main_v35 val_main_v34 val_main_v32 val_main_v30 val_main_v29 val_main_v28 val_main_v27
  have hc := ref_conv H W K b e r
  generalize val_main_v26 (F := Ideal) H W K b = y at hc ⊢
  pointwise [val_main_v33, val_main_v31, val_main_cst, val_main_cst_0]
  simp only [hc]
  rfl

end Cert.Proof.Up

end
-- ==== Proof.Up.Claims.lean ====
/- The claims of the call stated as `Up`. -/
module

public import proofs.«01_k».proof.Defs
public import proofs.«01_k».proof.Proof.Gen.Up
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import proofs.«01_k».proof.Proof.Up.Final
public import proofs.«01_k».proof.Proof.Up.Ref
public import Idealize.ShloMosaic.Lib.Claim

@[expose] public section

set_option maxRecDepth 16384

noncomputable section

namespace Cert.Proof.Up

open Idealize.ShloMosaic Idealize.SL.Sem

theorem frame_k : quiescent_Up := fun m g _ => Cert.Up.Gen.frame m g

theorem frame_ki : quiescent_UpIdeal := fun m g _ => Cert.UpIdeal.Gen.frame m g

theorem frame_ri : quiescent_UpRefIdeal := fun m g _ =>
  (θ_run Cert.UpRefIdeal.defs _ _).mono (fun r h => ⟨fun c => (h c).2, sem_eq_zero_of_no_sems (by decide) r.2⟩)
    (Cert.UpRefIdeal.Value.run (F := Ideal) m g)

/-- The call's result is the reference's. -/
theorem algebraic : algebraic_UpIdeal_UpRefIdeal := by
  pair_intro
  · run_from (Cert.UpIdeal.Value.run_blocks m g)
  · run_from (Cert.UpRefIdeal.Value.run m' g')
    obtain ⟨h0, h1, h2, h3⟩ := hagree c
    rw [Cert.UpRefIdeal.Read.val_main_v37_eq, h0, h1, h2, h3]
    exact (ref_out _ _ _ _).trans (final m c).symm

end Cert.Proof.Up

end
-- ==== Proof.Proj.Setup.lean ====
/- Set-up. -/
module

public import proofs.«01_k».proof.Proof.Gen.Proj
public import proofs.«01_k».proof.Proof.Gen.ProjIdeal.Frame
public import proofs.«01_k».proof.Proof.Gen.ProjIdeal.Loops
public import proofs.«01_k».proof.Proof.Gen.ProjRefIdeal.Read
public import proofs.«01_k».proof.Proof.Gen.ProjRefIdeal.Run

@[expose] public section
end
-- ==== Proof.Proj.Ring.lean ====
/- The three slots through which `in_proj` reads the columns of its weights: what each slot, each copy and each
   semaphore of a step is. -/
module

public import proofs.«01_k».proof.Proof.Gen.ProjIdeal.Frame
public import Idealize.ShloMosaic.Lib.Ring
public import Idealize.ShloMosaic.Lib.Claim

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

/-- The scratch of a point: the normed rows, the product of the point before, the slots; and the weights. -/
abbrev hBuf : Memref sig .tc .vmem S1024x2048 .bf16 := Memref.whole cc0_scratch0
abbrev uBuf : Memref sig .tc .vmem S1024x1024 .f32 := Memref.whole cc0_scratch1
abbrev slots : Memref sig .tc .vmem S3x2048x1024 .bf16 := Memref.whole cc0_scratch2
abbrev wBuf : Memref sig .tc .hbm S2048x10240 .bf16 := Memref.whole main_v3

/-- A buffer's contents on core `c`, and a buffer held whole. -/
abbrev Cont (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Cont (F := F) c M) : sProp 𝕄 :=
  M.view.loc (c : Thread nD τ) ↦{fullShare} f

/-- The semaphores of the copies. -/
abbrev sems : Fin 3 → SemLoc sig := fun j => (![SemLoc.dma 15, SemLoc.dma 16, SemLoc.dma 17] : Fin 3 → SemLoc sig) j
theorem semFacts : Pipeline.OwnSemFacts spec0 sems := by decide
theorem semsAtZero (c : Dev nD) :
    (Pipeline.ownSems0 (Ix := Unit) (Name := ℕ) (U := Pipeline.UD sig nD τ) (Lvl := ℕ) (Val := Elt F) (τ := τ) sems c : sProp 𝕄)
      = iprop(semVal ((c : Thread nD τ), SemLoc.dma 15) 0 ∗ semVal ((c : Thread nD τ), SemLoc.dma 16) 0 ∗ semVal ((c : Thread nD τ), SemLoc.dma 17) 0) := by
  rw [Pipeline.ownSems0_eq_of_list c sems [0, 1, 2] (by decide) (by decide)]; rfl

/-- The weights are the one array that the body copies from. -/
def copied : Finset (Ref sig .tc) := {main_v3}
theorem copied_sub : copied ⊆ Pipeline.restRefs sig spec0 := by decide

instance : NeZero grid0.N := ⟨by rw [N_0]; decide⟩

/-- The column of blocks that step `b` reads. -/
abbrev colOf (b : ℕ) : ℕ := min b 159 % 10

theorem slot_inb (s : Fin 3) : ∀ a, (![s.val, 0, 0] : Fin 3 → Nat) a + S1x2048x1024.size a ≤ S3x2048x1024.size a := by
  have := s.isLt; intro a; fin_cases a <;> simp <;> omega
theorem blk_inb (b : Fin 161) : ∀ a, (![0, 1024 * colOf b.val] : Fin 2 → Nat) a + S2048x1024.size a ≤ S2048x10240.size a := by
  have : colOf b.val < 10 := Nat.mod_lt _ (by decide)
  intro a; fin_cases a <;> simp <;> omega
theorem cell_inb (s : Fin 3) : ∀ a, (![s.val] : Fin 1 → Nat) a + S1.size a ≤ S3.size a := by
  have := s.isLt; intro a; fin_cases a <;> simp <;> omega

/-- Slot `s`, the block of step `b`, and semaphore `s`, as the body cuts them. -/
def slotM (s : Fin 3) : Memref sig .tc .vmem S2048x1024 .bf16 :=
  (slots.slice (Rect.unit (s := S3x2048x1024) ![s.val, 0, 0] S1x2048x1024.size (slot_inb s)) (fun _ => rfl)).squeeze S2048x1024 squeezes_S1x2048x1024_S2048x1024
def blkM (b : Fin 161) : Memref sig .tc .hbm S2048x1024 .bf16 :=
  wBuf.slice (Rect.unit (s := S2048x10240) ![0, 1024 * colOf b.val] S2048x1024.size (blk_inb b)) (fun _ => rfl)
def cellM (s : Fin 3) : DmaSems sig S_ := (cc0_scratch3.slice (Rect.unit (s := S3) ![s.val] S1.size (cell_inb s))).squeeze S_ squeezes_S1_S_
abbrev cellL (s : Fin 3) : SemLoc sig := SemLoc.dma (cellM s).sem
theorem cellL_0 : cellL 0 = SemLoc.dma 15 := by decide
theorem cellL_1 : cellL 1 = SemLoc.dma 16 := by decide
theorem cellL_2 : cellL 2 = SemLoc.dma 17 := by decide

section Families
variable (c : Dev nD) (W : Cont (F := F) c wBuf)

/-- The weights are lent in three shares, one to each slot. -/
abbrev shareOf (s : Fin 3) : PosShare TreeShare := if s.val = 0 then fullShare.left else if s.val = 1 then fullShare.right.left else fullShare.right.right
abbrev slotP (s : Fin 3) (f : Cont (F := F) c (slotM s)) : sProp 𝕄 := (slotM s).view.loc (c : Thread nD τ) ↦[(slotM s).view.set]{fullShare} f
abbrev cellP (s : Fin 3) : sProp 𝕄 := semVal ((c : Thread nD τ), cellL s) 0
abbrev srcP (s : Fin 3) (b : Fin 161) : sProp 𝕄 := (blkM b).view.loc (c : Thread nD τ) ↦[(blkM b).view.set]{shareOf s} W
def restP (s : Fin 3) (b : Fin 161) : sProp 𝕄 := ((c : Thread nD τ).loc main_v3) ↦[Finset.univ \ (blkM b).view.set]{shareOf s} W
abbrev wholeP (s : Fin 3) : sProp 𝕄 := ((c : Thread nD τ).loc main_v3) ↦[Finset.univ]{shareOf s} W
/-- A slot once the block of step `b` has come in. -/
abbrev landed (s : Fin 3) (b : Fin 161) (f : Cont (F := F) c (slotM s)) : Cont (F := F) c (slotM s) :=
  (slotM s).view.writes (Elt F) f [⟨Rect.whole S2048x1024, ReadAs.same.apply ((blkM b).view.read (Elt F) W)⟩]
abbrev flightP (s : Fin 3) (b : Fin 161) (f : Cont (F := F) c (slotM s)) : sProp 𝕄 :=
  Transfers.Flight countersEmb (c : Thread nD τ) (cellL s) default ((slotM s).view.amount (cellL s))
    iprop(slotP c s (landed c W s b f) ∗ srcP c W s b)
/-- A free slot has its share of all the weights; a copy on its way has the rest of the share. -/
abbrev slotW (s : Fin 3) (f : Cont (F := F) c (slotM s)) : sProp 𝕄 := iprop(slotP c s f ∗ wholeP c W s)
abbrev flightW (s : Fin 3) (b : Fin 161) (f : Cont (F := F) c (slotM s)) : sProp 𝕄 := iprop(flightP c W s b f ∗ restP c W s b)
abbrev noHome (b : Fin 161) : sProp 𝕄 := iprop(emp)
/-- The slots before step `k`. -/
def ringAt (k : ℕ) : sProp 𝕄 :=
  if k = 0 then Ring.At₀ (cellP c) (slotW c W) noHome
  else Ring.At 2 (cellP c) (slotW c W) noHome (flightW c W) k

omit [FloatOps F] in
theorem cellP_0 : cellP (F := F) c 0 = semVal ((c : Thread nD τ), SemLoc.dma 15) 0 := congrArg (fun x => (semVal ((c : Thread nD τ), x) 0 : sProp 𝕄)) cellL_0
omit [FloatOps F] in
theorem cellP_1 : cellP (F := F) c 1 = semVal ((c : Thread nD τ), SemLoc.dma 16) 0 := congrArg (fun x => (semVal ((c : Thread nD τ), x) 0 : sProp 𝕄)) cellL_1
omit [FloatOps F] in
theorem cellP_2 : cellP (F := F) c 2 = semVal ((c : Thread nD τ), SemLoc.dma 17) 0 := congrArg (fun x => (semVal ((c : Thread nD τ), x) 0 : sProp 𝕄)) cellL_2
end Families

/-! The slots are disjoint and make up the scratch. -/

abbrev slotSet (s : Fin 3) : Finset S3x2048x1024.Idx := (Rect.unit (s := S3x2048x1024) ![s.val, 0, 0] S1x2048x1024.size (slot_inb s)).set
theorem slotSet_eq (s : Fin 3) : (slotM s).view.set = slotSet s := by
  simp only [slotM, Memref.view_squeeze, View.set_reshape]; exact View.set_slice_whole _ _
theorem slots_disjoint (s s' : Fin 3) (h : s ≠ s') : Disjoint (slotSet s) (slotSet s') :=
  Ring.lead_disjoint (s := S3x2048x1024) (0 : Fin 3) 1 (fun s : Fin 3 => (![s.val, 0, 0] : Fin 3 → Nat)) S1x2048x1024.size slot_inb (fun s => by simp) rfl s s' h
theorem slots_cover : Finset.univ.biUnion slotSet = Finset.univ :=
  Ring.lead_cover (s := S3x2048x1024) (0 : Fin 3) 1 (fun s : Fin 3 => (![s.val, 0, 0] : Fin 3 → Nat)) S1x2048x1024.size slot_inb (fun s => by simp)
    (fun s a ha => by fin_cases a <;> first | exact absurd rfl ha | rfl) rfl (fun a ha => by fin_cases a <;> first | exact absurd rfl ha | rfl) rfl

section InOut
variable (c : Dev nD) (W : Cont (F := F) c wBuf)

theorem slotP_eq (s : Fin 3) (f) : slotP (F := F) c s f = (((c : Thread nD τ).loc cc0_scratch2) ↦[slotSet s]{fullShare} f : sProp 𝕄) := by
  unfold slotP; rw [slotSet_eq]; rfl
/-- A share of the weights is that of one block and that of the rest. -/
theorem src_split (s : Fin 3) (b : Fin 161) : wholeP (F := F) c W s ⊣⊢ iprop(srcP c W s b ∗ restP c W s b) := by
  unfold restP; exact pointsTo_split_subset (Finset.subset_univ _)
theorem whole_split : (held c wBuf W : sProp 𝕄) ⊣⊢ iprop(wholeP c W 0 ∗ wholeP c W 1 ∗ wholeP c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
theorem slots_in : iprop(∃ d, owns (c : Thread nD τ) slots fullShare d) ⊢ (iprop((∃ f, slotP (F := F) c 0 f) ∗ (∃ f, slotP (F := F) c 1 f) ∗ ∃ f, slotP (F := F) c 2 f) : sProp 𝕄) := by
  simp only [slots, owns_whole]
  exact Ring.slots3_split (U := Pipeline.UD sig nD τ) (ℓ := (c : Thread nD τ).loc cc0_scratch2) (q := fullShare) slotSet slots_disjoint slots_cover
    (slotP c 0) (slotP c 1) (slotP c 2) (slotP_eq c 0) (slotP_eq c 1) (slotP_eq c 2)
set_option maxHeartbeats 1000000 in
theorem slots_out : (iprop((∃ f, slotP (F := F) c 0 f) ∗ (∃ f, slotP (F := F) c 1 f) ∗ ∃ f, slotP (F := F) c 2 f) : sProp 𝕄) ⊢ iprop(∃ d, owns (c : Thread nD τ) slots fullShare d) := by
  simp only [slots, owns_whole]
  exact Ring.slots3_join (U := Pipeline.UD sig nD τ) (ℓ := (c : Thread nD τ).loc cc0_scratch2) (q := fullShare) slotSet slots_disjoint slots_cover
    (slotP c 0) (slotP c 1) (slotP c 2) (slotP_eq c 0) (slotP_eq c 1) (slotP_eq c 2)

/-- What the launch hands over is the slots before the first step; -/
theorem ring_in :
    iprop((∃ d, owns (c : Thread nD τ) slots fullShare d) ∗ (semVal ((c : Thread nD τ), SemLoc.dma 15) 0 ∗ semVal ((c : Thread nD τ), SemLoc.dma 16) 0 ∗ semVal ((c : Thread nD τ), SemLoc.dma 17) 0) ∗ held c wBuf W)
      ⊢ ringAt c W 0 := by
  unfold ringAt; rw [if_pos rfl]; unfold Ring.At₀
  rw [Ring.bigSep_fin3]
  simp only [Ring.free, cellP_0, cellP_1, cellP_2]
  iintro ⟨HS, Hc, HW⟩
  iapply Ring.with_homes₀
  icases Hc with ⟨H0, H1, H2⟩
  ihave HS' := (slots_in (F := F) c) $$ HS
  icases HS' with ⟨⟨%d0, HS0⟩, ⟨%d1, HS1⟩, ⟨%d2, HS2⟩⟩
  ihave HW' := (whole_split (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- and after the last step the same comes back. -/
theorem ring_out :
    ringAt c W 161
      ⊢ iprop((∃ d, owns (c : Thread nD τ) slots fullShare d) ∗ (semVal ((c : Thread nD τ), SemLoc.dma 15) 0 ∗ semVal ((c : Thread nD τ), SemLoc.dma 16) 0 ∗ semVal ((c : Thread nD τ), SemLoc.dma 17) 0) ∗ held c wBuf W) := by
  unfold ringAt; rw [if_neg (by decide)]
  iintro H
  ihave H' := (Ring.free3_of_At_last _ _ _ _) $$ H
  simp only [Ring.free, cellP_0, cellP_1, cellP_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole_split (F := F) c W).2; isplitl [HW0]; · iexact HW0
    isplitl [HW1]; · iexact HW1
    iexact HW2
end InOut

/-! The conditions of the body, by the number of the point. -/

theorem starts_two : ∀ t : Fin grid0.N, k0_cond1 (grid0.coords t) = 1#1 ↔ t.val = 0 := by decide +kernel
theorem starts_next : ∀ t : Fin grid0.N, k0_cond2 (grid0.coords t) = 1#1 ↔ t.val + 2 < 161 := by decide +kernel
theorem norms : ∀ t : Fin grid0.N, k0_cond4 (grid0.coords t) = 1#1 ↔ t.val % 10 = 0 ∧ t.val < 160 := by decide +kernel
theorem ropes : ∀ t : Fin grid0.N, k0_cond5 (grid0.coords t) = 1#1 ↔ t.val % 10 = 4 ∨ t.val % 10 = 5 := by decide +kernel
theorem casts : ∀ t : Fin grid0.N, k0_cond6 (grid0.coords t) = 1#1 ↔ ¬ (t.val % 10 = 4 ∨ t.val % 10 = 5) := by decide +kernel

/-! What the body cuts at a point, by slot, block and semaphore. -/

section Names
omit [FloatOps F]

theorem off2_eq : ∀ t : Fin grid0.N, k0_off2 (grid0.coords t) = ![(Ring.sl 3 (t.val + 2)).val] := by decide +kernel
theorem off3_eq : ∀ t : Fin grid0.N, k0_off3 (grid0.coords t) = ![(Ring.sl 3 (t.val + 2)).val, 0, 0] := by decide +kernel
theorem off4_eq : ∀ t : Fin grid0.N, k0_cond2 (grid0.coords t) = 1#1 → k0_off4 (grid0.coords t) = ![0, 1024 * colOf (Ring.bk 161 (t.val + 2)).val] := by decide +kernel
theorem off5_eq : ∀ t : Fin grid0.N, k0_off5 (grid0.coords t) = ![(Ring.sl 3 t.val).val] := by decide +kernel
theorem off6_eq : ∀ t : Fin grid0.N, k0_off6 (grid0.coords t) = ![(Ring.sl 3 t.val).val, 0, 0] := by decide +kernel
theorem off7_eq : ∀ t : Fin grid0.N, k0_off7 (grid0.coords t) = ![0, 1024 * colOf (Ring.bk 161 t.val).val] := by decide +kernel
theorem off9_eq : ∀ t : Fin grid0.N, k0_off9 (grid0.coords t) = ![(Ring.sl 3 t.val).val, 0, 0] := by decide +kernel
theorem off10_eq : ∀ t : Fin grid0.N, k0_off10 (grid0.coords t) = ![(Ring.sl 3 t.val).val, 0, 0] := by decide +kernel

instance (priority := high) closed9 (t : Fin grid0.N) : ClosedOff (k0_off9 (grid0.coords t)) := ⟨![(Ring.sl 3 t.val).val, 0, 0], off9_eq t⟩
instance (priority := high) closed10 (t : Fin grid0.N) : ClosedOff (k0_off10 (grid0.coords t)) := ⟨![(Ring.sl 3 t.val).val, 0, 0], off10_eq t⟩

theorem slot_name {o : Fin 3 → ℕ} {s : Fin 3} (h : o = ![s.val, 0, 0]) (inb : ∀ a, o a + S1x2048x1024.size a ≤ S3x2048x1024.size a) :
    (slots.slice (Rect.unit (s := S3x2048x1024) o S1x2048x1024.size inb) (fun _ => rfl)).squeeze S2048x1024 squeezes_S1x2048x1024_S2048x1024 = slotM s :=
  congrArg (fun M : Memref sig .tc .vmem S1x2048x1024 .bf16 => M.squeeze S2048x1024 squeezes_S1x2048x1024_S2048x1024) (Memref.slice_unit_congr _ h _ _ (fun _ => rfl) (fun _ => rfl))
theorem cell_name {o : Fin 1 → ℕ} {s : Fin 3} (h : o = ![s.val]) (inb : ∀ a, o a + S1.size a ≤ S3.size a) :
    (cc0_scratch3.slice (Rect.unit (s := S3) o S1.size inb)).squeeze S_ squeezes_S1_S_ = cellM s :=
  congrArg (fun A : DmaSems sig S1 => A.squeeze S_ squeezes_S1_S_) (SemArray.slice_unit_congr _ h _ _)
theorem blk_name {o : Fin 2 → ℕ} {b : Fin 161} (h : o = ![0, 1024 * colOf b.val]) (inb : ∀ a, o a + S2048x1024.size a ≤ S2048x10240.size a) :
    wBuf.slice (Rect.unit (s := S2048x10240) o S2048x1024.size inb) (fun _ => rfl) = blkM b :=
  Memref.slice_unit_congr _ h _ _ (fun _ => rfl) (fun _ => rfl)

@[sl_canon] theorem cell_next (t : Fin grid0.N) (h : k0_cond2 (grid0.coords t) = 1#1) :
    (cc0_scratch3.slice (Rect.unit (s := S3) (k0_off2 (grid0.coords t)) S1.size (k0_off2_inb (grid0.coords t) h))).squeeze S_ squeezes_S1_S_ = cellM (Ring.sl 3 (t.val + 2)) :=
  cell_name (off2_eq t) _
@[sl_canon] theorem slot_next (t : Fin grid0.N) (h : k0_cond2 (grid0.coords t) = 1#1) :
    (slots.slice (Rect.unit (s := S3x2048x1024) (k0_off3 (grid0.coords t)) S1x2048x1024.size (k0_off3_inb (grid0.coords t) h)) (fun _ => rfl)).squeeze S2048x1024 squeezes_S1x2048x1024_S2048x1024 = slotM (Ring.sl 3 (t.val + 2)) :=
  slot_name (off3_eq t) _
@[sl_canon] theorem blk_next (t : Fin grid0.N) (h : k0_cond2 (grid0.coords t) = 1#1) :
    wBuf.slice (Rect.unit (s := S2048x10240) (k0_off4 (grid0.coords t)) S2048x1024.size (k0_off4_inb (grid0.coords t) h)) (fun _ => rfl) = blkM (Ring.bk 161 (t.val + 2)) :=
  blk_name (off4_eq t h) _
@[sl_canon] theorem cell_here (t : Fin grid0.N) :
    (cc0_scratch3.slice (Rect.unit (s := S3) (k0_off5 (grid0.coords t)) S1.size (k0_off5_inb (grid0.coords t)))).squeeze S_ squeezes_S1_S_ = cellM (Ring.sl 3 t.val) :=
  cell_name (off5_eq t) _
@[sl_canon] theorem slot_here (t : Fin grid0.N) :
    (slots.slice (Rect.unit (s := S3x2048x1024) (k0_off6 (grid0.coords t)) S1x2048x1024.size (k0_off6_inb (grid0.coords t))) (fun _ => rfl)).squeeze S2048x1024 squeezes_S1x2048x1024_S2048x1024 = slotM (Ring.sl 3 t.val) :=
  slot_name (off6_eq t) _
@[sl_canon] theorem blk_here (t : Fin grid0.N) :
    wBuf.slice (Rect.unit (s := S2048x10240) (k0_off7 (grid0.coords t)) S2048x1024.size (k0_off7_inb (grid0.coords t))) (fun _ => rfl) = blkM (Ring.bk 161 t.val) :=
  blk_name (off7_eq t) _
end Names

end Cert.Proof.Proj

end
-- ==== Proof.Proj.Held.lean ====
/- What a point of `in_proj` holds while its body runs. -/
module

public import proofs.«01_k».proof.Proof.Proj.Ring

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

/-- A buffer of the body held at the contents `f`. -/
abbrev at_ (c : Dev nD) {S : Shape} {e : EltTy} (M : Memref sig .tc .vmem S e) (f : BufTy.Contents (Elt F) M.view.ty) : sProp 𝕄 :=
  M.view.loc (c : Thread nD τ) ↦[M.view.set]{fullShare} f

/-- A buffer held at contents that read as `x` is one held at `x`. -/
theorem owns_eq_at (c : Dev nD) {S : Shape} {e : EltTy} (M : Memref sig .tc .vmem S e) (hM : M.IsWhole) (x : Vec F S e) :
    owns (c : Thread nD τ) M fullShare x ⊣⊢ at_ (F := F) c M (hM.unread x) := by
  refine ⟨?_, ?_⟩
  · unfold owns
    iintro ⟨%f, %hf, H⟩
    obtain rfl := hM.eq_unread hf
    iexact H
  · unfold owns
    iintro H
    iexists _; isplitr; · ipureintro; exact hM.read_unread _
    iexact H

variable (c : Dev nD)
  (a1 : Memref sig .tc .vmem S1024x2048 .f32) (h1 : a1.IsWhole) (a2 : Memref sig .tc .vmem S1x2048 .f32) (h2 : a2.IsWhole)
  (a3 : Memref sig .tc .vmem S1x1x2048 .f32) (h3 : a3.IsWhole) (a4 : Memref sig .tc .vmem S1x1x2048 .f32) (h4 : a4.IsWhole)
  (a6 : Memref sig .tc .vmem S1024x128 .f32) (h6 : a6.IsWhole) (a7 : Memref sig .tc .vmem S1024x128 .f32) (h7 : a7.IsWhole)
  (a8 : Memref sig .tc .vmem S1024x128 .f32) (h8 : a8.IsWhole)
  (x0 : Vec F S1024x2048 .f32) (x1 : Vec F S1x2048 .f32) (x2 x3 : Vec F S1x1x2048 .f32) (x4 x5 x6 : Vec F S1024x128 .f32)

/-- The blocks that a point reads. -/
def Ins : sProp 𝕄 :=
  iprop(at_ c a1 (h1.unread x0) ∗ at_ c a2 (h2.unread x1) ∗ at_ c a3 (h3.unread x2) ∗ at_ c a4 (h4.unread x3)
    ∗ at_ c a6 (h6.unread x4) ∗ at_ c a7 (h7.unread x5) ∗ at_ c a8 (h8.unread x6))

/-- The body at point `t`, from the contents of its buffers and the slots `pre` to what its stores `L` leave and the slots `post`. -/
def Body (t : Fin grid0.N) (a9 : Memref sig .tc .vmem S1024x1024 .bf16) (h9 : a9.IsWhole)
    (a10 : Memref sig .tc .vmem S1024x2048 .bf16) (h10 : a10.IsWhole) (a11 : Memref sig .tc .vmem S1024x1024 .f32) (h11 : a11.IsWhole)
    (pre post : sProp 𝕄) (f10 : BufTy.Contents (Elt F) a10.view.ty) (f11 : BufTy.Contents (Elt F) a11.view.ty)
    (L : List (View.Piece (Elt F) S1024x1024 .bf16) × List (View.Piece (Elt F) S1024x2048 .bf16) × List (View.Piece (Elt F) S1024x1024 .f32)) : Prop :=
  ∀ (W : Waits sig Unit) (K : PUnit → sProp 𝕄) (f9 : BufTy.Contents (Elt F) a9.view.ty),
    iprop(Ins c a1 h1 a2 h2 a3 h3 a4 h4 a6 h6 a7 h7 a8 h8 x0 x1 x2 x3 x4 x5 x6
        ∗ at_ c a9 f9 ∗ at_ c a10 f10 ∗ at_ c a11 f11 ∗ pre ∗ owes (c : Thread nD τ) 0 W
        ∗ (iprop(Ins c a1 h1 a2 h2 a3 h3 a4 h4 a6 h6 a7 h7 a8 h8 x0 x1 x2 x3 x4 x5 x6
            ∗ at_ c a9 (a9.view.writes (Elt F) f9 L.1) ∗ at_ c a10 (a10.view.writes (Elt F) f10 L.2.1) ∗ (∃ f, at_ c a11 (a11.view.writes (Elt F) f L.2.2))
            ∗ post ∗ (∃ W', owes (c : Thread nD τ) 0 W')) -∗ K ⟨⟩))
      ⊢ wp frame (wpE (defs₀ (F := F)) Variants.none c none) Set.univ
          (cc0_in_proj (grid0.coords t) a1 h1 a2 h2 a3 h3 a4 h4 (Memref.whole main_v3) (Memref.isWhole_whole _) a6 h6 a7 h7 a8 h8 a9 h9 a10 h10 a11 h11
            (Memref.whole cc0_scratch2) (Memref.isWhole_whole _) cc0_scratch3) K

variable (w : Cont (F := F) c wBuf)

/-- The slots of a point that starts the copy two steps on, before and after; -/
abbrev here (k : ℕ) : sProp 𝕄 :=
  iprop(Ring.inflight (flightW c w) (Ring.sl 3 k) (Ring.bk 161 k) ∗ Ring.free (cellP c) (slotW c w) (Ring.sl 3 (k + 2)))
abbrev next (k : ℕ) : sProp 𝕄 :=
  iprop(Ring.inflight (flightW c w) (Ring.sl 3 (k + 2)) (Ring.bk 161 (k + 2)) ∗ Ring.free (cellP c) (slotW c w) (Ring.sl 3 k))
/-- of the first point, which starts two more; -/
abbrev hereFirst (k : ℕ) : sProp 𝕄 :=
  iprop(Ring.free (cellP c) (slotW c w) (Ring.sl 3 k) ∗ Ring.free (cellP c) (slotW c w) (Ring.sl 3 (k + 1)) ∗ Ring.free (cellP c) (slotW c w) (Ring.sl 3 (k + 2)))
abbrev nextFirst (k : ℕ) : sProp 𝕄 :=
  iprop(Ring.inflight (flightW c w) (Ring.sl 3 (k + 1)) (Ring.bk 161 (k + 1)) ∗ Ring.inflight (flightW c w) (Ring.sl 3 (k + 2)) (Ring.bk 161 (k + 2)) ∗ Ring.free (cellP c) (slotW c w) (Ring.sl 3 k))
/-- and of a point that starts none. -/
abbrev hereLast (k : ℕ) : sProp 𝕄 := Ring.inflight (flightW c w) (Ring.sl 3 k) (Ring.bk 161 k)
abbrev nextLast (k : ℕ) : sProp 𝕄 := Ring.free (cellP c) (slotW c w) (Ring.sl 3 k)

end Cert.Proof.Proj

end
-- ==== Proof.Proj.Loop.lean ====
/- The loop over the rows that `in_proj` norms: what its trips store. -/
module

public import proofs.«01_k».proof.Proof.Proj.Held
public import proofs.«01_k».proof.Proof.Gen.ProjIdeal.Loops

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

variable (𝒱 : Variants) (c : Dev nD) (bd : Option 𝒱.V) (i : grid0.Coords)
  (a1 : Memref sig .tc .vmem S1024x2048 .f32) (h1 : a1.IsWhole) (a2 : Memref sig .tc .vmem S1x2048 .f32) (h2 : a2.IsWhole)
  (a3 : Memref sig .tc .vmem S1x1x2048 .f32) (h3 : a3.IsWhole) (a4 : Memref sig .tc .vmem S1x1x2048 .f32) (h4 : a4.IsWhole)
  (a5 : Memref sig .tc .hbm S2048x10240 .bf16) (h5 : a5.IsWhole)
  (a6 : Memref sig .tc .vmem S1024x128 .f32) (h6 : a6.IsWhole) (a7 : Memref sig .tc .vmem S1024x128 .f32) (h7 : a7.IsWhole)
  (a8 : Memref sig .tc .vmem S1024x128 .f32) (h8 : a8.IsWhole) (a9 : Memref sig .tc .vmem S1024x1024 .bf16) (h9 : a9.IsWhole)
  (a10 : Memref sig .tc .vmem S1024x2048 .bf16) (h10 : a10.IsWhole) (a11 : Memref sig .tc .vmem S1024x1024 .f32) (h11 : a11.IsWhole)
  (a12 : Memref sig .tc .vmem S3x2048x1024 .bf16) (h12 : a12.IsWhole) (a13 : DmaSems sig S3)
  (y4 : k0_cond4 i = 1#1) (g : Vec F S1x2048 .f32) (sc sh : Vec F S1x1x2048 .f32) (X : BufTy.Contents (Elt F) a1.view.ty)

/-- What a trip reads and what it writes. -/
abbrev Trip (f : BufTy.Contents (Elt F) a10.view.ty) : sProp 𝕄 := iprop(at_ c a1 X ∗ at_ c a10 f)

/-- The rows that a trip stores, with the proof that it does. -/
@[irreducible] def trip (k : Fin k0_t1_loop.trips) :
    { L : List (View.Piece (Elt F) S1024x2048 .bf16) // ∀ (E : Set ℕ) (f : BufTy.Contents (Elt F) a10.view.ty),
      Trip c a1 a10 X f
      ⊢ wp frame (wpE (defs₀ (F := F)) 𝒱 (c : Thread nD τ) bd) E
          (k0_t1_body (F := F) i a1 h1 a2 h2 a3 h3 a4 h4 a5 h5 a6 h6 a7 h7 a8 h8 a9 h9 a10 h10 a11 h11 a12 h12 a13 y4 g sc sh k PUnit.unit)
          (fun _ => Trip c a1 a10 X (a10.view.writes (Elt F) f L)) } := by
  have hk : k.val < 64 := Nat.lt_of_lt_of_le k.isLt k0_t1_abs.2.1
  refine ⟨?_, fun E f => ?run⟩
  case run =>
    unfold k0_t1_body
    iintro ⟨HR, HW⟩
    sl_exec
    sl_step
    sl_close

/-- The rows of one more trip in front of those before; past the last trip, none. -/
@[irreducible] def more (k : ℕ) (prev : List (View.Piece (Elt F) S1024x2048 .bf16)) : List (View.Piece (Elt F) S1024x2048 .bf16) :=
  if h : k < k0_t1_loop.trips then
    (trip 𝒱 c bd i a1 h1 a2 h2 a3 h3 a4 h4 a5 h5 a6 h6 a7 h7 a8 h8 a9 h9 a10 h10 a11 h11 a12 h12 a13 y4 g sc sh X ⟨k, h⟩).1 ++ prev
  else prev

/-- The rows stored before trip `k`, the last first. -/
def rows : ℕ → List (View.Piece (Elt F) S1024x2048 .bf16)
  | 0 => []
  | k + 1 => more 𝒱 c bd i a1 h1 a2 h2 a3 h3 a4 h4 a5 h5 a6 h6 a7 h7 a8 h8 a9 h9 a10 h10 a11 h11 a12 h12 a13 y4 g sc sh X k (rows k)

theorem rows_succ (k : Fin k0_t1_loop.trips) :
    rows 𝒱 c bd i a1 h1 a2 h2 a3 h3 a4 h4 a5 h5 a6 h6 a7 h7 a8 h8 a9 h9 a10 h10 a11 h11 a12 h12 a13 y4 g sc sh X (k.val + 1)
      = (trip 𝒱 c bd i a1 h1 a2 h2 a3 h3 a4 h4 a5 h5 a6 h6 a7 h7 a8 h8 a9 h9 a10 h10 a11 h11 a12 h12 a13 y4 g sc sh X k).1
        ++ rows 𝒱 c bd i a1 h1 a2 h2 a3 h3 a4 h4 a5 h5 a6 h6 a7 h7 a8 h8 a9 h9 a10 h10 a11 h11 a12 h12 a13 y4 g sc sh X k.val := by
  rw [rows.eq_2]; unfold more; exact dif_pos k.isLt

set_option warn.classDefReducibility false in
/-- Before trip `k` the rows of the trips before are in. -/
@[sl_loop] def loopRows (E : Set ℕ) (G : BufTy.Contents (Elt F) a10.view.ty) :
    LoopInvTy_k0_t1 (F := F) Unit ℕ (Pipeline.UD sig nD τ) ℕ 𝒱 c bd E i a1 h1 a2 h2 a3 h3 a4 h4 a5 h5 a6 h6 a7 h7 a8 h8 a9 h9 a10 h10 a11 h11 a12 h12 a13 y4 g sc sh where
  inv k _ := iprop((a1.view.loc (c : Thread nD τ) ↦[a1.view.set]{fullShare} X) ∗ (∃ f, (a10.view.loc (c : Thread nD τ) ↦[a10.view.set]{fullShare} f) ∗ ⌜f = a10.view.writes (Elt F) G (rows 𝒱 c bd i a1 h1 a2 h2 a3 h3 a4 h4 a5 h5 a6 h6 a7 h7 a8 h8 a9 h9 a10 h10 a11 h11 a12 h12 a13 y4 g sc sh X k)⌝))
  step k acc := by
    iintro ⟨HR, ⟨%f, HW, %hf⟩⟩
    iapply (wp_wand_r Idealize.ShloMosaic.frame (wpE (defs₀ (F := F)) 𝒱 (c : Thread nD τ) bd) E)
    isplitl [HR HW]
    · iapply ((trip 𝒱 c bd i a1 h1 a2 h2 a3 h3 a4 h4 a5 h5 a6 h6 a7 h7 a8 h8 a9 h9 a10 h10 a11 h11 a12 h12 a13 y4 g sc sh X k).2 E f)
      isplitl [HR]; · iexact HR
      iexact HW
    · iintro %_ ⟨HR, HW⟩
      isplitl [HR]; · iexact HR
      rw [rows_succ]
      iexists _; isplitl [HW]; · iexact HW
      ipureintro; rw [hf, ← View.writes_append]

/-- The trips' rows make up the buffer. -/
theorem rows_cover (y : S1024x2048.Idx) :
    ∃ p ∈ rows 𝒱 c bd i a1 h1 a2 h2 a3 h3 a4 h4 a5 h5 a6 h6 a7 h7 a8 h8 a9 h9 a10 h10 a11 h11 a12 h12 a13 y4 g sc sh X
      (Scf.trips k0_t1_loop.lb k0_t1_loop.ub k0_t1_loop.st), y ∈ p.1.set :=
  View.cover_of_tiledL (rows 𝒱 c bd i a1 h1 a2 h2 a3 h3 a4 h4 a5 h5 a6 h6 a7 h7 a8 h8 a9 h9 a10 h10 a11 h11 a12 h12 a13 y4 g sc sh X
      (Scf.trips k0_t1_loop.lb k0_t1_loop.ub k0_t1_loop.st)) S16x2048.size (by sl_kernel_rfl) y

/-- So what is read afterwards does not depend on what the buffer held. -/
theorem rows_read (G : BufTy.Contents (Elt F) a10.view.ty) (B : LoadRect S1024x2048) :
    View.readAt (Elt F) a10.view B (a10.view.writes (Elt F) G (rows 𝒱 c bd i a1 h1 a2 h2 a3 h3 a4 h4 a5 h5 a6 h6 a7 h7 a8 h8 a9 h9 a10 h10 a11 h11 a12 h12 a13 y4 g sc sh X (Scf.trips k0_t1_loop.lb k0_t1_loop.ub k0_t1_loop.st)))
      = a10.view.readCov (rows 𝒱 c bd i a1 h1 a2 h2 a3 h3 a4 h4 a5 h5 a6 h6 a7 h7 a8 h8 a9 h9 a10 h10 a11 h11 a12 h12 a13 y4 g sc sh X (Scf.trips k0_t1_loop.lb k0_t1_loop.ub k0_t1_loop.st)) B :=
  View.readAt_writes_of_cover _ G _ B (fun j => rows_cover 𝒱 c bd i a1 h1 a2 h2 a3 h3 a4 h4 a5 h5 a6 h6 a7 h7 a8 h8 a9 h9 a10 h10 a11 h11 a12 h12 a13 y4 g sc sh X (B.idx j))

end Cert.Proof.Proj

end
-- ==== Proof.Proj.Mid.lean ====
/- The body of `in_proj` at a point that neither norms nor turns, while copies are still being started. -/
module

public import proofs.«01_k».proof.Proof.Proj.Loop
public import proofs.«01_k».proof.Proof.Gen.ProjIdeal.Skeleton

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

set_option backward.proofsInPublic true in
set_option maxHeartbeats 16000000 in
/-- The stores of the body of such a point, with the proof that it makes them. -/
def runMid (c : Dev nD) (t : Fin grid0.N)
    (a1 : Memref sig .tc .vmem S1024x2048 .f32) (h1 : a1.IsWhole) (a2 : Memref sig .tc .vmem S1x2048 .f32) (h2 : a2.IsWhole)
    (a3 : Memref sig .tc .vmem S1x1x2048 .f32) (h3 : a3.IsWhole) (a4 : Memref sig .tc .vmem S1x1x2048 .f32) (h4 : a4.IsWhole)
    (a6 : Memref sig .tc .vmem S1024x128 .f32) (h6 : a6.IsWhole) (a7 : Memref sig .tc .vmem S1024x128 .f32) (h7 : a7.IsWhole)
    (a8 : Memref sig .tc .vmem S1024x128 .f32) (h8 : a8.IsWhole) (a9 : Memref sig .tc .vmem S1024x1024 .bf16) (h9 : a9.IsWhole)
    (a10 : Memref sig .tc .vmem S1024x2048 .bf16) (h10 : a10.IsWhole) (a11 : Memref sig .tc .vmem S1024x1024 .f32) (h11 : a11.IsWhole)
    (x0 : Vec F S1024x2048 .f32) (x1 : Vec F S1x2048 .f32) (x2 x3 : Vec F S1x1x2048 .f32) (x4 x5 x6 : Vec F S1024x128 .f32)
    (hv : Vec F S1024x2048 .bf16) (uv : Vec F S1024x1024 .f32) (w : Cont (F := F) c wBuf)
    (n1 : ¬k0_cond1 (grid0.coords t) = 1#1) (y2 : k0_cond2 (grid0.coords t) = 1#1) (n3 : ¬(Scalar.cmpi .ne (Scalar.extui (Scalar.cmpi .eq (BitVec.ofNat 32 ((grid0.coords t) 0).val) 0#32)) 0#32) = 1#1) (n4 : ¬k0_cond4 (grid0.coords t) = 1#1) (n5 : ¬k0_cond5 (grid0.coords t) = 1#1) (y6 : k0_cond6 (grid0.coords t) = 1#1) :
    { L : List (View.Piece (Elt F) S1024x1024 .bf16) × List (View.Piece (Elt F) S1024x2048 .bf16) × List (View.Piece (Elt F) S1024x1024 .f32) //
      Body c a1 h1 a2 h2 a3 h3 a4 h4 a6 h6 a7 h7 a8 h8 x0 x1 x2 x3 x4 x5 x6 t a9 h9 a10 h10 a11 h11
        (here c w t.val) (next c w t.val) (h10.unread hv) (h11.unread uv) L } := by
  refine ⟨(?_, [], ?_), ?run⟩
  case run =>
    unfold Body; intro W K f9
    haveI : Fact (¬k0_cond1 (grid0.coords t) = 1#1) := ⟨n1⟩
    haveI : Fact (k0_cond2 (grid0.coords t) = 1#1) := ⟨y2⟩
    haveI : Fact (¬k0_cond4 (grid0.coords t) = 1#1) := ⟨n4⟩
    haveI : Fact (¬k0_cond5 (grid0.coords t) = 1#1) := ⟨n5⟩
    haveI : Fact (k0_cond6 (grid0.coords t) = 1#1) := ⟨y6⟩
    simp only [cc0_in_proj_eq_skeleton]; unfold cc0_in_proj_skel
    simp only [k0_part44_eq_skeleton, k0_part45_eq_skeleton, k0_part46_eq_skeleton, k0_part47_eq_skeleton, k0_part48_eq_skeleton]
    unfold Ins here next Ring.free Ring.inflight
    iintro ⟨⟨H1, H2, H3, H4, H6, H7, H8⟩, H9, H10, H11, ⟨⟨%f0, Hf, Hr⟩, ⟨Hc, ⟨%f2, Hs, Hw⟩⟩⟩, HW, Hk⟩
    ihave Hw' := (src_split c w (Ring.sl 3 (t.val + 2)) (Ring.bk 161 (t.val + 2))).1 $$ Hw
    icases Hw' with ⟨Hw, Hq⟩
    sl_exec (disch := first | sl_exact n1 | sl_exact y2 | sl_exact n3 | sl_exact n4 | sl_exact n5 | sl_exact y6)
    sl_step
    iapply Hk
    isplitl [H1 H2 H3 H4 H6 H7 H8]; · sl_close
    isplitl [H9]; · iexact H9
    isplitl [H10]; · iexact H10
    isplitl [H11]; · iexists _; iexact H11
    isplitl [Hf Hf_dst Hf_src Hr Hc Hq]
    · isplitl [Hc Hq]
      · iexists _; isplitl [Hc]; · iexact Hc
        iexact Hq
      · isplitl [Hf]; · iexact Hf
        iexists _; isplitl [Hf_dst]; · iexact Hf_dst
        iapply (src_split c w (Ring.sl 3 (t.val)) (Ring.bk 161 (t.val))).2; isplitl [Hf_src]; · iexact Hf_src
        iexact Hr
    iexists _; iexact HW

end Cert.Proof.Proj

end
-- ==== Proof.Proj.Last.lean ====
/- The body of `in_proj` at one of the last two points, which start no copy. -/
module

public import proofs.«01_k».proof.Proof.Proj.Loop
public import proofs.«01_k».proof.Proof.Proj.Mid

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

set_option backward.proofsInPublic true in
set_option maxHeartbeats 16000000 in
/-- The stores of the body of such a point, with the proof that it makes them. -/
def runLast (c : Dev nD) (t : Fin grid0.N)
    (a1 : Memref sig .tc .vmem S1024x2048 .f32) (h1 : a1.IsWhole) (a2 : Memref sig .tc .vmem S1x2048 .f32) (h2 : a2.IsWhole)
    (a3 : Memref sig .tc .vmem S1x1x2048 .f32) (h3 : a3.IsWhole) (a4 : Memref sig .tc .vmem S1x1x2048 .f32) (h4 : a4.IsWhole)
    (a6 : Memref sig .tc .vmem S1024x128 .f32) (h6 : a6.IsWhole) (a7 : Memref sig .tc .vmem S1024x128 .f32) (h7 : a7.IsWhole)
    (a8 : Memref sig .tc .vmem S1024x128 .f32) (h8 : a8.IsWhole) (a9 : Memref sig .tc .vmem S1024x1024 .bf16) (h9 : a9.IsWhole)
    (a10 : Memref sig .tc .vmem S1024x2048 .bf16) (h10 : a10.IsWhole) (a11 : Memref sig .tc .vmem S1024x1024 .f32) (h11 : a11.IsWhole)
    (x0 : Vec F S1024x2048 .f32) (x1 : Vec F S1x2048 .f32) (x2 x3 : Vec F S1x1x2048 .f32) (x4 x5 x6 : Vec F S1024x128 .f32)
    (hv : Vec F S1024x2048 .bf16) (uv : Vec F S1024x1024 .f32) (w : Cont (F := F) c wBuf)
    (n1 : ¬k0_cond1 (grid0.coords t) = 1#1) (n2 : ¬k0_cond2 (grid0.coords t) = 1#1) (n3 : ¬(Scalar.cmpi .ne (Scalar.extui (Scalar.cmpi .eq (BitVec.ofNat 32 ((grid0.coords t) 0).val) 0#32)) 0#32) = 1#1) (n4 : ¬k0_cond4 (grid0.coords t) = 1#1) (n5 : ¬k0_cond5 (grid0.coords t) = 1#1) (y6 : k0_cond6 (grid0.coords t) = 1#1) :
    { L : List (View.Piece (Elt F) S1024x1024 .bf16) × List (View.Piece (Elt F) S1024x2048 .bf16) × List (View.Piece (Elt F) S1024x1024 .f32) //
      Body c a1 h1 a2 h2 a3 h3 a4 h4 a6 h6 a7 h7 a8 h8 x0 x1 x2 x3 x4 x5 x6 t a9 h9 a10 h10 a11 h11
        (hereLast c w t.val) (nextLast c w t.val) (h10.unread hv) (h11.unread uv) L } := by
  refine ⟨(?_, [], ?_), ?run⟩
  case run =>
    unfold Body; intro W K f9
    haveI : Fact (¬k0_cond1 (grid0.coords t) = 1#1) := ⟨n1⟩
    haveI : Fact (¬k0_cond2 (grid0.coords t) = 1#1) := ⟨n2⟩
    haveI : Fact (¬k0_cond4 (grid0.coords t) = 1#1) := ⟨n4⟩
    haveI : Fact (¬k0_cond5 (grid0.coords t) = 1#1) := ⟨n5⟩
    haveI : Fact (k0_cond6 (grid0.coords t) = 1#1) := ⟨y6⟩
    simp only [cc0_in_proj_eq_skeleton]; unfold cc0_in_proj_skel
    simp only [k0_part44_eq_skeleton, k0_part45_eq_skeleton, k0_part46_eq_skeleton, k0_part47_eq_skeleton, k0_part48_eq_skeleton]
    unfold Ins hereLast nextLast Ring.free Ring.inflight
    iintro ⟨⟨H1, H2, H3, H4, H6, H7, H8⟩, H9, H10, H11, ⟨%f0, Hf, Hr⟩, HW, Hk⟩
    sl_exec (disch := first | sl_exact n1 | sl_exact n2 | sl_exact n3 | sl_exact n4 | sl_exact n5 | sl_exact y6)
    sl_step
    iapply Hk
    isplitl [H1 H2 H3 H4 H6 H7 H8]; · sl_close
    isplitl [H9]; · iexact H9
    isplitl [H10]; · iexact H10
    isplitl [H11]; · iexists _; iexact H11
    isplitl [Hf Hf_dst Hf_src Hr]
    · isplitl [Hf]; · iexact Hf
      iexists _; isplitl [Hf_dst]; · iexact Hf_dst
      iapply (src_split c w (Ring.sl 3 (t.val)) (Ring.bk 161 (t.val))).2; isplitl [Hf_src]; · iexact Hf_src
      iexact Hr
    iexists _; iexact HW

end Cert.Proof.Proj

end
-- ==== Proof.Proj.Norm.lean ====
/- The body of `in_proj` at a point that starts on new rows, and norms them. -/
module

public import proofs.«01_k».proof.Proof.Proj.Loop
public import proofs.«01_k».proof.Proof.Proj.Last

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

set_option backward.proofsInPublic true in
set_option maxHeartbeats 16000000 in
/-- The stores of the body of such a point, with the proof that it makes them. -/
def runNorm (c : Dev nD) (t : Fin grid0.N)
    (a1 : Memref sig .tc .vmem S1024x2048 .f32) (h1 : a1.IsWhole) (a2 : Memref sig .tc .vmem S1x2048 .f32) (h2 : a2.IsWhole)
    (a3 : Memref sig .tc .vmem S1x1x2048 .f32) (h3 : a3.IsWhole) (a4 : Memref sig .tc .vmem S1x1x2048 .f32) (h4 : a4.IsWhole)
    (a6 : Memref sig .tc .vmem S1024x128 .f32) (h6 : a6.IsWhole) (a7 : Memref sig .tc .vmem S1024x128 .f32) (h7 : a7.IsWhole)
    (a8 : Memref sig .tc .vmem S1024x128 .f32) (h8 : a8.IsWhole) (a9 : Memref sig .tc .vmem S1024x1024 .bf16) (h9 : a9.IsWhole)
    (a10 : Memref sig .tc .vmem S1024x2048 .bf16) (h10 : a10.IsWhole) (a11 : Memref sig .tc .vmem S1024x1024 .f32) (h11 : a11.IsWhole)
    (x0 : Vec F S1024x2048 .f32) (x1 : Vec F S1x2048 .f32) (x2 x3 : Vec F S1x1x2048 .f32) (x4 x5 x6 : Vec F S1024x128 .f32)
    (uv : Vec F S1024x1024 .f32) (w : Cont (F := F) c wBuf)
    (n1 : ¬k0_cond1 (grid0.coords t) = 1#1) (y2 : k0_cond2 (grid0.coords t) = 1#1) (n3 : ¬(Scalar.cmpi .ne (Scalar.extui (Scalar.cmpi .eq (BitVec.ofNat 32 ((grid0.coords t) 0).val) 0#32)) 0#32) = 1#1) (y4 : k0_cond4 (grid0.coords t) = 1#1) (n5 : ¬k0_cond5 (grid0.coords t) = 1#1) (y6 : k0_cond6 (grid0.coords t) = 1#1) :
    { L : List (View.Piece (Elt F) S1024x1024 .bf16) × List (View.Piece (Elt F) S1024x2048 .bf16) × List (View.Piece (Elt F) S1024x1024 .f32) //
      ∀ f10, Body c a1 h1 a2 h2 a3 h3 a4 h4 a6 h6 a7 h7 a8 h8 x0 x1 x2 x3 x4 x5 x6 t a9 h9 a10 h10 a11 h11
        (here c w t.val) (next c w t.val) f10 (h11.unread uv) L } := by
  refine ⟨(?_, ?_, ?_), ?run⟩
  case run =>
    unfold Body; intro f10 W K f9
    haveI : Fact (¬k0_cond1 (grid0.coords t) = 1#1) := ⟨n1⟩
    haveI : Fact (k0_cond2 (grid0.coords t) = 1#1) := ⟨y2⟩
    haveI : Fact (k0_cond4 (grid0.coords t) = 1#1) := ⟨y4⟩
    haveI : Fact (¬k0_cond5 (grid0.coords t) = 1#1) := ⟨n5⟩
    haveI : Fact (k0_cond6 (grid0.coords t) = 1#1) := ⟨y6⟩
    simp only [cc0_in_proj_eq_skeleton]; unfold cc0_in_proj_skel
    simp only [k0_part44_eq_skeleton, k0_part45_eq_skeleton, k0_part46_eq_skeleton, k0_part47_eq_skeleton, k0_part48_eq_skeleton]
    have hrd := rows_read (F := F)
    unfold Ins here next Ring.free Ring.inflight
    iintro ⟨⟨H1, H2, H3, H4, H6, H7, H8⟩, H9, H10, H11, ⟨⟨%f0, Hf, Hr⟩, ⟨Hc, ⟨%f2, Hs, Hw⟩⟩⟩, HW, Hk⟩
    ihave Hw' := (src_split c w (Ring.sl 3 (t.val + 2)) (Ring.bk 161 (t.val + 2))).1 $$ Hw
    icases Hw' with ⟨Hw, Hq⟩
    sl_exec (disch := first | sl_exact n1 | sl_exact y2 | sl_exact n3 | sl_exact y4 | sl_exact n5 | sl_exact y6)
    sl_step
    iapply Hk
    isplitl [H1 H2 H3 H4 H6 H7 H8]; · sl_close
    isplitl [H9]; · iexact H9
    isplitl [H10]; · iexact H10
    isplitl [H11]; · iexists _; iexact H11
    isplitl [Hf Hf_dst Hf_src Hr Hc Hq]
    · isplitl [Hc Hq]
      · iexists _; isplitl [Hc]; · iexact Hc
        iexact Hq
      · isplitl [Hf]; · iexact Hf
        iexists _; isplitl [Hf_dst]; · iexact Hf_dst
        iapply (src_split c w (Ring.sl 3 (t.val)) (Ring.bk 161 (t.val))).2; isplitl [Hf_src]; · iexact Hf_src
        iexact Hr
    iexists _; iexact HW

end Cert.Proof.Proj

end
-- ==== Proof.Proj.Turn.lean ====
/- The body of `in_proj` at a point that turns the columns of the product. -/
module

public import proofs.«01_k».proof.Proof.Proj.Loop
public import proofs.«01_k».proof.Proof.Proj.Norm

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

set_option backward.proofsInPublic true in
set_option maxHeartbeats 16000000 in
/-- The stores of the body of such a point, with the proof that it makes them. -/
def runTurn (c : Dev nD) (t : Fin grid0.N)
    (a1 : Memref sig .tc .vmem S1024x2048 .f32) (h1 : a1.IsWhole) (a2 : Memref sig .tc .vmem S1x2048 .f32) (h2 : a2.IsWhole)
    (a3 : Memref sig .tc .vmem S1x1x2048 .f32) (h3 : a3.IsWhole) (a4 : Memref sig .tc .vmem S1x1x2048 .f32) (h4 : a4.IsWhole)
    (a6 : Memref sig .tc .vmem S1024x128 .f32) (h6 : a6.IsWhole) (a7 : Memref sig .tc .vmem S1024x128 .f32) (h7 : a7.IsWhole)
    (a8 : Memref sig .tc .vmem S1024x128 .f32) (h8 : a8.IsWhole) (a9 : Memref sig .tc .vmem S1024x1024 .bf16) (h9 : a9.IsWhole)
    (a10 : Memref sig .tc .vmem S1024x2048 .bf16) (h10 : a10.IsWhole) (a11 : Memref sig .tc .vmem S1024x1024 .f32) (h11 : a11.IsWhole)
    (x0 : Vec F S1024x2048 .f32) (x1 : Vec F S1x2048 .f32) (x2 x3 : Vec F S1x1x2048 .f32) (x4 x5 x6 : Vec F S1024x128 .f32)
    (hv : Vec F S1024x2048 .bf16) (uv : Vec F S1024x1024 .f32) (w : Cont (F := F) c wBuf)
    (n1 : ¬k0_cond1 (grid0.coords t) = 1#1) (y2 : k0_cond2 (grid0.coords t) = 1#1) (n3 : ¬(Scalar.cmpi .ne (Scalar.extui (Scalar.cmpi .eq (BitVec.ofNat 32 ((grid0.coords t) 0).val) 0#32)) 0#32) = 1#1) (n4 : ¬k0_cond4 (grid0.coords t) = 1#1) (y5 : k0_cond5 (grid0.coords t) = 1#1) (n6 : ¬k0_cond6 (grid0.coords t) = 1#1) :
    { L : List (View.Piece (Elt F) S1024x1024 .bf16) × List (View.Piece (Elt F) S1024x2048 .bf16) × List (View.Piece (Elt F) S1024x1024 .f32) //
      Body c a1 h1 a2 h2 a3 h3 a4 h4 a6 h6 a7 h7 a8 h8 x0 x1 x2 x3 x4 x5 x6 t a9 h9 a10 h10 a11 h11
        (here c w t.val) (next c w t.val) (h10.unread hv) (h11.unread uv) L } := by
  refine ⟨(?_, [], ?_), ?run⟩
  case run =>
    unfold Body; intro W K f9
    haveI : Fact (¬k0_cond1 (grid0.coords t) = 1#1) := ⟨n1⟩
    haveI : Fact (k0_cond2 (grid0.coords t) = 1#1) := ⟨y2⟩
    haveI : Fact (¬k0_cond4 (grid0.coords t) = 1#1) := ⟨n4⟩
    haveI : Fact (k0_cond5 (grid0.coords t) = 1#1) := ⟨y5⟩
    haveI : Fact (¬k0_cond6 (grid0.coords t) = 1#1) := ⟨n6⟩
    simp only [cc0_in_proj_eq_skeleton]; unfold cc0_in_proj_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold Ins here next Ring.free Ring.inflight
    iintro ⟨⟨H1, H2, H3, H4, H6, H7, H8⟩, H9, H10, H11, ⟨⟨%f0, Hf, Hr⟩, ⟨Hc, ⟨%f2, Hs, Hw⟩⟩⟩, HW, Hk⟩
    ihave Hw' := (src_split c w (Ring.sl 3 (t.val + 2)) (Ring.bk 161 (t.val + 2))).1 $$ Hw
    icases Hw' with ⟨Hw, Hq⟩
    sl_exec (disch := first | sl_exact n1 | sl_exact y2 | sl_exact n3 | sl_exact n4 | sl_exact y5 | sl_exact n6)
    sl_step
    iapply Hk
    isplitl [H1 H2 H3 H4 H6 H7 H8]; · sl_close
    isplitl [H9]; · iexact H9
    isplitl [H10]; · iexact H10
    isplitl [H11]; · iexists _; iexact H11
    isplitl [Hf Hf_dst Hf_src Hr Hc Hq]
    · isplitl [Hc Hq]
      · iexists _; isplitl [Hc]; · iexact Hc
        iexact Hq
      · isplitl [Hf]; · iexact Hf
        iexists _; isplitl [Hf_dst]; · iexact Hf_dst
        iapply (src_split c w (Ring.sl 3 (t.val)) (Ring.bk 161 (t.val))).2; isplitl [Hf_src]; · iexact Hf_src
        iexact Hr
    iexists _; iexact HW

end Cert.Proof.Proj

end
-- ==== Proof.Proj.First.lean ====
/- The body of `in_proj` at the first point. -/
module

public import proofs.«01_k».proof.Proof.Proj.Loop
public import proofs.«01_k».proof.Proof.Proj.Turn

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

/-! What the first point cuts. -/

section Names
omit [FloatOps F]

theorem blk_zero_inb : ∀ a, (![0, 0] : Fin 2 → Nat) a + S2048x1024.size a ≤ S2048x10240.size a := by decide
theorem blk_one_inb : ∀ a, (![0, 1024] : Fin 2 → Nat) a + S2048x1024.size a ≤ S2048x10240.size a := by decide
@[sl_canon] theorem slot_zero (t : Fin grid0.N) (z : t.val = 0) :
    (slots.slice (Rect.unit (s := S3x2048x1024) ![0, 0, 0] S1x2048x1024.size inb_S3x2048x1024_S1x2048x1024_0_0_0) (fun _ => rfl)).squeeze S2048x1024 squeezes_S1x2048x1024_S2048x1024 = slotM (Ring.sl 3 (t.val)) :=
  slot_name (by rw [z]; decide) _
@[sl_canon] theorem slot_one (t : Fin grid0.N) (z : t.val = 0) :
    (slots.slice (Rect.unit (s := S3x2048x1024) ![1, 0, 0] S1x2048x1024.size inb_S3x2048x1024_S1x2048x1024_1_0_0) (fun _ => rfl)).squeeze S2048x1024 squeezes_S1x2048x1024_S2048x1024 = slotM (Ring.sl 3 (t.val + 1)) :=
  slot_name (by rw [z]; decide) _
@[sl_canon] theorem cell_zero (t : Fin grid0.N) (z : t.val = 0) :
    (cc0_scratch3.slice (Rect.unit (s := S3) ![0] S1.size inb_S3_S1_0)).squeeze S_ squeezes_S1_S_ = cellM (Ring.sl 3 (t.val)) :=
  cell_name (by rw [z]; decide) _
@[sl_canon] theorem cell_one (t : Fin grid0.N) (z : t.val = 0) :
    (cc0_scratch3.slice (Rect.unit (s := S3) ![1] S1.size inb_S3_S1_1)).squeeze S_ squeezes_S1_S_ = cellM (Ring.sl 3 (t.val + 1)) :=
  cell_name (by rw [z]; decide) _
@[sl_canon] theorem blk_zero (t : Fin grid0.N) (z : t.val = 0) :
    wBuf.slice (Rect.unit (s := S2048x10240) ![0, 0] S2048x1024.size blk_zero_inb) (fun _ => rfl) = blkM (Ring.bk 161 (t.val)) :=
  blk_name (by rw [z]; decide) _
@[sl_canon] theorem blk_one (t : Fin grid0.N) (z : t.val = 0) :
    wBuf.slice (Rect.unit (s := S2048x10240) ![0, 1024] S2048x1024.size blk_one_inb) (fun _ => rfl) = blkM (Ring.bk 161 (t.val + 1)) :=
  blk_name (by rw [z]; decide) _
@[sl_canon] theorem blk_zero' (t : Fin grid0.N) (z : t.val = 0) (h : k0_cond1 (grid0.coords t) = 1#1) :
    wBuf.slice (Rect.unit (s := S2048x10240) (k0_off1 0#32) S2048x1024.size (k0_off1_inb (grid0.coords t) h 0)) (fun _ => rfl) = blkM (Ring.bk 161 (t.val)) :=
  blk_name (by rw [z]; decide) _
@[sl_canon] theorem blk_one' (t : Fin grid0.N) (z : t.val = 0) (h : k0_cond1 (grid0.coords t) = 1#1) :
    wBuf.slice (Rect.unit (s := S2048x10240) (k0_off1 1#32) S2048x1024.size (k0_off1_inb (grid0.coords t) h 1)) (fun _ => rfl) = blkM (Ring.bk 161 (t.val + 1)) :=
  blk_name (by rw [z]; decide) _
end Names

set_option backward.proofsInPublic true in
set_option maxHeartbeats 16000000 in
/-- The stores of the body of such a point, with the proof that it makes them. -/
def runFirst (c : Dev nD) (t : Fin grid0.N)
    (a1 : Memref sig .tc .vmem S1024x2048 .f32) (h1 : a1.IsWhole) (a2 : Memref sig .tc .vmem S1x2048 .f32) (h2 : a2.IsWhole)
    (a3 : Memref sig .tc .vmem S1x1x2048 .f32) (h3 : a3.IsWhole) (a4 : Memref sig .tc .vmem S1x1x2048 .f32) (h4 : a4.IsWhole)
    (a6 : Memref sig .tc .vmem S1024x128 .f32) (h6 : a6.IsWhole) (a7 : Memref sig .tc .vmem S1024x128 .f32) (h7 : a7.IsWhole)
    (a8 : Memref sig .tc .vmem S1024x128 .f32) (h8 : a8.IsWhole) (a9 : Memref sig .tc .vmem S1024x1024 .bf16) (h9 : a9.IsWhole)
    (a10 : Memref sig .tc .vmem S1024x2048 .bf16) (h10 : a10.IsWhole) (a11 : Memref sig .tc .vmem S1024x1024 .f32) (h11 : a11.IsWhole)
    (x0 : Vec F S1024x2048 .f32) (x1 : Vec F S1x2048 .f32) (x2 x3 : Vec F S1x1x2048 .f32) (x4 x5 x6 : Vec F S1024x128 .f32)
    (w : Cont (F := F) c wBuf)
    (z : t.val = 0) (y1 : k0_cond1 (grid0.coords t) = 1#1) (y2 : k0_cond2 (grid0.coords t) = 1#1) (y3 : (Scalar.cmpi .ne (Scalar.extui (Scalar.cmpi .eq (BitVec.ofNat 32 ((grid0.coords t) 0).val) 0#32)) 0#32) = 1#1) (y4 : k0_cond4 (grid0.coords t) = 1#1) (n5 : ¬k0_cond5 (grid0.coords t) = 1#1) (y6 : k0_cond6 (grid0.coords t) = 1#1) :
    { L : List (View.Piece (Elt F) S1024x1024 .bf16) × List (View.Piece (Elt F) S1024x2048 .bf16) × List (View.Piece (Elt F) S1024x1024 .f32) //
      ∀ f10 f11, Body c a1 h1 a2 h2 a3 h3 a4 h4 a6 h6 a7 h7 a8 h8 x0 x1 x2 x3 x4 x5 x6 t a9 h9 a10 h10 a11 h11
        (hereFirst c w t.val) (nextFirst c w t.val) f10 f11 L } := by
  refine ⟨(?_, ?_, ?_), ?run⟩
  case run =>
    unfold Body; intro f10 f11 W K f9
    haveI : Fact (k0_cond1 (grid0.coords t) = 1#1) := ⟨y1⟩
    haveI : Fact (k0_cond2 (grid0.coords t) = 1#1) := ⟨y2⟩
    haveI : Fact (k0_cond4 (grid0.coords t) = 1#1) := ⟨y4⟩
    haveI : Fact (¬k0_cond5 (grid0.coords t) = 1#1) := ⟨n5⟩
    haveI : Fact (k0_cond6 (grid0.coords t) = 1#1) := ⟨y6⟩
    simp only [cc0_in_proj_eq_skeleton]; unfold cc0_in_proj_skel
    simp only [k0_part1_eq_skeleton, k0_part44_eq_skeleton, k0_part45_eq_skeleton, k0_part46_eq_skeleton, k0_part47_eq_skeleton, k0_part48_eq_skeleton]
    have hrd := rows_read (F := F)
    have e0 := slot_zero t z
    have e1 := slot_one t z
    have e2 := cell_zero t z
    have e3 := cell_one t z
    have e4 := blk_zero t z
    have e5 := blk_one t z
    have e6 := blk_zero' t z y1
    have e7 := blk_one' t z y1
    unfold Ins hereFirst nextFirst Ring.free Ring.inflight
    iintro ⟨⟨H1, H2, H3, H4, H6, H7, H8⟩, H9, H10, H11, ⟨⟨Hc0, ⟨%f0, Hs0, Hw0⟩⟩, ⟨Hc1, ⟨%f1, Hs1, Hw1⟩⟩, ⟨Hc2, ⟨%f2, Hs2, Hw2⟩⟩⟩, HW, Hk⟩
    ihave Hw0' := (src_split c w (Ring.sl 3 (t.val)) (Ring.bk 161 (t.val))).1 $$ Hw0
    icases Hw0' with ⟨Hw0, Hq0⟩
    ihave Hw1' := (src_split c w (Ring.sl 3 (t.val + 1)) (Ring.bk 161 (t.val + 1))).1 $$ Hw1
    icases Hw1' with ⟨Hw1, Hq1⟩
    ihave Hw2' := (src_split c w (Ring.sl 3 (t.val + 2)) (Ring.bk 161 (t.val + 2))).1 $$ Hw2
    icases Hw2' with ⟨Hw2, Hq2⟩
    sl_exec (disch := first | sl_exact y1 | sl_exact y2 | sl_exact y3 | sl_exact y4 | sl_exact n5 | sl_exact y6)
    sl_step
    iapply Hk
    isplitl [H1 H2 H3 H4 H6 H7 H8]; · sl_close
    isplitl [H9]; · iexact H9
    isplitl [H10]; · iexact H10
    isplitl [H11]; · iexists _; iexact H11
    isplitl [Hc0 Hs0 Hw0 Hq0 Hc1 Hq1 Hc2 Hq2]
    · isplitl [Hc1 Hq1]
      · iexists _; isplitl [Hc1]; · iexact Hc1
        iexact Hq1
      isplitl [Hc2 Hq2]
      · iexists _; isplitl [Hc2]; · iexact Hc2
        iexact Hq2
      · isplitl [Hc0]; · iexact Hc0
        iexists _; isplitl [Hs0]; · iexact Hs0
        iapply (src_split c w (Ring.sl 3 (t.val)) (Ring.bk 161 (t.val))).2; isplitl [Hw0]; · iexact Hw0
        iexact Hq0
    iexists _; iexact HW

end Cert.Proof.Proj

end
-- ==== Proof.Proj.Step.lean ====
/- What a point of `in_proj` stores. -/
module

public import proofs.«01_k».proof.Proof.Proj.First

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

/-- The first point alone fills `u` with zeros. -/
theorem firsts (t : Fin grid0.N) : (Scalar.cmpi .ne (Scalar.extui (Scalar.cmpi .eq (BitVec.ofNat 32 ((grid0.coords t) 0).val) 0#32)) 0#32) = 1#1 ↔ t.val = 0 :=
  (by decide +kernel : ∀ t : Fin grid0.N, (Scalar.cmpi .ne (Scalar.extui (Scalar.cmpi .eq (BitVec.ofNat 32 ((grid0.coords t) 0).val) 0#32)) 0#32) = 1#1 ↔ t.val = 0) t

theorem lt_points (t : Fin grid0.N) : t.val < 161 := lt_of_lt_of_eq t.isLt N_0

/-- The stores of a point into the output block, into `h` and into `u`. -/
abbrev Stores (F : FTy → Type) [FloatOps F] : Type :=
  List (View.Piece (Elt F) S1024x1024 .bf16) × List (View.Piece (Elt F) S1024x2048 .bf16) × List (View.Piece (Elt F) S1024x1024 .f32)

section Point
variable (c : Dev nD) (t : Fin grid0.N)
  (a1 : Memref sig .tc .vmem S1024x2048 .f32) (h1 : a1.IsWhole) (a2 : Memref sig .tc .vmem S1x2048 .f32) (h2 : a2.IsWhole)
  (a3 : Memref sig .tc .vmem S1x1x2048 .f32) (h3 : a3.IsWhole) (a4 : Memref sig .tc .vmem S1x1x2048 .f32) (h4 : a4.IsWhole)
  (a6 : Memref sig .tc .vmem S1024x128 .f32) (h6 : a6.IsWhole) (a7 : Memref sig .tc .vmem S1024x128 .f32) (h7 : a7.IsWhole)
  (a8 : Memref sig .tc .vmem S1024x128 .f32) (h8 : a8.IsWhole) (a9 : Memref sig .tc .vmem S1024x1024 .bf16) (h9 : a9.IsWhole)
  (a10 : Memref sig .tc .vmem S1024x2048 .bf16) (h10 : a10.IsWhole) (a11 : Memref sig .tc .vmem S1024x1024 .f32) (h11 : a11.IsWhole)
  (x0 : Vec F S1024x2048 .f32) (x1 : Vec F S1x2048 .f32) (x2 x3 : Vec F S1x1x2048 .f32) (x4 x5 x6 : Vec F S1024x128 .f32)
  (hv : Vec F S1024x2048 .bf16) (uv : Vec F S1024x1024 .f32) (w : Cont (F := F) c wBuf)

/-- What a point stores, from the blocks it reads and from `h` and `u` as they were: the first point, one that normalizes,
    one that turns by the tables, one that starts a copy, and one of the last two. -/
def stores : Stores F :=
  if z : t.val = 0 then
    (runFirst c t a1 h1 a2 h2 a3 h3 a4 h4 a6 h6 a7 h7 a8 h8 a9 h9 a10 h10 a11 h11 x0 x1 x2 x3 x4 x5 x6 w z
      ((starts_two t).2 z) ((starts_next t).2 (by omega)) ((firsts t).2 z) ((norms t).2 (by omega)) (fun h => by have := (ropes t).1 h; omega)
      ((casts t).2 (by omega))).1
  else if n : t.val % 10 = 0 ∧ t.val < 160 then
    (runNorm c t a1 h1 a2 h2 a3 h3 a4 h4 a6 h6 a7 h7 a8 h8 a9 h9 a10 h10 a11 h11 x0 x1 x2 x3 x4 x5 x6 uv w
      (fun h => z ((starts_two t).1 h)) ((starts_next t).2 (by omega)) (fun h => z ((firsts t).1 h)) ((norms t).2 n) (fun h => by have := (ropes t).1 h; omega)
      ((casts t).2 (by omega))).1
  else if r : t.val % 10 = 4 ∨ t.val % 10 = 5 then
    (runTurn c t a1 h1 a2 h2 a3 h3 a4 h4 a6 h6 a7 h7 a8 h8 a9 h9 a10 h10 a11 h11 x0 x1 x2 x3 x4 x5 x6 hv uv w
      (fun h => z ((starts_two t).1 h)) ((starts_next t).2 (by have := lt_points t; omega)) (fun h => z ((firsts t).1 h)) (fun h => n ((norms t).1 h)) ((ropes t).2 r)
      (fun h => by have := (casts t).1 h; omega)).1
  else if b : t.val + 2 < 161 then
    (runMid c t a1 h1 a2 h2 a3 h3 a4 h4 a6 h6 a7 h7 a8 h8 a9 h9 a10 h10 a11 h11 x0 x1 x2 x3 x4 x5 x6 hv uv w
      (fun h => z ((starts_two t).1 h)) ((starts_next t).2 b) (fun h => z ((firsts t).1 h)) (fun h => n ((norms t).1 h)) (fun h => r ((ropes t).1 h))
      ((casts t).2 (by omega))).1
  else
    (runLast c t a1 h1 a2 h2 a3 h3 a4 h4 a6 h6 a7 h7 a8 h8 a9 h9 a10 h10 a11 h11 x0 x1 x2 x3 x4 x5 x6 hv uv w
      (fun h => z ((starts_two t).1 h)) (fun h => b ((starts_next t).1 h)) (fun h => z ((firsts t).1 h)) (fun h => n ((norms t).1 h)) (fun h => r ((ropes t).1 h))
      ((casts t).2 (by omega))).1

/-- The slots a point takes, and the slots it leaves. -/
def slotsPre (k : ℕ) : sProp 𝕄 := if k = 0 then hereFirst c w k else if k + 2 < 161 then here c w k else hereLast c w k
def slotsPost (k : ℕ) : sProp 𝕄 := if k = 0 then nextFirst c w k else if k + 2 < 161 then next c w k else nextLast c w k

/-- The body of any point makes its stores. -/
theorem body_any (f10 : BufTy.Contents (Elt F) a10.view.ty) (f11 : BufTy.Contents (Elt F) a11.view.ty)
    (e10 : t.val ≠ 0 → f10 = h10.unread hv) (e11 : t.val ≠ 0 → f11 = h11.unread uv) :
    Body c a1 h1 a2 h2 a3 h3 a4 h4 a6 h6 a7 h7 a8 h8 x0 x1 x2 x3 x4 x5 x6 t a9 h9 a10 h10 a11 h11
      (slotsPre c w t.val) (slotsPost c w t.val) f10 f11
      (stores c t a1 h1 a2 h2 a3 h3 a4 h4 a6 h6 a7 h7 a8 h8 a9 h9 a10 h10 a11 h11 x0 x1 x2 x3 x4 x5 x6 hv uv w) := by
  have hN := lt_points t
  unfold stores slotsPre slotsPost
  by_cases z : t.val = 0
  · rw [dif_pos z, if_pos z, if_pos z]
    exact (runFirst _ _ _ _ _ _ _ _ _ _ _ _ _ _ _ _ _ _ _ _ _ _ _ _ _ _ _ _ _ _ _ _ _ _ _ _ _).2 f10 f11
  obtain rfl := e10 z
  obtain rfl := e11 z
  rw [dif_neg z, if_neg z, if_neg z]
  by_cases n : t.val % 10 = 0 ∧ t.val < 160
  · have b : t.val + 2 < 161 := by omega
    rw [dif_pos n, if_pos b, if_pos b]
    exact (runNorm _ _ _ _ _ _ _ _ _ _ _ _ _ _ _ _ _ _ _ _ _ _ _ _ _ _ _ _ _ _ _ _ _ _ _ _ _).2 _
  rw [dif_neg n]
  by_cases r : t.val % 10 = 4 ∨ t.val % 10 = 5
  · have b : t.val + 2 < 161 := by omega
    rw [dif_pos r, if_pos b, if_pos b]
    exact (runTurn _ _ _ _ _ _ _ _ _ _ _ _ _ _ _ _ _ _ _ _ _ _ _ _ _ _ _ _ _ _ _ _ _ _ _ _ _ _).2
  rw [dif_neg r]
  by_cases b : t.val + 2 < 161
  · rw [dif_pos b, if_pos b, if_pos b]
    exact (runMid _ _ _ _ _ _ _ _ _ _ _ _ _ _ _ _ _ _ _ _ _ _ _ _ _ _ _ _ _ _ _ _ _ _ _ _ _ _).2
  · rw [dif_neg b, if_neg b, if_neg b]
    exact (runLast _ _ _ _ _ _ _ _ _ _ _ _ _ _ _ _ _ _ _ _ _ _ _ _ _ _ _ _ _ _ _ _ _ _ _ _ _ _).2
end Point

section Cover
variable (c : Dev nD) (t : Fin grid0.N)
  (a1 : Memref sig .tc .vmem S1024x2048 .f32) (h1 : a1.IsWhole) (a2 : Memref sig .tc .vmem S1x2048 .f32) (h2 : a2.IsWhole)
  (a3 : Memref sig .tc .vmem S1x1x2048 .f32) (h3 : a3.IsWhole) (a4 : Memref sig .tc .vmem S1x1x2048 .f32) (h4 : a4.IsWhole)
  (a6 : Memref sig .tc .vmem S1024x128 .f32) (h6 : a6.IsWhole) (a7 : Memref sig .tc .vmem S1024x128 .f32) (h7 : a7.IsWhole)
  (a8 : Memref sig .tc .vmem S1024x128 .f32) (h8 : a8.IsWhole) (a9 : Memref sig .tc .vmem S1024x1024 .bf16) (h9 : a9.IsWhole)
  (a10 : Memref sig .tc .vmem S1024x2048 .bf16) (h10 : a10.IsWhole) (a11 : Memref sig .tc .vmem S1024x1024 .f32) (h11 : a11.IsWhole)
  (x0 : Vec F S1024x2048 .f32) (x1 : Vec F S1x2048 .f32) (x2 x3 : Vec F S1x1x2048 .f32) (x4 x5 x6 : Vec F S1024x128 .f32)
  (hv : Vec F S1024x2048 .bf16) (uv : Vec F S1024x1024 .f32) (w : Cont (F := F) c wBuf)

/-- Every point stores the whole of its output block, -/
theorem out_cover : ∀ y, ∃ p ∈ (stores c t a1 h1 a2 h2 a3 h3 a4 h4 a6 h6 a7 h7 a8 h8 a9 h9 a10 h10 a11 h11 x0 x1 x2 x3 x4 x5 x6 hv uv w).1, y ∈ p.1.set := by
  unfold stores
  split_ifs
  · exact View.cover_of_tiledL _ S64x1024.size (by sl_kernel_rfl)
  · exact View.cover_of_tiledL _ S64x1024.size (by sl_kernel_rfl)
  · exact View.cover_of_tiledL _ S64x128.size (by sl_kernel_rfl)
  · exact View.cover_of_tiledL _ S64x1024.size (by sl_kernel_rfl)
  · exact View.cover_of_tiledL _ S64x1024.size (by sl_kernel_rfl)

/-- the whole of `u`, -/
theorem u_cover : ∀ y, ∃ p ∈ (stores c t a1 h1 a2 h2 a3 h3 a4 h4 a6 h6 a7 h7 a8 h8 a9 h9 a10 h10 a11 h11 x0 x1 x2 x3 x4 x5 x6 hv uv w).2.2, y ∈ p.1.set := by
  unfold stores
  split_ifs <;> exact View.cover_of_tiledL _ S512x1024.size (by sl_kernel_rfl)

/-- and of `h` the whole if it normalizes; -/
theorem h_cover (n : t.val % 10 = 0 ∧ t.val < 160) : ∀ y, ∃ p ∈ (stores c t a1 h1 a2 h2 a3 h3 a4 h4 a6 h6 a7 h7 a8 h8 a9 h9 a10 h10 a11 h11 x0 x1 x2 x3 x4 x5 x6 hv uv w).2.1, y ∈ p.1.set := by
  unfold stores
  split_ifs <;> exact View.cover_of_tiledL _ S16x2048.size (by sl_kernel_rfl)

/-- otherwise nothing. -/
theorem h_none (n : ¬(t.val % 10 = 0 ∧ t.val < 160)) : (stores c t a1 h1 a2 h2 a3 h3 a4 h4 a6 h6 a7 h7 a8 h8 a9 h9 a10 h10 a11 h11 x0 x1 x2 x3 x4 x5 x6 hv uv w).2.1 = [] := by
  unfold stores
  rw [dif_neg (show ¬t.val = 0 by omega), dif_neg n]
  split_ifs <;> rfl
end Cover

end Cert.Proof.Proj

end
-- ==== Proof.Proj.State.lean ====
/- What the points of `in_proj` leave, one after another. -/
module

public import proofs.«01_k».proof.Proof.Proj.Step

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
open Idealize.ShloMosaic.Pipeline (Dat Cfg Window BodyObligation cellOf)

theorem whole0 (t : Fin cfg0.N) : (st0_0 t).IsWhole := hstage0_0 ((cfg0.slots t 0).cast nbuf0_0)
theorem whole1 (t : Fin cfg0.N) : (st0_1 t).IsWhole := hstage0_1 ((cfg0.slots t 1).cast nbuf0_1)
theorem whole2 (t : Fin cfg0.N) : (st0_2 t).IsWhole := hstage0_2 ((cfg0.slots t 2).cast nbuf0_2)
theorem whole3 (t : Fin cfg0.N) : (st0_3 t).IsWhole := hstage0_3 ((cfg0.slots t 3).cast nbuf0_3)
theorem whole4 (t : Fin cfg0.N) : (st0_4 t).IsWhole := hstage0_4 ((cfg0.slots t 4).cast nbuf0_4)
theorem whole5 (t : Fin cfg0.N) : (st0_5 t).IsWhole := hstage0_5 ((cfg0.slots t 5).cast nbuf0_5)
theorem whole6 (t : Fin cfg0.N) : (st0_6 t).IsWhole := hstage0_6 ((cfg0.slots t 6).cast nbuf0_6)
theorem whole7 (t : Fin cfg0.N) : (st0_7 t).IsWhole := hstage0_7 ((cfg0.slots t 7).cast nbuf0_7)

/-- A list of stores read back. -/
def readBack {S : Shape} {e : EltTy} (v : View sig .tc .vmem S e) (L : List (View.Piece (Elt F) S e)) : Vec F S e :=
  v.read (Elt F) (v.writes (Elt F) v.junk L)
abbrev outView : View sig .tc .vmem S1024x1024 .bf16 := (Memref.whole cc0_stg7_0 : Memref sig .tc .vmem S1024x1024 .bf16).view

/-- What point `t` stores, from `h` and `u` as the point before left them. -/
abbrev storesAt (c : Dev nD) (t : Fin cfg0.N) (s : Vec F S1024x2048 .bf16 × Vec F S1024x1024 .f32) : Stores F :=
  stores c t (st0_0 t) (whole0 t) (st0_1 t) (whole1 t) (st0_2 t) (whole2 t) (st0_3 t) (whole3 t) (st0_4 t) (whole4 t) (st0_5 t) (whole5 t) (st0_6 t) (whole6 t) (st0_7 t) (whole7 t) hBuf (Memref.isWhole_whole _) uBuf (Memref.isWhole_whole _) (iblk m c 0 t) (iblk m c 1 t) (iblk m c 2 t) (iblk m c 3 t) (iblk m c 4 t) (iblk m c 5 t) (iblk m c 6 t) s.1 s.2 (V m c main_v3)

/-- `h` and `u` before point `k` (before the first, anything). -/
def state (c : Dev nD) : ℕ → Vec F S1024x2048 .bf16 × Vec F S1024x1024 .f32
  | 0 => (readBack hBuf.view [], readBack uBuf.view [])
  | k + 1 =>
    if h : k < cfg0.N then
      (if k % 10 = 0 ∧ k < 160 then readBack hBuf.view (storesAt m c ⟨k, h⟩ (state c k)).2.1 else (state c k).1,
        readBack uBuf.view (storesAt m c ⟨k, h⟩ (state c k)).2.2)
    else state c k

theorem state_succ (c : Dev nD) (t : Fin cfg0.N) :
    state m c (t.val + 1) = (if t.val % 10 = 0 ∧ t.val < 160 then readBack hBuf.view (storesAt m c t (state m c t.val)).2.1 else (state m c t.val).1,
      readBack uBuf.view (storesAt m c t (state m c t.val)).2.2) := by
  rw [state, dif_pos t.isLt]

/-- The block that point `t` leaves for the result. -/
def outAt (c : Dev nD) (t : Fin cfg0.N) : Vec F S1024x1024 .bf16 := readBack outView (storesAt m c t (state m c t.val)).1

/-- What is held before point `k`. -/
def Held (c : Dev nD) (k : ℕ) : sProp 𝕄 :=
  iprop((∃ d, owns (c : Thread nD τ) hBuf fullShare d ∗ ⌜k ≠ 0 → d = (state m c k).1⌝)
    ∗ (∃ d, owns (c : Thread nD τ) uBuf fullShare d ∗ ⌜k ≠ 0 → d = (state m c k).2⌝)
    ∗ (∃ r, prngReg c r) ∗ ringAt c (V m c main_v3) k)

/-- The data of the launch: the arrays as the launch finds them, and what each point leaves in each buffer. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Held m c t.val
  q _ := fullShare
  owed _ := 0

theorem A_eq (c : Dev nD) (w : Fin cfg0.W) : (dats m 0 c).A w = V m c (Pipeline.arrRef spec0 w) := by dsimp only [dats]
theorem start_eq (c : Dev nD) (t : Fin cfg0.N) : (dats m 0 c).Φ t.castSucc = Held m c t.val := by
  dsimp only [dats]; simp only [Fin.val_castSucc]
theorem end_eq (c : Dev nD) (t : Fin cfg0.N) : (dats m 0 c).Φ t.succ = Held m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

/-- A window that the body only reads holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0 m c]; unfold Dat.blockOf iblk; rw [A_eq m c 0]; try rfl) t d).trans
    (by unfold Dat.fetched Dat.blockOf iblk; rw [A_eq m c 0]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1 m c]; unfold Dat.blockOf iblk; rw [A_eq m c 1]; try rfl) t d).trans
    (by unfold Dat.fetched Dat.blockOf iblk; rw [A_eq m c 1]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2 m c]; unfold Dat.blockOf iblk; rw [A_eq m c 2]; try rfl) t d).trans
    (by unfold Dat.fetched Dat.blockOf iblk; rw [A_eq m c 2]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3 m c]; unfold Dat.blockOf iblk; rw [A_eq m c 3]; try rfl) t d).trans
    (by unfold Dat.fetched Dat.blockOf iblk; rw [A_eq m c 3]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4 m c]; unfold Dat.blockOf iblk; rw [A_eq m c 4]; try rfl) t d).trans
    (by unfold Dat.fetched Dat.blockOf iblk; rw [A_eq m c 4]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5 m c]; unfold Dat.blockOf iblk; rw [A_eq m c 5]; try rfl) t d).trans
    (by unfold Dat.fetched Dat.blockOf iblk; rw [A_eq m c 5]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6 m c]; unfold Dat.blockOf iblk; rw [A_eq m c 6]; try rfl) t d).trans
    (by unfold Dat.fetched Dat.blockOf iblk; rw [A_eq m c 6]; try rfl)

set_option maxHeartbeats 800000 in
/-- The host operations bring the launch to its arrays. -/
theorem arrays (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- What the launch hands the points. -/
theorem handed (c : Dev nD) :
    (Pipeline.ΦD sems spec0 copied (V m) c : sProp 𝕄)
      = iprop(((∃ d, owns (c : Thread nD τ) hBuf fullShare d) ∗ (∃ d, owns (c : Thread nD τ) uBuf fullShare d) ∗ (∃ d, owns (c : Thread nD τ) slots fullShare d))
        ∗ (∃ r, prngReg c r) ∗ (semVal ((c : Thread nD τ), SemLoc.dma 15) 0 ∗ semVal ((c : Thread nD τ), SemLoc.dma 16) 0 ∗ semVal ((c : Thread nD τ), SemLoc.dma 17) 0)
        ∗ held c wBuf (V m c main_v3)) := by
  have hb : (bigSep copied (fun b => ((c : Thread nD τ).loc b) ↦{fullShare} V m c b) : sProp 𝕄) = held c wBuf (V m c main_v3) := by
    unfold copied; rw [BI.bigSep_eq_bigSepL_of_eq [main_v3] (by decide) (by decide)]; rfl
  rw [Pipeline.ΦD_eq, scopedRest0_eq, semsAtZero, hb]; simp only [hBuf, uBuf, slots, owns_whole]; try rfl

end Cert.Proof.Proj

end
-- ==== Proof.Proj.Point.lean ====
/- The body of `in_proj` at every point, and the run of the whole call. -/
module

public import proofs.«01_k».proof.Proof.Proj.State

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
open Idealize.ShloMosaic.Pipeline (Dat Cfg Window BodyObligation cellOf)

section Slots
variable (c : Dev nD) (w : Cont (F := F) c wBuf)

/-- What a point leaves alone of the slots. -/
def aside (k : ℕ) : sProp 𝕄 :=
  if k = 0 then iprop(emp) else if k + 2 < 161 then Ring.inflight (flightW c w) (Ring.sl 3 (k + 1)) (Ring.bk 161 (k + 1))
  else iprop(Ring.slotAt 2 (cellP c) (slotW c w) (flightW c w) k 1 ∗ Ring.free (cellP c) (slotW c w) (Ring.sl 3 (k + 2)))

/-- The slots before a point are those it takes and those it leaves alone; -/
theorem slots_take (k : ℕ) (hk : k < 161) : ringAt c w k ⊢ iprop(slotsPre c w k ∗ aside c w k) := by
  unfold ringAt slotsPre aside
  by_cases z : k = 0
  · rw [if_pos z, if_pos z, if_pos z, Ring.At₀_eq3' _ _ _ k z (by decide : 3 ≤ 161)]
    iintro ⟨-, H⟩
    isplitl [H]; · iexact H
    exact Idealize.SL.BI.Entails.refl _
  rw [if_neg z, if_neg z, if_neg z]
  by_cases b : k + 2 < 161
  · rw [if_pos b, if_pos b, Ring.At3_here _ _ _ _ k b]
    iintro ⟨-, H0, H1, H2⟩
    isplitl [H0 H2]
    · isplitl [H0]; · iexact H0
      iexact H2
    iexact H1
  · rw [if_neg b, if_neg b, Ring.At3_here_tail _ _ _ _ k hk]
    iintro ⟨-, H0, H1, H2⟩
    isplitl [H0]; · iexact H0
    isplitl [H1]; · iexact H1
    iexact H2

/-- and afterwards the slots before the next point. -/
theorem slots_give (k : ℕ) (hk : k < 161) : iprop(slotsPost c w k ∗ aside c w k) ⊢ ringAt c w (k + 1) := by
  unfold ringAt slotsPost aside
  rw [if_neg (Nat.succ_ne_zero k)]
  by_cases z : k = 0
  · rw [if_pos z, if_pos z, Ring.At3_one' _ _ _ _ k z (by decide : 3 ≤ 161)]
    iintro ⟨⟨H0, H1, H2⟩, -⟩
    iapply (Ring.with_homes (Idealize.SL.BI.Entails.refl _))
    isplitl [H0]; · iexact H0
    isplitl [H1]; · iexact H1
    iexact H2
  rw [if_neg z, if_neg z]
  by_cases b : k + 2 < 161
  · rw [if_pos b, if_pos b, Ring.At3_next _ _ _ _ k b, Ring.slotAt3_next0 _ _ _ k (by omega), Ring.slotAt3_next1 _ _ _ k b]
    iintro ⟨⟨H0, H1⟩, H2⟩
    iapply (Ring.with_homes (Idealize.SL.BI.Entails.refl _))
    isplitl [H2]; · iexact H2
    isplitl [H0]; · iexact H0
    iexact H1
  · rw [if_neg b, if_neg b, Ring.At3_next_tail _ _ _ _ k (by omega) hk, Ring.slotAt3_tail_role _ _ _ k]
    iintro ⟨H0, H1, H2⟩
    iapply (Ring.with_homes (Idealize.SL.BI.Entails.refl _))
    isplitl [H1]; · iexact H1
    isplitl [H2]; · iexact H2
    iexact H0
end Slots

/-- What point `t` is handed, and what it hands back. -/
def Before (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def After (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- A scratch buffer after a point. -/
theorem after_stores (c : Dev nD) {S : Shape} {e : EltTy} (M : Memref sig .tc .vmem S e) (v : View sig .tc .vmem S e) (f : BufTy.Contents (Elt F) M.view.ty)
    (L : List (View.Piece (Elt F) S e)) (hL : ∀ y, ∃ p ∈ L, y ∈ p.1.set) :
    at_ (F := F) c M (M.view.writes (Elt F) f L) ⊢ owns (c : Thread nD τ) M fullShare (readBack v L) := by
  unfold owns readBack
  iintro H
  iexists _; isplitr
  swap; · iexact H
  ipureintro; exact View.read_writes_of_cover _ _ _ _ _ hL

set_option maxHeartbeats 4000000 in
/-- The body at any point. -/
theorem point (c : Dev nD) (t : Fin cfg0.N) :
    Before m c t ⊢ wp frame (wpE (defs₀ (F := F)) Variants.none c none) Set.univ (bodyAt0 t) (fun _ => After m c t) := by
  have hk := lt_points t
  unfold Before After bodyAt0
  simp only [before0, before1, before2, before3, before4, before5, before6]
  rw [after0, after1, after2, after3, after4, after5, after6, after7, start_eq m c t, end_eq m c t]
  unfold Dat.owesAt Pipeline.owesWithin
  rw [show (dats m 0 c).owed t.castSucc = 0 from rfl, show (dats m 0 c).owed t.succ = 0 from rfl]
  unfold Held
  iintro ⟨⟨⟨%dh, Hh, %eh⟩, ⟨%du, Hu, %eu⟩, Hg, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  ihave HR' := (slots_take (F := F) c (V m c main_v3) t.val hk) $$ HR
  icases HR' with ⟨HR, HA⟩
  ihave H0 := (owns_eq_at (F := F) c _ (whole0 t) _).1 $$ H0
  ihave H1 := (owns_eq_at (F := F) c _ (whole1 t) _).1 $$ H1
  ihave H2 := (owns_eq_at (F := F) c _ (whole2 t) _).1 $$ H2
  ihave H3 := (owns_eq_at (F := F) c _ (whole3 t) _).1 $$ H3
  ihave H4 := (owns_eq_at (F := F) c _ (whole4 t) _).1 $$ H4
  ihave H5 := (owns_eq_at (F := F) c _ (whole5 t) _).1 $$ H5
  ihave H6 := (owns_eq_at (F := F) c _ (whole6 t) _).1 $$ H6
  ihave H7 := (owns_eq_at (F := F) c _ (whole7 t) _).1 $$ H7
  ihave Hh := (owns_eq_at (F := F) c _ (Memref.isWhole_whole _) _).1 $$ Hh
  ihave Hu := (owns_eq_at (F := F) c _ (Memref.isWhole_whole _) _).1 $$ Hu
  iapply (body_any c t (st0_0 t) (whole0 t) (st0_1 t) (whole1 t) (st0_2 t) (whole2 t) (st0_3 t) (whole3 t) (st0_4 t) (whole4 t) (st0_5 t) (whole5 t) (st0_6 t) (whole6 t) (st0_7 t) (whole7 t) hBuf (Memref.isWhole_whole _) uBuf (Memref.isWhole_whole _) (iblk m c 0 t) (iblk m c 1 t) (iblk m c 2 t) (iblk m c 3 t) (iblk m c 4 t) (iblk m c 5 t) (iblk m c 6 t) (state m c t.val).1 (state m c t.val).2 (V m c main_v3) _ _
    (fun z => congrArg _ (eh z)) (fun z => congrArg _ (eu z)) W _ _)
  isplitl [H0 H1 H2 H3 H4 H5 H6]
  · unfold Ins
    isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [Hh]; · iexact Hh
  isplitl [Hu]; · iexact Hu
  isplitl [HR]; · iexact HR
  isplitl [HW]; · iexact HW
  unfold Ins
  iintro ⟨⟨H0, H1, H2, H3, H4, H5, H6⟩, H7, Hh, ⟨%f, Hu⟩, HR, ⟨%W', HW'⟩⟩
  ihave HR := (slots_give (F := F) c (V m c main_v3) t.val hk) $$ [HR HA]
  · isplitl [HR]; · iexact HR
    iexact HA
  ihave Hu := (after_stores (F := F) c _ uBuf.view _ _ (u_cover c t _ _ _ _ _ _ _ _ _ _ _ _ _ _ _ _ _ _ _ _ _ _ _ _ _ _ _ _ _ _)) $$ Hu
  ihave H7 := (after_stores (F := F) c _ outView _ _ (out_cover c t _ _ _ _ _ _ _ _ _ _ _ _ _ _ _ _ _ _ _ _ _ _ _ _ _ _ _ _ _ _)) $$ H7
  isplitl [Hh Hu Hg HR]
  · isplitl [Hh]
    · by_cases n : t.val % 10 = 0 ∧ t.val < 160
      · ihave Hh := (after_stores (F := F) c _ hBuf.view _ _ (h_cover c t _ _ _ _ _ _ _ _ _ _ _ _ _ _ _ _ _ _ _ _ _ _ _ _ _ _ _ _ _ _ n)) $$ Hh
        iexists _; isplitl [Hh]; · iexact Hh
        ipureintro; intro _; rw [state_succ]; exact (if_pos n).symm
      · rw [h_none c t _ _ _ _ _ _ _ _ _ _ _ _ _ _ _ _ _ _ _ _ _ _ _ _ _ _ _ _ _ _ n]
        iexists dh; isplitl [Hh]
        · iapply (owns_eq_at (F := F) c _ (Memref.isWhole_whole _) _).2; iexact Hh
        ipureintro; intro _; rw [state_succ]; exact (eh (by rintro z; exact n (by omega))).trans (if_neg n).symm
    isplitl [Hu]
    · iexists _; isplitl [Hu]; · iexact Hu
      ipureintro; intro _; rw [state_succ]
    isplitl [Hg]; · iexact Hg
    iexact HR
  isplitl [HW']
  · iexists W'; isplitr; · ipureintro; exact fun _ _ => Or.inl trivial
    iexact HW'
  isplitl [H0]; · iapply (owns_eq_at (F := F) c _ (whole0 t) _).2; iexact H0
  isplitl [H1]; · iapply (owns_eq_at (F := F) c _ (whole1 t) _).2; iexact H1
  isplitl [H2]; · iapply (owns_eq_at (F := F) c _ (whole2 t) _).2; iexact H2
  isplitl [H3]; · iapply (owns_eq_at (F := F) c _ (whole3 t) _).2; iexact H3
  isplitl [H4]; · iapply (owns_eq_at (F := F) c _ (whole4 t) _).2; iexact H4
  isplitl [H5]; · iapply (owns_eq_at (F := F) c _ (whole5 t) _).2; iexact H5
  isplitl [H6]; · iapply (owns_eq_at (F := F) c _ (whole6 t) _).2; iexact H6
  iexact H7

theorem defs₀_row (t : Fin cfg0.N) : defs₀ (F := F) .tc cfg0.body (cfg0.bodyArgs t (cfg0.slots t)) = bodyAt0 t := by
  unfold defs₀; rw [Defs.onTc_tc]

/-- Every point stores its output block. -/
theorem busy (t : Fin cfg0.N) : cfg0.idle 7 (cfg0.grid.coords t) = false := by
  show (!(k0_cond5 (grid0.coords t) == 1#1) && !(k0_cond6 (grid0.coords t) == 1#1)) = false
  by_cases r : t.val % 10 = 4 ∨ t.val % 10 = 5
  · rw [(ropes t).2 r]; rfl
  · rw [(casts t).2 (by omega)]; simp

theorem points_ok (c : Dev nD) : BodyObligation (dats (F := F) m 0 c) (defs₀ (F := F)) Variants.none () Set.univ := fun t => by
  rw [bigSep_W0, bigSep_W0, defs₀_row]
  refine triple_restated (point m c t) rfl .rfl fun _ => ?_
  dsimp only
  rw [show idle0 7 (grid0.coords t) = false from busy t]
  exact Idealize.SL.BI.Entails.refl _

/-- What the launch hands over is what is held before the first point, -/
theorem hin (c : Dev nD) : Pipeline.ΦD sems spec0 copied (V m) c ⊢ (dats m 0 c).Φ 0 := by
  rw [handed, show (dats m 0 c).Φ 0 = Held m c 0 from rfl]
  unfold Held
  iintro ⟨⟨⟨%dh, Hh⟩, ⟨%du, Hu⟩, Hs⟩, Hg, Hq, Hw⟩
  isplitl [Hh]
  · iexists dh; isplitl [Hh]; · iexact Hh
    ipureintro; exact fun h => absurd rfl h
  isplitl [Hu]
  · iexists du; isplitl [Hu]; · iexact Hu
    ipureintro; exact fun h => absurd rfl h
  isplitl [Hg]; · iexact Hg
  iapply (ring_in (F := F) c (V m c main_v3))
  isplitl [Hs]; · iexact Hs
  isplitl [Hq]; · iexact Hq
  iexact Hw
/-- and what is held after the last point goes back. -/
theorem hout (c : Dev nD) : (dats m 0 c).Φ (Fin.last cfg0.N) ⊢ Pipeline.ΦD sems spec0 copied (V m) c := by
  rw [handed, show (dats m 0 c).Φ (Fin.last cfg0.N) = Held m c grid0.N from rfl, show grid0.N = 161 by rw [N_0]]
  unfold Held
  iintro ⟨⟨%dh, Hh, -⟩, ⟨%du, Hu, -⟩, Hg, HR⟩
  ihave HX := (ring_out (F := F) c (V m c main_v3)) $$ HR
  icases HX with ⟨Hs, Hq, Hw⟩
  isplitl [Hh Hu Hs]
  · isplitl [Hh]; · iexists dh; iexact Hh
    isplitl [Hu]; · iexists du; iexact Hu
    iexact Hs
  isplitl [Hg]; · iexact Hg
  isplitl [Hq]; · iexact Hq
  iexact Hw

set_option backward.isDefEq.respectTransparency.types false in
/-- The run of the whole call, for any values: it ends, with every array at what the points left and every semaphore at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 sems defs₀ Variants.none semFacts copied copied_sub m ρ main
    (hbody := fun c => (points_ok m c).loose) (hshare := fun c => (dats m 0 c).share_full fun _ => rfl)
    (howed := fun _ _ => rfl) (V := V m) (hmain := arrays m Variants.none) (hA := A_eq m)
    (hin := hin m) (hout := hout m)

/-- The arguments end as they began. -/
theorem kept (r) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c)⟩

/-- The call ends with its arguments as they were and its semaphores at zero. -/
theorem run_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (run m ρ)

end Cert.Proof.Proj

end
-- ==== Proof.Proj.Claims.lean ====
/- The claims of the call stated as `Proj`. -/
module

public import proofs.«01_k».proof.Defs
public import proofs.«01_k».proof.Proof.Proj.Setup
public import proofs.«01_k».proof.Proof.Proj.Point
public import Idealize.ShloMosaic.Lib.Claim

@[expose] public section

set_option maxRecDepth 16384

noncomputable section

namespace Cert.Proof.Proj

open Idealize.ShloMosaic Idealize.SL.Sem

theorem frame_ki : quiescent_ProjIdeal := fun m g _ => run_kept m g

/-- The program on words is the same text, so the same run serves it. -/
theorem frame_k : quiescent_Proj := fun m g _ => Eq.mp (by sl_kernel_rfl) (run_kept (F := Bits) m g)

theorem frame_ri : quiescent_ProjRefIdeal := fun m g _ =>
  (θ_run Cert.ProjRefIdeal.defs _ _).mono (fun r h => ⟨fun c => (h c).2, sem_eq_zero_of_no_sems (by decide) r.2⟩)
    (Cert.ProjRefIdeal.Value.run (F := Ideal) m g)

end Cert.Proof.Proj

end
-- ==== Proof.lean ====
/- The certificate: the claims of each program are proved in the modules below `Proof/`, and assembled here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Diff.Claims
public import proofs.«01_k».proof.Proof.Down.Claims
public import proofs.«01_k».proof.Proof.Merge.Claims
public import proofs.«01_k».proof.Proof.Up.Claims
public import proofs.«01_k».proof.Proof.Proj.Claims
public import Idealize.ShloMosaic.Adequacy
public import Idealize.ShloMosaic.Init

@[expose] public section

noncomputable section

namespace Cert.Proof

/-- Every claim of the certificate. -/
theorem claim : Cert.Claim := ⟨Cert.Kernel.Gen.facts, Cert.KernelIdeal.Gen.facts, Cert.ReferenceIdeal.Gen.facts,
  Cert.Down.Gen.facts, Cert.DownIdeal.Gen.facts, Cert.DownRefIdeal.Gen.facts,
  Cert.Merge.Gen.facts, Cert.MergeIdeal.Gen.facts, Cert.MergeRefIdeal.Gen.facts,
  Cert.Up.Gen.facts, Cert.UpIdeal.Gen.facts, Cert.UpRefIdeal.Gen.facts,
  Cert.Proj.Gen.facts, Cert.ProjIdeal.Gen.facts, Cert.ProjRefIdeal.Gen.facts, Cert.Pre_finite.Gen.facts,
  Diff.frame_k, Diff.frame_ki, Diff.frame_ki_pre, Diff.frame_ri, Diff.frame_ri_pre,
  Down.frame_k, Down.frame_ki, Down.frame_ri, Merge.frame_k, Merge.frame_ki, Merge.frame_ri,
  Up.frame_k, Up.frame_ki, Up.frame_ri, Proj.frame_k, Proj.frame_ki, Proj.frame_ri,
  trivial, Diff.algebraic, trivial, Down.algebraic, trivial, Merge.algebraic, trivial, Up.algebraic, trivial⟩

end Cert.Proof

end
